-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)) →
    ∃ (v0 : (c : Dev Cert.TailIdeal.nD) → Buf (Elt Ideal) ((c.tc : Thread Cert.TailIdeal.nD Cert.TailIdeal.τ).loc Cert.TailIdeal.main_v6_0)) (v1 : (c : Dev Cert.TailIdeal.nD) → Buf (Elt Ideal) ((c.tc : Thread Cert.TailIdeal.nD Cert.TailIdeal.τ).loc Cert.TailIdeal.main_v6_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6_0) = v0 c
          ∧ r.2.mem ((c.tc : Thread Cert.TailIdeal.nD Cert.TailIdeal.τ).loc Cert.TailIdeal.main_v6_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v7_0) = v0 c
          ∧ r.2.mem ((c.tc : Thread Cert.TailRefIdeal.nD Cert.TailRefIdeal.τ).loc Cert.TailRefIdeal.main_v7_1) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)
      ∧ m' ((c.tc : Thread Cert.HeadRefIdeal.nD Cert.HeadRefIdeal.τ).loc Cert.HeadRefIdeal.main_arg10) = m ((c.tc : Thread Cert.HeadIdeal.nD Cert.HeadIdeal.τ).loc Cert.HeadIdeal.main_arg10)) →
    ∃ (v0 : (c : Dev Cert.HeadIdeal.nD) → Buf (Elt Ideal) ((c.tc : Thread Cert.HeadIdeal.nD Cert.HeadIdeal.τ).loc Cert.HeadIdeal.main_v4_0)) (v1 : (c : Dev Cert.HeadIdeal.nD) → Buf (Elt Ideal) ((c.tc : Thread Cert.HeadIdeal.nD Cert.HeadIdeal.τ).loc Cert.HeadIdeal.main_v4_1)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v4_0) = v0 c
          ∧ r.2.mem ((c.tc : Thread Cert.HeadIdeal.nD Cert.HeadIdeal.τ).loc Cert.HeadIdeal.main_v4_1) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v4_0) = v0 c
          ∧ r.2.mem ((c.tc : Thread Cert.HeadRefIdeal.nD Cert.HeadRefIdeal.τ).loc Cert.HeadRefIdeal.main_v4_1) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9)
          ∧ r.2.mem ((c.tc : Thread Cert.HeadRefIdeal.nD Cert.HeadRefIdeal.τ).loc Cert.HeadRefIdeal.main_arg10) = m' ((c.tc : Thread Cert.HeadRefIdeal.nD Cert.HeadRefIdeal.τ).loc Cert.HeadRefIdeal.main_arg10))

def Claim : Prop :=
  ∃ (hTail : Cert.Tail.Facts) (hTailIdeal : Cert.TailIdeal.Facts) (hTailRefIdeal : Cert.TailRefIdeal.Facts) (hHead : Cert.Head.Facts) (hHeadIdeal : Cert.HeadIdeal.Facts) (hHeadRefIdeal : Cert.HeadRefIdeal.Facts),
    quiescent_Tail (hTail := hTail)
    ∧ quiescent_TailIdeal (hTailIdeal := hTailIdeal)
    ∧ quiescent_TailRefIdeal (hTailRefIdeal := hTailRefIdeal)
    ∧ quiescent_Head (hHead := hHead)
    ∧ quiescent_HeadIdeal (hHeadIdeal := hHeadIdeal)
    ∧ quiescent_HeadRefIdeal (hHeadRefIdeal := hHeadRefIdeal)
    ∧ preserves_Tail_TailIdeal
    ∧ algebraic_TailIdeal_TailRefIdeal (hTailIdeal := hTailIdeal) (hTailRefIdeal := hTailRefIdeal)
    ∧ preserves_Head_HeadIdeal
    ∧ algebraic_HeadIdeal_HeadRefIdeal (hHeadIdeal := hHeadIdeal) (hHeadRefIdeal := hHeadRefIdeal)
-- ==== Tail.lean ====
abbrev S28x384x1024 : Shape := ⟨3, ![28, 384, 1024]⟩
abbrev S28 : Shape := ⟨1, ![28]⟩
abbrev S28x384x32 : Shape := ⟨3, ![28, 384, 32]⟩
abbrev S1024x1024 : Shape := ⟨2, ![1024, 1024]⟩
abbrev S1024 : Shape := ⟨1, ![1024]⟩
abbrev S1024x192 : Shape := ⟨2, ![1024, 192]⟩
abbrev S192 : Shape := ⟨1, ![192]⟩
abbrev S192x1024 : Shape := ⟨2, ![192, 1024]⟩
abbrev S1x1024 : Shape := ⟨2, ![1, 1024]⟩
abbrev S1x192 : Shape := ⟨2, ![1, 192]⟩
abbrev S28x1024 : Shape := ⟨2, ![28, 1024]⟩
abbrev S1x384x1024 : Shape := ⟨3, ![1, 384, 1024]⟩
abbrev S1x384x32 : Shape := ⟨3, ![1, 384, 32]⟩
abbrev S8x384x128 : Shape := ⟨3, ![8, 384, 128]⟩
abbrev S192x128 : Shape := ⟨2, ![192, 128]⟩
abbrev S128x128 : Shape := ⟨2, ![128, 128]⟩
abbrev S128x64 : Shape := ⟨2, ![128, 64]⟩
abbrev S64x128 : Shape := ⟨2, ![64, 128]⟩
abbrev S1x128 : Shape := ⟨2, ![1, 128]⟩
abbrev S1x64 : Shape := ⟨2, ![1, 64]⟩
abbrev S1 : Shape := ⟨1, ![1]⟩
abbrev S1x384x1 : Shape := ⟨3, ![1, 384, 1]⟩
abbrev S384x1 : Shape := ⟨2, ![384, 1]⟩
abbrev S384x32 : Shape := ⟨2, ![384, 32]⟩
abbrev S384x128 : Shape := ⟨2, ![384, 128]⟩
abbrev S1x384x128 : Shape := ⟨3, ![1, 384, 128]⟩
abbrev S384x1024 : Shape := ⟨2, ![384, 1024]⟩
abbrev S1024x256 : Shape := ⟨2, ![1024, 256]⟩
abbrev S384x256 : Shape := ⟨2, ![384, 256]⟩
abbrev S1x256 : Shape := ⟨2, ![1, 256]⟩
abbrev S128 : Shape := ⟨1, ![128]⟩
abbrev S192x1 : Shape := ⟨2, ![192, 1]⟩

abbrev nBuf : Space → Nat
  | .hbm => 20
  | .vmem => 22
  | .smem => 1
  | _ => 0

abbrev bufTy : (tb : Table) → Fin (tcTables nBuf tb) → BufTy
  | .hbm, ⟨0, _⟩ => ⟨S28x384x1024, .bf16⟩
  | .hbm, ⟨1, _⟩ => ⟨S28x384x1024, .fp8e4m3⟩
  | .hbm, ⟨2, _⟩ => ⟨S28x384x32, .f32⟩
  | .hbm, ⟨3, _⟩ => ⟨S1024x1024, .fp8e4m3⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x192, .f32⟩
  | .hbm, ⟨9, _⟩ => ⟨S192, .f32⟩
  | .hbm, ⟨10, _⟩ => ⟨S192x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x192, .f32⟩
  | .hbm, ⟨17, _⟩ => ⟨S1x1024, .f32⟩
  | .hbm, ⟨18, _⟩ => ⟨S28x384x1024, .bf16⟩
  | .hbm, ⟨19, _⟩ => ⟨S28x1024, .f32⟩
  | .local _ .vmem, ⟨0, _⟩ => ⟨S1x384x1024, .bf16⟩
  | .local _ .vmem, ⟨1, _⟩ => ⟨S1x384x1024, .bf16⟩
  | .local _ .vmem, ⟨2, _⟩ => ⟨S1x384x1024, .fp8e4m3⟩
  | .local _ .vmem, ⟨3, _⟩ => ⟨S1x384x1024, .fp8e4m3⟩
  | .local _ .vmem, ⟨4, _⟩ => ⟨S1x384x32, .f32⟩
  | .local _ .vmem, ⟨5, _⟩ => ⟨S1x384x32, .f32⟩
  | .local _ .vmem, ⟨6, _⟩ => ⟨S1024x1024, .fp8e4m3⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x192, .f32⟩
  | .local _ .vmem, ⟨12, _⟩ => ⟨S1x192, .f32⟩
  | .local _ .vmem, ⟨13, _⟩ => ⟨S192x1024, .f32⟩
  | .local _ .vmem, ⟨14, _⟩ => ⟨S1x1024, .f32⟩
  | .local _ .vmem, ⟨15, _⟩ => ⟨S1x384x1024, .bf16⟩
  | .local _ .vmem, ⟨16, _⟩ => ⟨S1x384x1024, .bf16⟩
  | .local _ .vmem, ⟨17, _⟩ => ⟨S28x1024, .f32⟩
  | .local _ .vmem, ⟨18, _⟩ => ⟨S8x384x128, .bf16⟩
  | .local _ .vmem, ⟨19, _⟩ => ⟨S8x384x128, .f32⟩
  | .local _ .vmem, ⟨20, _⟩ => ⟨S192x1024, .f32⟩
  | .local _ .vmem, ⟨21, _⟩ => ⟨S192x128, .f32⟩
  | .local _ .smem, ⟨0, _⟩ => ⟨S28, .i32⟩
  | _, _ => ⟨S28x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17

abbrev nD : Nat := 1
abbrev τ : Topo := Topo.v7x

variable {F : FTy → Type} [FloatOps F]

abbrev grid0 : Pipeline.Grid := ⟨1, ![28], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_off2 (i : grid0.Coords) : Fin 2 → Nat :=
  let arg0 : BitVec 32 := BitVec.ofNat 32 (i 0).val
  let v504 : Index := Scalar.indexCast arg0
  let c0_321 : Index := 0#32
  ![v504.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x384x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S28x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== TailRefIdeal.lean ====
abbrev S28x384x1024 : Shape := ⟨3, ![28, 384, 1024]⟩
abbrev S28 : Shape := ⟨1, ![28]⟩
abbrev S28x384x32 : Shape := ⟨3, ![28, 384, 32]⟩
abbrev S1024x1024 : Shape := ⟨2, ![1024, 1024]⟩
abbrev S1024 : Shape := ⟨1, ![1024]⟩
abbrev S1024x192 : Shape := ⟨2, ![1024, 192]⟩
abbrev S192 : Shape := ⟨1, ![192]⟩
abbrev S192x1024 : Shape := ⟨2, ![192, 1024]⟩
abbrev S28x1 : Shape := ⟨2, ![28, 1]⟩
abbrev S1x1024 : Shape := ⟨2, ![1, 1024]⟩
abbrev S1x192 : Shape := ⟨2, ![1, 192]⟩
abbrev S28x1024 : Shape := ⟨2, ![28, 1024]⟩
abbrev S28x384x32x32 : Shape := ⟨4, ![28, 384, 32, 32]⟩
abbrev S28x384x32x1 : Shape := ⟨4, ![28, 384, 32, 1]⟩
abbrev S10752x1024 : Shape := ⟨2, ![10752, 1024]⟩
abbrev S28x1x1 : Shape := ⟨3, ![28, 1, 1]⟩
abbrev S28x192 : Shape := ⟨2, ![28, 192]⟩
abbrev S28x1x1024 : Shape := ⟨3, ![28, 1, 1024]⟩

abbrev nBuf : Space → Nat
  | .hbm => 22
  | .vmem => 15
  | .smem => 0
  | _ => 0

abbrev bufTy : (tb : Table) → Fin (tcTables nBuf tb) → BufTy
  | .hbm, ⟨0, _⟩ => ⟨S28x384x1024, .bf16⟩
  | .hbm, ⟨1, _⟩ => ⟨S28, .i32⟩
  | .hbm, ⟨2, _⟩ => ⟨S28x384x1024, .fp8e4m3⟩
  | .hbm, ⟨3, _⟩ => ⟨S28x384x32, .f32⟩
  | .hbm, ⟨4, _⟩ => ⟨S1024x1024, .fp8e4m3⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x192, .f32⟩
  | .hbm, ⟨10, _⟩ => ⟨S192, .f32⟩
  | .hbm, ⟨11, _⟩ => ⟨S192x1024, .f32⟩
  | .hbm, ⟨12, _⟩ => ⟨S1024, .f32⟩
  | .hbm, ⟨13, _⟩ => ⟨S28x1, .i32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x192, .f32⟩
  | .hbm, ⟨19, _⟩ => ⟨S1x1024, .f32⟩
  | .hbm, ⟨20, _⟩ => ⟨S28x384x1024, .bf16⟩
  | .hbm, ⟨21, _⟩ => ⟨S28x1024, .f32⟩
  | .local _ .vmem, ⟨0, _⟩ => ⟨S28x1, .i32⟩
  | .local _ .vmem, ⟨1, _⟩ => ⟨S28x384x1024, .bf16⟩
  | .local _ .vmem, ⟨2, _⟩ => ⟨S28x384x1024, .fp8e4m3⟩
  | .local _ .vmem, ⟨3, _⟩ => ⟨S28x384x32, .f32⟩
  | .local _ .vmem, ⟨4, _⟩ => ⟨S1024x1024, .fp8e4m3⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x192, .f32⟩
  | .local _ .vmem, ⟨10, _⟩ => ⟨S1x192, .f32⟩
  | .local _ .vmem, ⟨11, _⟩ => ⟨S192x1024, .f32⟩
  | .local _ .vmem, ⟨12, _⟩ => ⟨S1x1024, .f32⟩
  | .local _ .vmem, ⟨13, _⟩ => ⟨S28x384x1024, .bf16⟩
  | .local _ .vmem, ⟨14, _⟩ => ⟨S28x1024, .f32⟩
  | _, _ => ⟨S28x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S28x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28x384x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x384x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S192x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S28x384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S28x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Head.lean ====
abbrev S28x384x1024 : Shape := ⟨3, ![28, 384, 1024]⟩
abbrev S28x384x32 : Shape := ⟨3, ![28, 384, 32]⟩
abbrev S1024x1024 : Shape := ⟨2, ![1024, 1024]⟩
abbrev S1024 : Shape := ⟨1, ![1024]⟩
abbrev S7x3x128x128 : Shape := ⟨4, ![7, 3, 128, 128]⟩
abbrev S7x128 : Shape := ⟨2, ![7, 128]⟩
abbrev S1x1024 : Shape := ⟨2, ![1, 1024]⟩
abbrev S28x32x1024 : Shape := ⟨3, ![28, 32, 1024]⟩
abbrev S1x384x1024 : Shape := ⟨3, ![1, 384, 1024]⟩
abbrev S1x384x32 : Shape := ⟨3, ![1, 384, 32]⟩
abbrev S1x32x1024 : Shape := ⟨3, ![1, 32, 1024]⟩
abbrev S8x2x192x128 : Shape := ⟨4, ![8, 2, 192, 128]⟩
abbrev S2x224x128 : Shape := ⟨3, ![2, 224, 128]⟩
abbrev S7x512x256 : Shape := ⟨3, ![7, 512, 256]⟩
abbrev S32x128 : Shape := ⟨2, ![32, 128]⟩
abbrev S384x128 : Shape := ⟨2, ![384, 128]⟩
abbrev S128x128 : Shape := ⟨2, ![128, 128]⟩
abbrev S1x1x128x128 : Shape := ⟨4, ![1, 1, 128, 128]⟩
abbrev S128x256 : Shape := ⟨2, ![128, 256]⟩
abbrev S1x128x256 : Shape := ⟨3, ![1, 128, 256]⟩
abbrev S1x384x1 : Shape := ⟨3, ![1, 384, 1]⟩
abbrev S384x1 : Shape := ⟨2, ![384, 1]⟩
abbrev S384x32 : Shape := ⟨2, ![384, 32]⟩
abbrev S1x384x128 : Shape := ⟨3, ![1, 384, 128]⟩
abbrev S96x2x2x128 : Shape := ⟨4, ![96, 2, 2, 128]⟩
abbrev S96x1x2x128 : Shape := ⟨4, ![96, 1, 2, 128]⟩
abbrev S96x2x128 : Shape := ⟨3, ![96, 2, 128]⟩
abbrev S192x128 : Shape := ⟨2, ![192, 128]⟩
abbrev S1x1x192x128 : Shape := ⟨4, ![1, 1, 192, 128]⟩
abbrev S192x1024 : Shape := ⟨2, ![192, 1024]⟩
abbrev S1024x256 : Shape := ⟨2, ![1024, 256]⟩
abbrev S192x256 : Shape := ⟨2, ![192, 256]⟩
abbrev S1x256 : Shape := ⟨2, ![1, 256]⟩
abbrev S1x192x128 : Shape := ⟨3, ![1, 192, 128]⟩
abbrev S1x128 : Shape := ⟨2, ![1, 128]⟩
abbrev S2x128 : Shape := ⟨2, ![2, 128]⟩
abbrev S1x2x128 : Shape := ⟨3, ![1, 2, 128]⟩
abbrev S192x512 : Shape := ⟨2, ![192, 512]⟩
abbrev S1x512x256 : Shape := ⟨3, ![1, 512, 256]⟩
abbrev S512x256 : Shape := ⟨2, ![512, 256]⟩
abbrev S1x1x4x128 : Shape := ⟨4, ![1, 1, 4, 128]⟩
abbrev S4x128 : Shape := ⟨2, ![4, 128]⟩
abbrev S1x32x128 : Shape := ⟨3, ![1, 32, 128]⟩
abbrev S1x1x96x128 : Shape := ⟨4, ![1, 1, 96, 128]⟩
abbrev S96x128 : Shape := ⟨2, ![96, 128]⟩

abbrev nBuf : Space → Nat
  | .hbm => 17
  | .vmem => 23
  | .smem => 0
  | _ => 0

abbrev bufTy : (tb : Table) → Fin (tcTables nBuf tb) → BufTy
  | .hbm, ⟨0, _⟩ => ⟨S28x384x1024, .fp8e4m3⟩
  | .hbm, ⟨1, _⟩ => ⟨S28x384x32, .f32⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S7x3x128x128, .bf16⟩
  | .hbm, ⟨8, _⟩ => ⟨S7x128, .f32⟩
  | .hbm, ⟨9, _⟩ => ⟨S7x128, .f32⟩
  | .hbm, ⟨10, _⟩ => ⟨S7x128, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S28x32x1024, .f32⟩
  | .hbm, ⟨16, _⟩ => ⟨S28x384x1024, .f32⟩
  | .local _ .vmem, ⟨0, _⟩ => ⟨S1x384x1024, .fp8e4m3⟩
  | .local _ .vmem, ⟨1, _⟩ => ⟨S1x384x1024, .fp8e4m3⟩
  | .local _ .vmem, ⟨2, _⟩ => ⟨S1x384x32, .f32⟩
  | .local _ .vmem, ⟨3, _⟩ => ⟨S1x384x32, .f32⟩
  | .local _ .vmem, ⟨4, _⟩ => ⟨S1024x1024, .fp8e4m3⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S7x3x128x128, .bf16⟩
  | .local _ .vmem, ⟨10, _⟩ => ⟨S7x128, .f32⟩
  | .local _ .vmem, ⟨11, _⟩ => ⟨S7x128, .f32⟩
  | .local _ .vmem, ⟨12, _⟩ => ⟨S7x128, .f32⟩
  | .local _ .vmem, ⟨13, _⟩ => ⟨S1x32x1024, .f32⟩
  | .local _ .vmem, ⟨14, _⟩ => ⟨S1x32x1024, .f32⟩
  | .local _ .vmem, ⟨15, _⟩ => ⟨S1x384x1024, .f32⟩
  | .local _ .vmem, ⟨16, _⟩ => ⟨S1x384x1024, .f32⟩
  | .local _ .vmem, ⟨17, _⟩ => ⟨S8x2x192x128, .bf16⟩
  | .local _ .vmem, ⟨18, _⟩ => ⟨S8x2x192x128, .f32⟩
  | .local _ .vmem, ⟨19, _⟩ => ⟨S2x224x128, .bf16⟩
  | .local _ .vmem, ⟨20, _⟩ => ⟨S7x512x256, .bf16⟩
  | .local _ .vmem, ⟨21, _⟩ => ⟨S32x128, .f32⟩
  | .local _ .vmem, ⟨22, _⟩ => ⟨S384x128, .f32⟩
  | _, _ => ⟨S28x384x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![28], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x3x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S7x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S7x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x384x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== HeadRefIdeal.lean ====
abbrev S28x384x1024 : Shape := ⟨3, ![28, 384, 1024]⟩
abbrev S28x384x32 : Shape := ⟨3, ![28, 384, 32]⟩
abbrev S1024x1024 : Shape := ⟨2, ![1024, 1024]⟩
abbrev S1024 : Shape := ⟨1, ![1024]⟩
abbrev S7x3x128x128 : Shape := ⟨4, ![7, 3, 128, 128]⟩
abbrev S7x128 : Shape := ⟨2, ![7, 128]⟩
abbrev S1x1024 : Shape := ⟨2, ![1, 1024]⟩
abbrev S28x32x1024 : Shape := ⟨3, ![28, 32, 1024]⟩
abbrev S28x384x32x32 : Shape := ⟨4, ![28, 384, 32, 32]⟩
abbrev S28x384x32x1 : Shape := ⟨4, ![28, 384, 32, 1]⟩
abbrev S10752x1024 : Shape := ⟨2, ![10752, 1024]⟩
abbrev S28x384x128 : Shape := ⟨3, ![28, 384, 128]⟩
abbrev S28x1x128 : Shape := ⟨3, ![28, 1, 128]⟩
abbrev S28x388x128 : Shape := ⟨3, ![28, 388, 128]⟩
abbrev S10752x128 : Shape := ⟨2, ![10752, 128]⟩
abbrev S1x1x128x128 : Shape := ⟨4, ![1, 1, 128, 128]⟩
abbrev S128x128 : Shape := ⟨2, ![128, 128]⟩
abbrev S1x128 : Shape := ⟨2, ![1, 128]⟩
abbrev S28x16x1024 : Shape := ⟨3, ![28, 16, 1024]⟩

abbrev nBuf : Space → Nat
  | .hbm => 17
  | .vmem => 13
  | .smem => 0
  | _ => 0

abbrev bufTy : (tb : Table) → Fin (tcTables nBuf tb) → BufTy
  | .hbm, ⟨0, _⟩ => ⟨S28x384x1024, .fp8e4m3⟩
  | .hbm, ⟨1, _⟩ => ⟨S28x384x32, .f32⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S7x3x128x128, .bf16⟩
  | .hbm, ⟨8, _⟩ => ⟨S7x128, .f32⟩
  | .hbm, ⟨9, _⟩ => ⟨S7x128, .f32⟩
  | .hbm, ⟨10, _⟩ => ⟨S7x128, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S28x32x1024, .f32⟩
  | .hbm, ⟨16, _⟩ => ⟨S28x384x1024, .f32⟩
  | .local _ .vmem, ⟨0, _⟩ => ⟨S28x384x1024, .fp8e4m3⟩
  | .local _ .vmem, ⟨1, _⟩ => ⟨S28x384x32, .f32⟩
  | .local _ .vmem, ⟨2, _⟩ => ⟨S1024x1024, .fp8e4m3⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S7x3x128x128, .bf16⟩
  | .local _ .vmem, ⟨8, _⟩ => ⟨S7x128, .f32⟩
  | .local _ .vmem, ⟨9, _⟩ => ⟨S7x128, .f32⟩
  | .local _ .vmem, ⟨10, _⟩ => ⟨S7x128, .f32⟩
  | .local _ .vmem, ⟨11, _⟩ => ⟨S28x32x1024, .f32⟩
  | .local _ .vmem, ⟨12, _⟩ => ⟨S28x384x1024, .f32⟩
  | _, _ => ⟨S28x384x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S28x384x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x3x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S28x32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S28x384x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.TB.Points.lean ====
/- The pipeline's points, closed forms of the fetches and flushes. -/
module

public import proofs.«01_k».proof.Proof.Gen.Tail
public import Idealize.ShloMosaic.Lib.Pipeline.Kit

@[expose] public section

noncomputable section

namespace Cert.Tail.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 28 = 0 :=
  (fun t => Pipeline.Window.fetchOf_const cc0_transform_3 (fun _ _ => rfl) (n := 28) (by decide) t : ∀ t : Fin grid0.N, Pipeline.Window.fetchOf grid0 false cc0_transform_3 t = true ↔ t.val % 28 = 0)
/-- Window 4 (operand 5 (%0)) is fetched at the first point only, at any contents of the tables (its index map reads none). -/
theorem fetch0_4 (a : (pcfg0 (F := F)).Adm) : ∀ t : Fin (cfg0 a).N, ((cfg0 a).win 4).fetch t = true ↔ t.val % 28 = 0 :=
  (fun t => Pipeline.Window.fetchOf_const cc0_transform_4 (fun _ _ => rfl) (n := 28) (by decide) t : ∀ t : Fin grid0.N, Pipeline.Window.fetchOf grid0 false cc0_transform_4 t = true ↔ t.val % 28 = 0)
/-- Window 5 (operand 6 (%1)) is fetched at the first point only, at any contents of the tables (its index map reads none). -/
theorem fetch0_5 (a : (pcfg0 (F := F)).Adm) : ∀ t : Fin (cfg0 a).N, ((cfg0 a).win 5).fetch t = true ↔ t.val % 28 = 0 :=
  (fun t => Pipeline.Window.fetchOf_const cc0_transform_5 (fun _ _ => rfl) (n := 28) (by decide) t : ∀ t : Fin grid0.N, Pipeline.Window.fetchOf grid0 false cc0_transform_5 t = true ↔ t.val % 28 = 0)
/-- Window 6 (operand 7 (%2)) is fetched at the first point only, at any contents of the tables (its index map reads none). -/
theorem fetch0_6 (a : (pcfg0 (F := F)).Adm) : ∀ t : Fin (cfg0 a).N, ((cfg0 a).win 6).fetch t = true ↔ t.val % 28 = 0 :=
  (fun t => Pipeline.Window.fetchOf_const cc0_transform_6 (fun _ _ => rfl) (n := 28) (by decide) t : ∀ t : Fin grid0.N, Pipeline.Window.fetchOf grid0 false cc0_transform_6 t = true ↔ t.val % 28 = 0)
/-- Window 7 (operand 8 (%3)) is fetched at the first point only, at any contents of the tables (its index map reads none). -/
theorem fetch0_7 (a : (pcfg0 (F := F)).Adm) : ∀ t : Fin (cfg0 a).N, ((cfg0 a).win 7).fetch t = true ↔ t.val % 28 = 0 :=
  (fun t => Pipeline.Window.fetchOf_const cc0_transform_7 (fun _ _ => rfl) (n := 28) (by decide) t : ∀ t : Fin grid0.N, Pipeline.Window.fetchOf grid0 false cc0_transform_7 t = true ↔ t.val % 28 = 0)
/-- Window 8 (operand 9 (%arg9)) is fetched at the first point only, at any contents of the tables (its index map reads none). -/
theorem fetch0_8 (a : (pcfg0 (F := F)).Adm) : ∀ t : Fin (cfg0 a).N, ((cfg0 a).win 8).fetch t = true ↔ t.val % 28 = 0 :=
  (fun t => Pipeline.Window.fetchOf_const cc0_transform_8 (fun _ _ => rfl) (n := 28) (by decide) t : ∀ t : Fin grid0.N, Pipeline.Window.fetchOf grid0 false cc0_transform_8 t = true ↔ t.val % 28 = 0)
/-- Window 9 (operand 10 (%4)) is fetched at the first point only, at any contents of the tables (its index map reads none). -/
theorem fetch0_9 (a : (pcfg0 (F := F)).Adm) : ∀ t : Fin (cfg0 a).N, ((cfg0 a).win 9).fetch t = true ↔ t.val % 28 = 0 :=
  (fun t => Pipeline.Window.fetchOf_const cc0_transform_9 (fun _ _ => rfl) (n := 28) (by decide) t : ∀ t : Fin grid0.N, Pipeline.Window.fetchOf grid0 false cc0_transform_9 t = true ↔ t.val % 28 = 0)
/-- Window 10 (operand 11 (%arg11)) is fetched at the first point only, at any contents of the tables (its index map reads none). -/
theorem fetch0_10 (a : (pcfg0 (F := F)).Adm) : ∀ t : Fin (cfg0 a).N, ((cfg0 a).win 10).fetch t = true ↔ t.val % 28 = 0 :=
  (fun t => Pipeline.Window.fetchOf_const cc0_transform_10 (fun _ _ => rfl) (n := 28) (by decide) t : ∀ t : Fin grid0.N, Pipeline.Window.fetchOf grid0 false cc0_transform_10 t = true ↔ t.val % 28 = 0)
/-- Window 11 (operand 12 (%5)) is fetched at the first point only, at any contents of the tables (its index map reads none). -/
theorem fetch0_11 (a : (pcfg0 (F := F)).Adm) : ∀ t : Fin (cfg0 a).N, ((cfg0 a).win 11).fetch t = true ↔ t.val % 28 = 0 :=
  (fun t => Pipeline.Window.fetchOf_const cc0_transform_11 (fun _ _ => rfl) (n := 28) (by decide) t : ∀ t : Fin grid0.N, Pipeline.Window.fetchOf grid0 false cc0_transform_11 t = true ↔ t.val % 28 = 0)
/-- Window 12 (result 0 (%6#0)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 0 (by decide) (by decide) (Pipeline.Window.sep_of_coord cc0_transform_12 0 0 (fun _ => rfl) (by decide)) (P := 1) (m := 0) (by decide) rfl t).mpr (Nat.mod_one _) : ∀ t : Fin grid0.N, Pipeline.Window.flushOf grid0 true cc0_transform_12 t = true)
/-- Window 13 (result 1 (%6#1)) is written back at the last point only, at any contents of the tables (its index map reads none). -/
theorem flush0_13 (a : (pcfg0 (F := F)).Adm) : ∀ t : Fin (cfg0 a).N, ((cfg0 a).win 13).flush t = true ↔ t.val % 28 = 27 :=
  (fun t => Pipeline.Window.flushOf_const cc0_transform_13 (fun _ _ => rfl) (n := 28) (by decide) rfl t : ∀ t : Fin grid0.N, Pipeline.Window.flushOf grid0 true cc0_transform_13 t = true ↔ t.val % 28 = 27)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_se_res2block (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Tail.Gen

end
-- ==== Proof.TB.Runs.lean ====
/- What the two runs of the body share: the arrays at region entry, the input blocks, the conditions. -/
module

public import proofs.«01_k».proof.Proof.Gen.Tail.Launch
public import proofs.«01_k».proof.Proof.Gen.Tail.Skeleton
public import proofs.«01_k».proof.Proof.TB.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Tail.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S28 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Tail`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      (Pipeline.RDat.FramePost.arr_in h c 8 rfl).trans ((hA c 8).trans (V_main_arg9 m c)),
      ((h c).2 main_arg10 (by decide : main_arg10 ∈ Pipeline.restRefs sig spec0)).trans (V_main_arg10 m c),
      (Pipeline.RDat.FramePost.arr_in h c 10 rfl).trans ((hA c 10).trans (V_main_arg11 m c)),
      ((h c).2 main_arg12 (by decide : main_arg12 ∈ Pipeline.restRefs sig spec0)).trans (V_main_arg12 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x384x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x384x1024 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x384x32 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x1024 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1024x192 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x192 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S192x1024 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1024 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x384x1024 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S28x1024 .f32 := spec0_13.stage ((cfgM m hO).slots t 13)
abbrev hs0_13 (hO : Ok m) (t : Fin (cfgM m hO).N) : (ms0_13 m hO t).IsWhole := hstage0_13 (((cfgM m hO).slots t 13).cast nbuf0_13)
/-- The scratch operands: whole scoped buffers of the kernel's own, passed beside the windows. -/
abbrev scM0_0 : Memref sig .tc .vmem S8x384x128 .bf16 := Memref.whole cc0_scratch0
abbrev scM0_1 : Memref sig .tc .vmem S8x384x128 .f32 := Memref.whole cc0_scratch1
abbrev scM0_2 : Memref sig .tc .vmem S192x1024 .f32 := Memref.whole cc0_scratch2
abbrev scM0_3 : Memref sig .tc .vmem S192x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- One staging buffer of output 12, through which its contents are stated. -/
abbrev VO0_12 : View sig .tc .vmem S1x384x1024 .bf16 := (Memref.whole cc0_stg12_0 : Memref sig .tc .vmem S1x384x1024 .bf16).view
/-- The two scratch buffers the kernel carries between points, as views. -/
abbrev VS0_2 : View sig .tc .vmem S192x1024 .f32 := scM0_2.view
abbrev VS0_3 : View sig .tc .vmem S192x128 .f32 := scM0_3.view

end Cert.Tail.Gen

end
-- ==== Proof.TB.RunA.lean ====
/- The body's run in case A of its one conditional. -/
module

public import proofs.«01_k».proof.Proof.TB.Runs

@[expose] public section

-- membership in a rectangle of production extents (`View.cover_of_tiled`): the elaborator's structural look
-- recurses once per coordinate of the long axes
set_option maxRecDepth 16384

noncomputable section

namespace Cert.Tail.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1340000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) :
    Σ' (L12 : List (View.Piece (Elt F) S1x384x1024 .bf16)), Σ' (L13 : List (View.Piece (Elt F) S28x1024 .f32)), Σ' (LS2 : List (View.Piece (Elt F) S192x1024 .f32)), Σ' (LS3 : List (View.Piece (Elt F) S192x128 .f32)), Σ' (LT0 : List (View.Piece (Elt F) S8x384x128 .bf16)), { LT1 : List (View.Piece (Elt F) S8x384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, ⌜arg15.view.read (Elt F) f = x13⌝ ∗ arg15.view.loc (c : Thread nD τ) ↦[arg15.view.set]{fullShare} arg15.view.writes (Elt F) f L13) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ tbPt0 c tbM0_0 xt0) -∗ K ⟨⟩))
          ⊢ wp frame (wpE (defs₀ (F := F)) Variants.none c none) E (cc0_se_res2block i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_se_res2block_eq_skeleton]; unfold cc0_se_res2block_skel
    simp only [k0_part21_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%ds0, %fs0, -, HS0⟩, ⟨%ds1, %fs1, -, HS1⟩, ⟨%ds2, %fs2, -, HS2⟩, ⟨%ds3, %fs3, -, HS3⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]
    · iexists _; isplitr; swap; · iexact H13
      ipureintro; exact harg15.read_unread _
    isplitl [HS0]; · iexists _; iexact HS0
    isplitl [HS1]; · iexists _; iexact HS1
    isplitl [HS2]; · iexists _; iexact HS2
    isplitl [HS3]; · iexists _; iexact HS3
    iexact HT0

end Cert.Tail.Gen

end
-- ==== Proof.TB.RunB.lean ====
/- The body's run in case B of its one conditional. -/
module

public import proofs.«01_k».proof.Proof.TB.RunA

@[expose] public section

-- membership in a rectangle of production extents (`View.cover_of_tiled`): the elaborator's structural look
-- recurses once per coordinate of the long axes
set_option maxRecDepth 16384

noncomputable section

namespace Cert.Tail.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1028000 in
/-- What the body's stores leave in each output's staging memref, as pieces (last first) IN CASE B (`scf.if` 0 not taken: points 1, 2, … 27: 27 of 28), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : ¬cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (xs2 : Vec F S192x1024 .f32) (xs3 : Vec F S192x128 .f32) :
    Σ' (L12 : List (View.Piece (Elt F) S1x384x1024 .bf16)), Σ' (L13 : List (View.Piece (Elt F) S28x1024 .f32)), Σ' (LS2 : List (View.Piece (Elt F) S192x1024 .f32)), Σ' (LS3 : List (View.Piece (Elt F) S192x128 .f32)), Σ' (LT0 : List (View.Piece (Elt F) S8x384x128 .bf16)), { LT1 : List (View.Piece (Elt F) S8x384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d) ∗ owns (c : Thread nD τ) arg18 fullShare xs2 ∗ owns (c : Thread nD τ) arg19 fullShare xs3 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, ⌜arg15.view.read (Elt F) f = x13⌝ ∗ arg15.view.loc (c : Thread nD τ) ↦[arg15.view.set]{fullShare} arg15.view.writes (Elt F) f L13) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ owns (c : Thread nD τ) arg18 fullShare xs2 ∗ owns (c : Thread nD τ) arg19 fullShare xs3 ∗ tbPt0 c tbM0_0 xt0) -∗ K ⟨⟩))
          ⊢ wp frame (wpE (defs₀ (F := F)) Variants.none c none) E (cc0_se_res2block i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, [], [], ?_, ?_, fun E K => ?run⟩
  case run =>
    simp only [cc0_se_res2block_eq_skeleton]; unfold cc0_se_res2block_skel
    simp only [k0_part21_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%ds0, %fs0, -, HS0⟩, ⟨%ds1, %fs1, -, HS1⟩, ⟨%fs2, %hfs2, HS2⟩, ⟨%fs3, %hfs3, HS3⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg18.eq_unread hfs2; obtain rfl := harg19.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]
    · iexists _; isplitr; swap; · iexact H13
      ipureintro; exact harg15.read_unread _
    isplitl [HS0]; · iexists _; iexact HS0
    isplitl [HS1]; · iexists _; iexact HS1
    isplitl [HS2]
    · iexists _; isplitr; · ipureintro; exact harg18.read_unread _
      iexact HS2
    isplitl [HS3]
    · iexists _; isplitr; · ipureintro; exact harg19.read_unread _
      iexact HS3
    iexact HT0

end Cert.Tail.Gen

end
-- ==== Proof.TB.Frame.lean ====
/- The proof data of the tail kernel: what each window's staging buffer holds after each grid point, the
   invariant between the points, the body obligation, and the run of the whole program.  The output of the
   squeeze vectors (window 13) is one block for the whole grid that each point writes one row of; its buffer is
   held to a predicate, "the rows of the points so far are the rows those points computed". -/
module

public import proofs.«01_k».proof.Proof.TB.RunA
public import proofs.«01_k».proof.Proof.TB.RunB
public import Idealize.ShloMosaic.Lib.Claim
public import Idealize.ShloMosaic.Lib.WritesUnit
public import Idealize.ShloMosaic.Lib.Pointwise
public import Idealize.ShloMosaic.Lib.Pipeline.DatRel

@[expose] public section

-- membership in a rectangle of production extents (`View.cover_of_tiled`): the elaborator's structural look
-- recurses once per coordinate of the long axes
set_option maxRecDepth 16384

noncomputable section

namespace Cert.Tail.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces of each case -/

/-- The stores of the first point into the result block cover it. -/
theorem cover0_A_12 (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (y : S1x384x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).1 S1x384x128.size (by sl_kernel_rfl) y

/-- The stores of the first point into the transposed weight cover it. -/
theorem scover0_A_2 (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (y : S192x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.1 ![64, 128] (by sl_kernel_rfl) y

/-- The stores of the first point into the transposed bias cover it. -/
theorem scover0_A_3 (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (y : S192x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.2.1 ![64, 128] (by sl_kernel_rfl) y

/-- The stores of a later point into the result block cover it. -/
theorem cover0_B_12 (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : ¬cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (xs2 : Vec F S192x1024 .f32) (xs3 : Vec F S192x128 .f32) (y : S1x384x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0 xs2 xs3).1 S1x384x128.size (by sl_kernel_rfl) y

/-- The whole block of squeeze vectors, as a view to read pieces back through. -/
abbrev VO0_13 : View sig .tc .vmem S28x1024 .f32 := (Memref.whole cc0_stg13_0 : Memref sig .tc .vmem S28x1024 .f32).view
/-- Some contents of that block. -/
def any13 : Vec F S28x1024 .f32 := VO0_13.read (Elt F) VO0_13.junk

/-- The rectangle of the row a point writes. -/
theorem off2_eq (t : Fin grid0.N) : k0_off2 (grid0.coords t) = ![t.val, 0] := by
  have ht : t.val < 28 := Nat.lt_of_lt_of_eq t.isLt N_0
  have e0 : (grid0.coords t 0).val = t.val / 1 % 28 := Pipeline.Grid.coords_val t 0 (by decide) rfl
  have h : (BitVec.ofNat 32 (grid0.coords t 0).val).toNat = t.val := by
    rw [e0, BitVec.toNat_ofNat]; omega
  unfold k0_off2
  funext a
  fin_cases a
  · exact h
  · rfl

/-- Reading the block after one row was stored over anything: the row, or what was there. -/
theorem row_read {κ : Kind} {sp : Space} (v : View sig κ sp S28x1024 .f32) (f : v.ty.Contents (Elt F)) (t : Fin grid0.N)
    (p : S1x1024.Idx → Elt F .f32) (r : Fin 28) (l : Fin 1024) :
    v.read (Elt F) (v.writes (Elt F) f [⟨Rect.unit (s := S28x1024) (k0_off2 (grid0.coords t)) S1x1024.size (k0_off2_inb (grid0.coords t)), p⟩])
        (ix2 r l : S28x1024.Idx)
      = if r.val = t.val then p (ix2 0 l) else v.read (Elt F) f (ix2 r l) := by
  by_cases h : r.val = t.val
  · rw [if_pos h]
    exact View.read_writes_cons_rows_of_mem v f _ p [] _ (ix2 (0 : Fin 1) l : S1x1024.Idx) (off2_eq t)
      (by simpa using h) (by simp)
  · rw [if_neg h]
    exact View.read_writes_cons_rows_of_not_mem v f _ p [] _ (W := 1) (off2_eq t) rfl
      (by show r.val < t.val ∨ t.val + 1 ≤ r.val; omega)

/-- The result block a point of case A leaves. -/
def out0_A (hO : Ok m) (c : Dev nD) (t : Fin (cfgM m hO).N) (h0 : t.val % 28 = 0) : Vec F S1x384x1024 .bf16 :=
  VO0_12.read (Elt F) (VO0_12.writes (Elt F) VO0_12.junk (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0)).1)

/-- The row of squeeze vectors a point of case A leaves. -/
def row0_A (hO : Ok m) (c : Dev nD) (t : Fin (cfgM m hO).N) (h0 : t.val % 28 = 0) : Fin 1024 → Elt F .f32 := fun l =>
  VO0_13.read (Elt F) (VO0_13.writes (Elt F) VO0_13.junk (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0)).2.1) (ix2 (⟨t.val, lt_of_lt_of_eq t.isLt (show (cfgM m hO).N = 28 from N_0)⟩ : Fin 28) l : S28x1024.Idx)

/-- A point of case A leaves the other rows as they were. -/
theorem rows0_A (hO : Ok m) (c : Dev nD) (t : Fin (cfgM m hO).N) (h0 : t.val % 28 = 0) (x13 : Vec F S28x1024 .f32) {κ : Kind} {sp : Space}
    (v : View sig κ sp S28x1024 .f32) (f : v.ty.Contents (Elt F)) (r : Fin 28) (l : Fin 1024) :
    v.read (Elt F) (v.writes (Elt F) f (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) x13 (tbl m 0)).2.1) (ix2 r l : S28x1024.Idx)
      = if r.val = t.val then row0_A m hO c t h0 l else v.read (Elt F) f (ix2 r l) := by
  refine (row_read v f t _ r l).trans ?_
  by_cases h : r.val = t.val
  · rw [if_pos h, if_pos h]
    refine Eq.symm ((row_read VO0_13 VO0_13.junk t _ (⟨t.val, lt_of_lt_of_eq t.isLt (show (cfgM m hO).N = 28 from N_0)⟩ : Fin 28) l).trans ?_)
    rw [if_pos rfl]
  · rw [if_neg h, if_neg h]

/-- The result block a point of case B leaves. -/
def out0_B (hO : Ok m) (c : Dev nD) (t : Fin (cfgM m hO).N) (h0 : ¬t.val % 28 = 0) (xs2 : Vec F S192x1024 .f32) (xs3 : Vec F S192x128 .f32) : Vec F S1x384x1024 .bf16 :=
  VO0_12.read (Elt F) (VO0_12.writes (Elt F) VO0_12.junk (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0) xs2 xs3).1)

/-- The row of squeeze vectors a point of case B leaves. -/
def row0_B (hO : Ok m) (c : Dev nD) (t : Fin (cfgM m hO).N) (h0 : ¬t.val % 28 = 0) (xs2 : Vec F S192x1024 .f32) (xs3 : Vec F S192x128 .f32) : Fin 1024 → Elt F .f32 := fun l =>
  VO0_13.read (Elt F) (VO0_13.writes (Elt F) VO0_13.junk (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0) xs2 xs3).2.1) (ix2 (⟨t.val, lt_of_lt_of_eq t.isLt (show (cfgM m hO).N = 28 from N_0)⟩ : Fin 28) l : S28x1024.Idx)

/-- A point of case B leaves the other rows as they were. -/
theorem rows0_B (hO : Ok m) (c : Dev nD) (t : Fin (cfgM m hO).N) (h0 : ¬t.val % 28 = 0) (xs2 : Vec F S192x1024 .f32) (xs3 : Vec F S192x128 .f32) (x13 : Vec F S28x1024 .f32) {κ : Kind} {sp : Space}
    (v : View sig κ sp S28x1024 .f32) (f : v.ty.Contents (Elt F)) (r : Fin 28) (l : Fin 1024) :
    v.read (Elt F) (v.writes (Elt F) f (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) x13 (tbl m 0) xs2 xs3).2.1) (ix2 r l : S28x1024.Idx)
      = if r.val = t.val then row0_B m hO c t h0 xs2 xs3 l else v.read (Elt F) f (ix2 r l) := by
  refine (row_read v f t _ r l).trans ?_
  by_cases h : r.val = t.val
  · rw [if_pos h, if_pos h]
    refine Eq.symm ((row_read VO0_13 VO0_13.junk t _ (⟨t.val, lt_of_lt_of_eq t.isLt (show (cfgM m hO).N = 28 from N_0)⟩ : Fin 28) l).trans ?_)
    rw [if_pos rfl]
  · rw [if_neg h, if_neg h]

/-- The transposed weight the first point leaves in its scratch. -/
def sout0_2 (hO : Ok m) (c : Dev nD) (t : Fin (cfgM m hO).N) (h0 : t.val % 28 = 0) : Vec F S192x1024 .f32 :=
  VS0_2.read (Elt F) (VS0_2.writes (Elt F) VS0_2.junk (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0)).2.2.1)

/-- The transposed bias the first point leaves in its scratch. -/
def sout0_3 (hO : Ok m) (c : Dev nD) (t : Fin (cfgM m hO).N) (h0 : t.val % 28 = 0) : Vec F S192x128 .f32 :=
  VS0_3.read (Elt F) (VS0_3.writes (Elt F) VS0_3.junk (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0)).2.2.2.1)

/-- There is a first point. -/
theorem exists_first (hO : Ok m) : ∃ t : Fin (cfgM m hO).N, t.val = 0 :=
  ⟨⟨0, by rw [show (cfgM m hO).N = 28 from N_0]; omega⟩, rfl⟩
/-- The first point. -/
def first (hO : Ok m) : Fin (cfgM m hO).N := (exists_first m hO).choose
theorem first_val (hO : Ok m) : (first m hO).val = 0 := (exists_first m hO).choose_spec
theorem first_mod (hO : Ok m) : (first m hO).val % 28 = 0 := by rw [first_val]

/-- The transposed weight the kernel carries between the points. -/
def w1t (hO : Ok m) (c : Dev nD) : Vec F S192x1024 .f32 := sout0_2 m hO c (first m hO) (first_mod m hO)
/-- The transposed bias the kernel carries between the points. -/
def b1t (hO : Ok m) (c : Dev nD) : Vec F S192x128 .f32 := sout0_3 m hO c (first m hO) (first_mod m hO)

/-- The result block after a point. -/
def outAt (hO : Ok m) (c : Dev nD) (t : Fin (cfgM m hO).N) : Vec F S1x384x1024 .bf16 :=
  if h0 : t.val % 28 = 0 then out0_A m hO c t h0 else out0_B m hO c t h0 (w1t m hO c) (b1t m hO c)
/-- The row of squeeze vectors a point writes. -/
def rowAt (hO : Ok m) (c : Dev nD) (t : Fin (cfgM m hO).N) : Fin 1024 → Elt F .f32 :=
  if h0 : t.val % 28 = 0 then row0_A m hO c t h0 else row0_B m hO c t h0 (w1t m hO c) (b1t m hO c)

/-- The invariant between the points: before the first one every scratch at anything; afterwards the two
    transposed arrays at what the first point put there. -/
def PhiS (hO : Ok m) (c : Dev nD) : ℕ → sProp 𝕄
  | 0 => iprop(Pipeline.ΦA spec0 c ∗ Pipeline.ΦT pre0 (tbl m) c)
  | _ + 1 => iprop(iprop(iprop((∃ d, owns (c : Thread nD τ) scM0_0 fullShare d) ∗ (∃ d, owns (c : Thread nD τ) scM0_1 fullShare d) ∗ owns (c : Thread nD τ) scM0_2 fullShare (w1t m hO c) ∗ owns (c : Thread nD τ) scM0_3 fullShare (b1t m hO c)) ∗ (∃ r, prngReg c r)) ∗ Pipeline.ΦT pre0 (tbl m) c)

theorem PhiS_zero (hO : Ok m) (c : Dev nD) (n : ℕ) (hz : n = 0) : PhiS m hO c n = iprop(Pipeline.ΦA spec0 c ∗ Pipeline.ΦT pre0 (tbl m) c) := by
  subst hz; rfl
theorem PhiS_pos (hO : Ok m) (c : Dev nD) (n : ℕ) (hz : n ≠ 0) : PhiS m hO c n = iprop(iprop(iprop((∃ d, owns (c : Thread nD τ) scM0_0 fullShare d) ∗ (∃ d, owns (c : Thread nD τ) scM0_1 fullShare d) ∗ owns (c : Thread nD τ) scM0_2 fullShare (w1t m hO c) ∗ owns (c : Thread nD τ) scM0_3 fullShare (b1t m hO c)) ∗ (∃ r, prngReg c r)) ∗ Pipeline.ΦT pre0 (tbl m) c) := by
  cases n with
  | zero => exact absurd rfl hz
  | succ n => rfl

/-- The proof data: the inputs at their blocks, the result block at `outAt`; the squeeze vectors' block is held
    to a predicate instead (`Rows`). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => outAt m hO c t
    | ⟨13, _⟩ => any13
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d

/-- Which windows are held to a predicate: the squeeze vectors' alone. -/
def held (hO : Ok m) : Fin (cfgM m hO).W → Bool
  | ⟨13, _⟩ => true
  | _ => false

/-- The predicate: after point `t` the rows of the points so far are what those points computed. -/
def Rows (hO : Ok m) (c : Dev nD) (t : Fin (cfgM m hO).N) (X : Vec F S28x1024 .f32) : Prop :=
  ∀ u : Fin (cfgM m hO).N, u.val ≤ t.val → ∀ (r : Fin 28) (l : Fin 1024), r.val = u.val → X (ix2 r l) = rowAt m hO c u l

/-- The same as the library's family of predicates. -/
def Rl (hO : Ok m) (c : Dev nD) : (w : Fin (cfgM m hO).W) → Fin (cfgM m hO).N → (((cfgM m hO).win w).block.Idx → Elt F ((cfgM m hO).win w).elt) → Prop
  | ⟨13, _⟩ => fun t X => Rows m hO c t X
  | _ => fun _ _ => True

/-- What a point may find in the squeeze vectors' buffer has the rows of the points before. -/
theorem finds_rows (hO : Ok m) (c : Dev nD) (t : Fin (cfgM m hO).N) (Y : Vec F S28x1024 .f32)
    (h : ((dats m hO 0 c).toRRel (held m hO) (Rl m hO c)).Finds 13 t Y) :
    ∀ u : Fin (cfgM m hO).N, u.val < t.val → ∀ (r : Fin 28) (l : Fin 1024), r.val = u.val → Y (ix2 r l) = rowAt m hO c u l := by
  intro u hu r l hr
  have hN : t.val < 28 := lt_of_lt_of_eq t.isLt (show (cfgM m hO).N = 28 from N_0)
  have hf : ((cfgM m hO).win 13).fetch t = false := rfl
  rcases (Pipeline.RDat.finds_of_pos _ hf (by omega) Y).mp h with h | h
  · have := (flush0_13 (adm m hO) _).mp h
    simp only at this
    omega
  · exact ((dats m hO 0 c).toRRel_leaves (fgt := held m hO) (Rl := Rl m hO c) (w := 13) rfl h : Rows m hO c _ Y) u (by simp only; omega) r l hr

/-- What the body is called with at a point, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ Y, ⌜((dats m hO 0 c).toRRel (held m hO) (Rl m hO c)).Finds 13 t Y⌝ ∗ owns (c : Thread nD τ) (ms0_13 m hO t) fullShare Y))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ (∃ X, ⌜Rl m hO c 13 t X⌝ ∗ owns (c : Thread nD τ) (ms0_13 m hO t) fullShare X))

set_option maxHeartbeats 12800000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11]
  rw [show (dats m hO 0 c).owesAt () t.succ = (dats m hO 0 c).owesAt () t.castSucc from rfl,
    after0_0, after0_1, after0_2, after0_3, after0_4, after0_5, after0_6, after0_7, after0_8, after0_9, after0_10, after0_11, after0_12]
  rw [show (dats m hO 0 c).Φ t.succ = PhiS m hO c (t.val + 1) from rfl, show (dats m hO 0 c).Φ t.castSucc = PhiS m hO c t.val from rfl,
    PhiS_pos m hO c _ (Nat.succ_ne_zero _), PhiT0_eq]
  have hN : t.val < 28 := lt_of_lt_of_eq t.isLt (show (cfgM m hO).N = 28 from N_0)
  by_cases h0 : t.val % 28 = 0
  · have hz : t.val = 0 := by omega
    obtain rfl : t = first m hO := Fin.ext (hz.trans (first_val m hO).symm)
    rw [PhiS_zero m hO c _ hz, PhiT0_eq, PhiA0_eq, show outAt m hO c (first m hO) = out0_A m hO c (first m hO) h0 from dif_pos h0]
    unfold out0_A
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y, %hY, H13⟩⟩
    iapply ((kernelRun0_A c (grid0.coords (first m hO)) _ _ _ _ _ _ _ _ _ _ _ _ _ _ _ _ _ _ _ _ _ _ _ _ _ _ _ _ _ _ _ _ _ _ _ _ ((hcond0_0 (first m hO)).mpr h0) (iblk m hO c 0 (first m hO)) (iblk m hO c 1 (first m hO)) (iblk m hO c 2 (first m hO)) (iblk m hO c 3 (first m hO)) (iblk m hO c 4 (first m hO)) (iblk m hO c 5 (first m hO)) (iblk m hO c 6 (first m hO)) (iblk m hO c 7 (first m hO)) (iblk m hO c 8 (first m hO)) (iblk m hO c 9 (first m hO)) (iblk m hO c 10 (first m hO)) (iblk m hO c 11 (first m hO)) Y (tbl m 0)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, H8, H9, H10, H11, ⟨%e12, H12⟩, ⟨%e13, %he13, H13⟩, ⟨%fT0, HS0⟩, ⟨%fT1, HS1⟩, ⟨%es2, HS2⟩, ⟨%es3, HS3⟩, HT0⟩
    isplitl [HS0 HS1 HS2 HS3 Hg HT0]
    · isplitl [HS0 HS1 HS2 HS3 Hg]
      · isplitl [HS0 HS1 HS2 HS3]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · unfold owns; iexists _; isplitr
            swap; · iexact HS2
            ipureintro; unfold w1t sout0_2; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; unfold b1t sout0_3; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _)
    iexists _; isplitr; swap
    · unfold owns; iexists _; isplitr
      swap; · iexact H13
      ipureintro; rfl
    ipureintro
    show Rows m hO c (first m hO) _
    intro u hu r l hr
    refine (rows0_A m hO c (first m hO) h0 Y _ e13 r l).trans ?_
    by_cases hut : u.val = (first m hO).val
    · obtain rfl : u = first m hO := Fin.ext hut
      rw [if_pos hr]; unfold rowAt; rw [dif_pos h0]
    · rw [if_neg (by omega), he13]
      exact finds_rows m hO c (first m hO) Y hY u (by omega) r l hr
  · rw [PhiS_pos m hO c t.val (by omega), PhiT0_eq, show outAt m hO c t = out0_B m hO c t h0 (w1t m hO c) (b1t m hO c) from dif_neg h0]
    unfold out0_B
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y, %hY, H13⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) Y (tbl m 0) (w1t m hO c) (b1t m hO c)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, H8, H9, H10, H11, ⟨%e12, H12⟩, ⟨%e13, %he13, H13⟩, ⟨%fT0, HS0⟩, ⟨%fT1, HS1⟩, HS2, HS3, HT0⟩
    isplitl [HS0 HS1 HS2 HS3 Hg HT0]
    · isplitl [HS0 HS1 HS2 HS3 Hg]
      · isplitl [HS0 HS1 HS2 HS3]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _)
    iexists _; isplitr; swap
    · unfold owns; iexists _; isplitr
      swap; · iexact H13
      ipureintro; rfl
    ipureintro
    show Rows m hO c t _
    intro u hu r l hr
    refine (rows0_B m hO c t h0 (w1t m hO c) (b1t m hO c) Y _ e13 r l).trans ?_
    by_cases hut : u.val = t.val
    · obtain rfl : u = t := Fin.ext hut
      rw [if_pos hr]; unfold rowAt; rw [dif_neg h0]
    · rw [if_neg (by omega), he13]
      exact finds_rows m hO c t Y hY u (by omega) r l hr

/-- The body table's row at a point's slots is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) :
    Pipeline.BodyObligationRel (dats (F := F) m hO 0 c) (defs₀ (F := F)) Variants.none () Set.univ (held m hO) (Rl m hO c) := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiS_zero m hO c 0 rfl]
  try exact Idealize.SL.BI.Entails.refl _

/-- After the last point the invariant gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val from rfl,
    PhiS_pos m hO c _ (by rw [Fin.val_last]; have : (cfgM m hO).N = 28 := N_0; omega), PhiA0_eq]
  iintro ⟨⟨⟨HS0, HS1, HS2, HS3⟩, Hg⟩, -⟩
  isplitl [HS0 HS1 HS2 HS3]
  · isplitl [HS0]
    · iexact HS0
    isplitl [HS1]
    · iexact HS1
    isplitl [HS2]
    · iexists _; iexact HS2
    iexists _; iexact HS3
  iexact Hg

/-- The proof data the launch takes. -/
abbrev rdat (hO : Ok m) (c : Dev nD) : Pipeline.RDat τ (Elt F) Unit ℕ (UR sig nD τ) ℕ ((Pipeline.pin pcfgs fun _ => adm m hO) 0) c :=
  (dats m hO 0 c).toRRel (held m hO) (Rl m hO c)

set_option backward.isDefEq.respectTransparency.types false in
set_option maxHeartbeats 800000 in
/-- The run of the whole program, every semaphore at zero at its end. -/
theorem run_main_quiescent (hO : Ok m) : θ_run defs (onTc (τ := τ) (main (F := F))) (s₀ m ρ)
    (fun r => Pipeline.RDat.FramePost ((Pipeline.pin pcfgs fun _ => adm m hO) 0) (rdat m hO) (V m) r ∧ r.2.sem = fun _ => 0) :=
  Pipeline.RDat.θ_run_frameP_track (Q' := _) pcfgs (fun _ => adm m hO) (0 : Fin 1) launch0 defs₀ Variants.none (rdat m hO) m ρ main
    (hbody := fun c => (body_obligation m hO c).toRRel) (hshare := fun c => (dats m hO 0 c).share_full fun _ => rfl)
    (howed := fun _ _ => rfl) (V := V m)
    (hmain := hmain m Variants.none) (hA := A_eq m hO) (hpf := V_pre m) (hin := hin m hO) (hout := hout m hO)

/-- The same without the semaphores. -/
theorem run_main (hO : Ok m) : θ_run defs (onTc (τ := τ) (main (F := F))) (s₀ m ρ)
    (Pipeline.RDat.FramePost ((Pipeline.pin pcfgs fun _ => adm m hO) 0) (rdat m hO) (V m)) :=
  (θ_run defs _ _).mono (fun _ h => h.1) (run_main_quiescent m ρ hO)

/-- The frame: the argument arrays end unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ hO (rdat m hO) (A_eq m hO) (run_main m ρ hO)) ((θ_run defs _ _).mono (fun _ h => h.2) (run_main_quiescent m ρ hO))

end Cert.Tail.Gen

end
-- ==== Proof.T.Pure.lean ====
/- The arithmetic of the tail kernel, apart from where its operands lie: the normalised second product, its
   masked sums over the time axis, the squeeze vector and the gated result, each a function of the loaded
   vectors (at any float instance), and what each is at an index over the extended reals. -/
module

public import proofs.«01_k».proof.Proof.Gen.TailIdeal.Skeleton
public import Idealize.ShloMosaic.Lib.Pointwise
public import Idealize.ShloMosaic.Lib.Pipeline.ReadBack

@[expose] public section

set_option maxRecDepth 16384

noncomputable section

namespace Cert.TailIdeal.Val

open Idealize.ShloMosaic Idealize.ShloMosaic.TcCoe Idealize.SL.Sem
open Cert.TailIdeal Cert.TailIdeal.Gen

section Structure

variable {F : FTy → Type} [FloatOps F]

/-- One quarter of the second product, scaled, shifted, clipped at zero and normalised. -/
def zb (a : Fin 8 → Vec F S1x384x128 .bf16) (w : Vec F S1024x256 .fp8e4m3) (ws b g e : Vec F S1x256 .f32) : FVec F S384x256 .f32 :=
  k0_pay47 (k0_pay40 (a 0)) (k0_pay41 (a 1)) (k0_pay42 (a 2)) (k0_pay43 (a 3)) (k0_pay44 (a 4)) (k0_pay45 (a 5)) (k0_pay46 (a 6)) (a 7) w ws b g e

/-- The left half of a quarter. -/
def zlo (v : FVec F S384x256 .f32) : FVec F S384x128 .f32 := extractStridedSlice S384x128 ![0, 0] v slices_S384x256_o0_0_S384x128
/-- The right half of a quarter. -/
def zhi (v : FVec F S384x256 .f32) : FVec F S384x128 .f32 := extractStridedSlice S384x128 ![0, 128] v slices_S384x256_o0_128_S384x128
/-- A half of a quarter as the kernel stores it. -/
def zslot (v : FVec F S384x128 .f32) : FVec F S1x384x128 .f32 := shapeCast S1x384x128 v shapeCasts_S384x128_S1x384x128

/-- The eight stored halves of four quarters. -/
def zparts (v : Fin 4 → FVec F S384x256 .f32) : Fin 8 → FVec F S1x384x128 .f32 :=
  ![zslot (zlo (v 0)), zslot (zhi (v 0)), zslot (zlo (v 1)), zslot (zhi (v 1)), zslot (zlo (v 2)), zslot (zhi (v 2)), zslot (zlo (v 3)), zslot (zhi (v 3))]

/-- The sum over the valid time steps. -/
def msum (len : Elt F .i32) (v : FVec F S384x128 .f32) : FVec F S1x128 .f32 := k0_pay54 (k0_pay48 len) v

/-- The hidden squeeze vector, repeated along the lanes. -/
def hidP (len : Elt F .i32) (v : Fin 4 → FVec F S384x256 .f32) (w1 : Vec F S192x1024 .f32) (b1 : Vec F S192x128 .f32) : FVec F S192x128 .f32 :=
  k0_pay87 len (msum len (zlo (v 0))) (msum len (zhi (v 0))) (msum len (zlo (v 1))) (msum len (zhi (v 1))) (msum len (zlo (v 2))) (msum len (zhi (v 2))) (v 3) (k0_pay48 len) (zlo (v 3)) w1 b1

/-- One lane block of the second squeeze product. -/
def colsum (u hid : FVec F S192x128 .f32) : FVec F S1x128 .f32 :=
  shapeCast S1x128 (multiReduction .add [0] S128 (mulf u hid) 0x00000000#32 reduces_S192x128_S128 (.inl rfl) rfl) shapeCasts_S128_S1x128

/-- The squeeze vector. -/
def sP (hid : FVec F S192x128 .f32) (u : Fin 8 → Vec F S192x128 .f32) (b2 : Vec F S1x1024 .f32) : FVec F S1x1024 .f32 :=
  k0_pay91 hid (colsum (u 0) hid) (colsum (u 1) hid) (mulf (u 2) hid) (u 3) (u 4) (u 5) (u 6) (u 7) b2

theorem slices8 : ∀ j : Fin 8, S1x1024.Slices ![0, 128 * j.val] S1x128
  | ⟨0, _⟩ => slices_S1x1024_o0_0_S1x128
  | ⟨1, _⟩ => slices_S1x1024_o0_128_S1x128
  | ⟨2, _⟩ => slices_S1x1024_o0_256_S1x128
  | ⟨3, _⟩ => slices_S1x1024_o0_384_S1x128
  | ⟨4, _⟩ => slices_S1x1024_o0_512_S1x128
  | ⟨5, _⟩ => slices_S1x1024_o0_640_S1x128
  | ⟨6, _⟩ => slices_S1x1024_o0_768_S1x128
  | ⟨7, _⟩ => slices_S1x1024_o0_896_S1x128

/-- One lane block of the gated result. -/
def oP (j : Fin 8) (s : FVec F S1x1024 .f32) (z : Vec F S1x384x128 .f32) (x : Vec F S1x384x128 .bf16) : FVec F S1x384x128 .bf16 :=
  shapeCast S1x384x128 (truncf .bf16 (addf (mulf (shapeCast S384x128 z shapeCasts_S1x384x128_S384x128)
      (broadcastTo S384x128 (extractStridedSlice S1x128 ![0, 128 * j.val] s (slices8 j)) broadcasts_S1x128_S384x128))
    (extf .f32 (shapeCast S384x128 x shapeCasts_S1x384x128_S384x128) bitsLt_bf16_f32)) bitsLt_bf16_f32) shapeCasts_S384x128_S1x384x128

end Structure

/-! ## At an index, over the extended reals -/

/-- A dequantised block: every code times the scale of its block of 32. -/
theorem act_apply (s0 s1 s2 s3 : FVec Ideal S1x384x1 .f32) (cb : FVec Ideal S1x384x128 .fp8e4m3) (x1 : Fin 384 → Fin 1024 → EReal) (x2 : Fin 384 → Fin 32 → EReal) (j : Fin 8)
    (h0 : ∀ t : Fin 384, s0 (ix3 0 t 0) = x2 t ⟨4 * j.val, by omega⟩) (h1 : ∀ t : Fin 384, s1 (ix3 0 t 0) = x2 t ⟨4 * j.val + 1, by omega⟩)
    (h2 : ∀ t : Fin 384, s2 (ix3 0 t 0) = x2 t ⟨4 * j.val + 2, by omega⟩) (h3 : ∀ t : Fin 384, s3 (ix3 0 t 0) = x2 t ⟨4 * j.val + 3, by omega⟩)
    (hc : ∀ (t : Fin 384) (l : Fin 128), cb (ix3 0 t l) = x1 t ⟨128 * j.val + l.val, by omega⟩) (t : Fin 384) (l : Fin 128) :
    k0_pay21 (F := Ideal) s0 s1 s2 s3 cb (ix3 0 t l)
      = x1 t ⟨128 * j.val + l.val, by omega⟩ * x2 t ⟨(128 * j.val + l.val) / 32, by omega⟩ := by
  pointwise [k0_pay21]
  rw [hc, h0, h1, h2, h3]
  refine congrArg (x1 t _ * ·) ?_
  have hl := l.isLt
  split_ifs <;> refine congrArg (x2 t) (Fin.ext ?_) <;> dsimp only <;> omega

theorem zb_apply (a : Fin 8 → FVec Ideal S1x384x128 .bf16) (w : FVec Ideal S1024x256 .fp8e4m3) (ws b g e : FVec Ideal S1x256 .f32)
    (A : Fin 384 → Fin 1024 → EReal) (hA : ∀ (j : Fin 8) (t : Fin 384) (l : Fin 128), a j (ix3 0 t l) = A t ⟨j.val * 128 + l.val, by omega⟩) (t : Fin 384) (q : Fin 256) :
    zb (F := Ideal) a w ws b g e (ix2 t q)
      = max ((∑ k : Fin 1024, A t k * w (ix2 k q)) * ws (ix2 0 q) + b (ix2 0 q)) 0 * g (ix2 0 q) + e (ix2 0 q) := by
  pointwise [zb, k0_pay47, k0_pay40, k0_pay41, k0_pay42, k0_pay43, k0_pay44, k0_pay45, k0_pay46]
  refine congrArg (fun z => max (z * ws (ix2 0 q) + b (ix2 0 q)) 0 * g (ix2 0 q) + e (ix2 0 q)) ?_
  refine Finset.sum_congr rfl fun k _ => congrArg (· * w (ix2 k q)) ?_
  have hk := k.isLt
  split_ifs <;> refine (hA _ _ _).trans (congrArg (A t) (Fin.ext ?_)) <;> dsimp only [Fin.isValue] <;> simp <;> omega

theorem msum_apply (len : BitVec 32) (v : FVec Ideal S384x128 .f32) (l : Fin 128) :
    msum (F := Ideal) len v (ix2 0 l) = ∑ t : Fin 384, Scalar.select (Scalar.cmpi .slt (BitVec.ofNat 32 t.val) len) (v (ix2 t l)) 0 := by
  pointwise [msum, k0_pay54, k0_pay48]
  rfl

theorem colsum_apply (u hid : FVec Ideal S192x128 .f32) (l : Fin 128) :
    colsum (F := Ideal) u hid (ix2 0 l) = ∑ c : Fin 192, u (ix2 c l) * hid (ix2 c l) := by
  pointwise [colsum]

theorem oP_apply (j : Fin 8) (s : FVec Ideal S1x1024 .f32) (z : FVec Ideal S1x384x128 .f32) (x : FVec Ideal S1x384x128 .bf16) (t : Fin 384) (l : Fin 128) :
    oP (F := Ideal) j s z x (ix3 0 t l) = z (ix3 0 t l) * s (ix2 0 ⟨128 * j.val + l.val, by omega⟩) + x (ix3 0 t l) := by
  pointwise [oP]

theorem zlo_apply (v : FVec Ideal S384x256 .f32) (t : Fin 384) (l : Fin 128) : zlo (F := Ideal) v (ix2 t l) = v (ix2 t ⟨l.val, by omega⟩) := by
  pointwise [zlo]

theorem zhi_apply (v : FVec Ideal S384x256 .f32) (t : Fin 384) (l : Fin 128) : zhi (F := Ideal) v (ix2 t l) = v (ix2 t ⟨128 + l.val, by omega⟩) := by
  pointwise [zhi]

theorem zslot_apply (v : FVec Ideal S384x128 .f32) (t : Fin 384) (l : Fin 128) : zslot (F := Ideal) v (ix3 0 t l) = v (ix2 t l) := by
  pointwise [zslot]

/-- The eight stored halves hold the normalised second product. -/
theorem zparts_apply (v : Fin 4 → FVec Ideal S384x256 .f32) (Z : Fin 384 → Fin 1024 → EReal)
    (hZ : ∀ (n : Fin 4) (t : Fin 384) (q : Fin 256), v n (ix2 t q) = Z t ⟨256 * n.val + q.val, by omega⟩) (j : Fin 8) (t : Fin 384) (l : Fin 128) :
    zparts (F := Ideal) v j (ix3 0 t l) = Z t ⟨128 * j.val + l.val, by omega⟩ := by
  have hlo : ∀ n : Fin 4, zslot (F := Ideal) (zlo (v n)) (ix3 0 t l) = Z t ⟨256 * n.val + l.val, by omega⟩ :=
    fun n => (zslot_apply _ t l).trans ((zlo_apply _ t l).trans (hZ n t _))
  have hhi : ∀ n : Fin 4, zslot (F := Ideal) (zhi (v n)) (ix3 0 t l) = Z t ⟨256 * n.val + (128 + l.val), by omega⟩ :=
    fun n => (zslot_apply _ t l).trans ((zhi_apply _ t l).trans (hZ n t _))
  fin_cases j
  · exact hlo 0
  · exact (hhi 0).trans (congrArg (Z t) (Fin.ext (by simp)))
  · exact hlo 1
  · exact (hhi 1).trans (congrArg (Z t) (Fin.ext (by simp; omega)))
  · exact hlo 2
  · exact (hhi 2).trans (congrArg (Z t) (Fin.ext (by simp; omega)))
  · exact hlo 3
  · exact (hhi 3).trans (congrArg (Z t) (Fin.ext (by simp; omega)))

theorem msum_eq (len : BitVec 32) (v : FVec Ideal S384x128 .f32) (l : Fin 128) :
    (∑ t : Fin 384, Scalar.select (k0_pay48 (F := Ideal) len (ix2 t l)) (v (ix2 t l)) 0) = msum (F := Ideal) len v (ix2 0 l) := by
  pointwise [msum, k0_pay54]

/-- The hidden squeeze vector. -/
theorem hidP_apply (len : BitVec 32) (v : Fin 4 → FVec Ideal S384x256 .f32) (w1 : FVec Ideal S192x1024 .f32) (b1 : FVec Ideal S192x128 .f32)
    (Z : Fin 384 → Fin 1024 → EReal) (hZ : ∀ (n : Fin 4) (t : Fin 384) (q : Fin 256), v n (ix2 t q) = Z t ⟨256 * n.val + q.val, by omega⟩) (c : Fin 192) (l : Fin 128) :
    hidP (F := Ideal) len v w1 b1 (ix2 c l)
      = max ((∑ d : Fin 1024, w1 (ix2 c d) * Ideal.div (∑ t : Fin 384, Scalar.select (Scalar.cmpi .slt (BitVec.ofNat 32 t.val) len) (Z t d) 0) (FloatOps.sitofp (F := Ideal) .f32 len)) + b1 (ix2 c l)) 0 := by
  have hlo : ∀ (n : Fin 4) (l : Fin 128), msum (F := Ideal) len (zlo (v n)) (ix2 0 l)
      = ∑ t : Fin 384, Scalar.select (Scalar.cmpi .slt (BitVec.ofNat 32 t.val) len) (Z t ⟨256 * n.val + l.val, by omega⟩) 0 := fun n l =>
    (msum_apply len _ l).trans (Finset.sum_congr rfl fun t _ => congrArg (fun z => Scalar.select _ z 0) ((zlo_apply _ t l).trans (hZ n t _)))
  have hhi : ∀ (n : Fin 4) (l : Fin 128), msum (F := Ideal) len (zhi (v n)) (ix2 0 l)
      = ∑ t : Fin 384, Scalar.select (Scalar.cmpi .slt (BitVec.ofNat 32 t.val) len) (Z t ⟨256 * n.val + (128 + l.val), by omega⟩) 0 := fun n l =>
    (msum_apply len _ l).trans (Finset.sum_congr rfl fun t _ => congrArg (fun z => Scalar.select _ z 0) ((zhi_apply _ t l).trans (hZ n t _)))
  pointwise [hidP, k0_pay87]
  refine congrArg (fun z => max (z + b1 (ix2 c l)) 0) (Finset.sum_congr rfl fun k _ => ?_)
  refine congrArg (fun z => w1 (ix2 c k) * Ideal.div z (FloatOps.sitofp (F := Ideal) .f32 len)) ?_
  have hk := k.isLt
  have key : ∀ p : Fin 1024, p.val = k.val → (∑ t : Fin 384, Scalar.select (Scalar.cmpi .slt (BitVec.ofNat 32 t.val) len) (Z t p) 0)
      = ∑ t : Fin 384, Scalar.select (Scalar.cmpi .slt (BitVec.ofNat 32 t.val) len) (Z t k) 0 := fun p h => by rw [Fin.ext h]
  by_cases h0 : k.val < 128
  · rw [dif_pos h0]; exact (hlo 0 _).trans (key _ (by simp))
  rw [dif_neg h0]
  by_cases h1 : k.val - 128 < 128
  · rw [dif_pos h1]; exact (hhi 0 _).trans (key _ (by simp; omega))
  rw [dif_neg h1]
  by_cases h2 : k.val - 128 - 128 < 128
  · rw [dif_pos h2]; exact (hlo 1 _).trans (key _ (by simp; omega))
  rw [dif_neg h2]
  by_cases h3 : k.val - 128 - 128 - 128 < 128
  · rw [dif_pos h3]; exact (hhi 1 _).trans (key _ (by simp; omega))
  rw [dif_neg h3]
  by_cases h4 : k.val - 128 - 128 - 128 - 128 < 128
  · rw [dif_pos h4]; exact (hlo 2 _).trans (key _ (by simp; omega))
  rw [dif_neg h4]
  by_cases h5 : k.val - 128 - 128 - 128 - 128 - 128 < 128
  · rw [dif_pos h5]; exact (hhi 2 _).trans (key _ (by simp; omega))
  rw [dif_neg h5]
  by_cases h6 : k.val - 128 - 128 - 128 - 128 - 128 - 128 < 128
  · rw [dif_pos h6]; rw [msum_eq]; exact (hlo 3 _).trans (key _ (by simp; omega))
  rw [dif_neg h6]
  rw [show k0_pay85 (F := Ideal) (v 3) = zhi (v 3) from rfl, msum_eq]; exact (hhi 3 _).trans (key _ (by simp; omega))

/-- The squeeze vector. -/
theorem sP_apply (hid : FVec Ideal S192x128 .f32) (u : Fin 8 → FVec Ideal S192x128 .f32) (b2 : FVec Ideal S1x1024 .f32)
    (U : Fin 192 → Fin 1024 → EReal) (hU : ∀ (j : Fin 8) (c : Fin 192) (l : Fin 128), u j (ix2 c l) = U c ⟨128 * j.val + l.val, by omega⟩)
    (H : Fin 192 → EReal) (hH : ∀ c l, hid (ix2 c l) = H c) (d : Fin 1024) :
    sP (F := Ideal) hid u b2 (ix2 0 d) = Ideal.logistic ((∑ c : Fin 192, U c d * H c) + b2 (ix2 0 d)) := by
  pointwise [sP, k0_pay91, colsum]
  refine congrArg (fun z => Ideal.logistic (z + b2 (ix2 0 d))) ?_
  have hd := d.isLt
  split_ifs <;> refine Finset.sum_congr rfl fun c _ => ?_ <;> rw [hH, hU] <;>
    refine congrArg (fun z => U c z * H c) (Fin.ext ?_) <;> simp <;> omega

end Cert.TailIdeal.Val
end
-- ==== Proof.T.Points.lean ====
/- The pipeline's points, closed forms of the fetches and flushes. -/
module

public import proofs.«01_k».proof.Proof.Gen.TailIdeal
public import Idealize.ShloMosaic.Lib.Pipeline.Kit

@[expose] public section

noncomputable section

namespace Cert.TailIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 28 = 0 :=
  (fun t => Pipeline.Window.fetchOf_const cc0_transform_3 (fun _ _ => rfl) (n := 28) (by decide) t : ∀ t : Fin grid0.N, Pipeline.Window.fetchOf grid0 false cc0_transform_3 t = true ↔ t.val % 28 = 0)
/-- Window 4 (operand 5 (%0)) is fetched at the first point only, at any contents of the tables (its index map reads none). -/
theorem fetch0_4 (a : (pcfg0 (F := F)).Adm) : ∀ t : Fin (cfg0 a).N, ((cfg0 a).win 4).fetch t = true ↔ t.val % 28 = 0 :=
  (fun t => Pipeline.Window.fetchOf_const cc0_transform_4 (fun _ _ => rfl) (n := 28) (by decide) t : ∀ t : Fin grid0.N, Pipeline.Window.fetchOf grid0 false cc0_transform_4 t = true ↔ t.val % 28 = 0)
/-- Window 5 (operand 6 (%1)) is fetched at the first point only, at any contents of the tables (its index map reads none). -/
theorem fetch0_5 (a : (pcfg0 (F := F)).Adm) : ∀ t : Fin (cfg0 a).N, ((cfg0 a).win 5).fetch t = true ↔ t.val % 28 = 0 :=
  (fun t => Pipeline.Window.fetchOf_const cc0_transform_5 (fun _ _ => rfl) (n := 28) (by decide) t : ∀ t : Fin grid0.N, Pipeline.Window.fetchOf grid0 false cc0_transform_5 t = true ↔ t.val % 28 = 0)
/-- Window 6 (operand 7 (%2)) is fetched at the first point only, at any contents of the tables (its index map reads none). -/
theorem fetch0_6 (a : (pcfg0 (F := F)).Adm) : ∀ t : Fin (cfg0 a).N, ((cfg0 a).win 6).fetch t = true ↔ t.val % 28 = 0 :=
  (fun t => Pipeline.Window.fetchOf_const cc0_transform_6 (fun _ _ => rfl) (n := 28) (by decide) t : ∀ t : Fin grid0.N, Pipeline.Window.fetchOf grid0 false cc0_transform_6 t = true ↔ t.val % 28 = 0)
/-- Window 7 (operand 8 (%3)) is fetched at the first point only, at any contents of the tables (its index map reads none). -/
theorem fetch0_7 (a : (pcfg0 (F := F)).Adm) : ∀ t : Fin (cfg0 a).N, ((cfg0 a).win 7).fetch t = true ↔ t.val % 28 = 0 :=
  (fun t => Pipeline.Window.fetchOf_const cc0_transform_7 (fun _ _ => rfl) (n := 28) (by decide) t : ∀ t : Fin grid0.N, Pipeline.Window.fetchOf grid0 false cc0_transform_7 t = true ↔ t.val % 28 = 0)
/-- Window 8 (operand 9 (%arg9)) is fetched at the first point only, at any contents of the tables (its index map reads none). -/
theorem fetch0_8 (a : (pcfg0 (F := F)).Adm) : ∀ t : Fin (cfg0 a).N, ((cfg0 a).win 8).fetch t = true ↔ t.val % 28 = 0 :=
  (fun t => Pipeline.Window.fetchOf_const cc0_transform_8 (fun _ _ => rfl) (n := 28) (by decide) t : ∀ t : Fin grid0.N, Pipeline.Window.fetchOf grid0 false cc0_transform_8 t = true ↔ t.val % 28 = 0)
/-- Window 9 (operand 10 (%4)) is fetched at the first point only, at any contents of the tables (its index map reads none). -/
theorem fetch0_9 (a : (pcfg0 (F := F)).Adm) : ∀ t : Fin (cfg0 a).N, ((cfg0 a).win 9).fetch t = true ↔ t.val % 28 = 0 :=
  (fun t => Pipeline.Window.fetchOf_const cc0_transform_9 (fun _ _ => rfl) (n := 28) (by decide) t : ∀ t : Fin grid0.N, Pipeline.Window.fetchOf grid0 false cc0_transform_9 t = true ↔ t.val % 28 = 0)
/-- Window 10 (operand 11 (%arg11)) is fetched at the first point only, at any contents of the tables (its index map reads none). -/
theorem fetch0_10 (a : (pcfg0 (F := F)).Adm) : ∀ t : Fin (cfg0 a).N, ((cfg0 a).win 10).fetch t = true ↔ t.val % 28 = 0 :=
  (fun t => Pipeline.Window.fetchOf_const cc0_transform_10 (fun _ _ => rfl) (n := 28) (by decide) t : ∀ t : Fin grid0.N, Pipeline.Window.fetchOf grid0 false cc0_transform_10 t = true ↔ t.val % 28 = 0)
/-- Window 11 (operand 12 (%5)) is fetched at the first point only, at any contents of the tables (its index map reads none). -/
theorem fetch0_11 (a : (pcfg0 (F := F)).Adm) : ∀ t : Fin (cfg0 a).N, ((cfg0 a).win 11).fetch t = true ↔ t.val % 28 = 0 :=
  (fun t => Pipeline.Window.fetchOf_const cc0_transform_11 (fun _ _ => rfl) (n := 28) (by decide) t : ∀ t : Fin grid0.N, Pipeline.Window.fetchOf grid0 false cc0_transform_11 t = true ↔ t.val % 28 = 0)
/-- Window 12 (result 0 (%6#0)) is written back at every point, at any contents of the tables (its index map reads none). -/
theorem flush0_12 (a : (pcfg0 (F := F)).Adm) : ∀ t : Fin (cfg0 a).N, ((cfg0 a).win 12).flush t = true :=
  (fun t => (Pipeline.Window.flushOf_reads cc0_transform_12 reads0_12 hreads0_12 0 (by decide) (by decide) (Pipeline.Window.sep_of_coord cc0_transform_12 0 0 (fun _ => rfl) (by decide)) (P := 1) (m := 0) (by decide) rfl t).mpr (Nat.mod_one _) : ∀ t : Fin grid0.N, Pipeline.Window.flushOf grid0 true cc0_transform_12 t = true)
/-- Window 13 (result 1 (%6#1)) is written back at the last point only, at any contents of the tables (its index map reads none). -/
theorem flush0_13 (a : (pcfg0 (F := F)).Adm) : ∀ t : Fin (cfg0 a).N, ((cfg0 a).win 13).flush t = true ↔ t.val % 28 = 27 :=
  (fun t => Pipeline.Window.flushOf_const cc0_transform_13 (fun _ _ => rfl) (n := 28) (by decide) rfl t : ∀ t : Fin grid0.N, Pipeline.Window.flushOf grid0 true cc0_transform_13 t = true ↔ t.val % 28 = 27)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_se_res2block (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.TailIdeal.Gen

end
-- ==== Proof.T.Runs.lean ====
/- What the two runs of the body share: the arrays at region entry, the input blocks, the conditions. -/
module

public import proofs.«01_k».proof.Proof.Gen.TailIdeal.Launch
public import proofs.«01_k».proof.Proof.Gen.TailIdeal.Skeleton
public import proofs.«01_k».proof.Proof.T.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.TailIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S28 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Tail`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      (Pipeline.RDat.FramePost.arr_in h c 8 rfl).trans ((hA c 8).trans (V_main_arg9 m c)),
      ((h c).2 main_arg10 (by decide : main_arg10 ∈ Pipeline.restRefs sig spec0)).trans (V_main_arg10 m c),
      (Pipeline.RDat.FramePost.arr_in h c 10 rfl).trans ((hA c 10).trans (V_main_arg11 m c)),
      ((h c).2 main_arg12 (by decide : main_arg12 ∈ Pipeline.restRefs sig spec0)).trans (V_main_arg12 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x384x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x384x1024 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x384x32 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x1024 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1024x192 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x192 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S192x1024 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1024 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x384x1024 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S28x1024 .f32 := spec0_13.stage ((cfgM m hO).slots t 13)
abbrev hs0_13 (hO : Ok m) (t : Fin (cfgM m hO).N) : (ms0_13 m hO t).IsWhole := hstage0_13 (((cfgM m hO).slots t 13).cast nbuf0_13)
/-- The scratch operands: whole scoped buffers of the kernel's own, passed beside the windows. -/
abbrev scM0_0 : Memref sig .tc .vmem S8x384x128 .bf16 := Memref.whole cc0_scratch0
abbrev scM0_1 : Memref sig .tc .vmem S8x384x128 .f32 := Memref.whole cc0_scratch1
abbrev scM0_2 : Memref sig .tc .vmem S192x1024 .f32 := Memref.whole cc0_scratch2
abbrev scM0_3 : Memref sig .tc .vmem S192x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- One staging buffer of output 12, through which its contents are stated. -/
abbrev VO0_12 : View sig .tc .vmem S1x384x1024 .bf16 := (Memref.whole cc0_stg12_0 : Memref sig .tc .vmem S1x384x1024 .bf16).view
/-- The two scratch buffers the kernel carries between points, as views. -/
abbrev VS0_2 : View sig .tc .vmem S192x1024 .f32 := scM0_2.view
abbrev VS0_3 : View sig .tc .vmem S192x128 .f32 := scM0_3.view

end Cert.TailIdeal.Gen

end
-- ==== Proof.T.RunA.lean ====
/- The body's run in case A of its one conditional. -/
module

public import proofs.«01_k».proof.Proof.T.Runs

@[expose] public section

-- membership in a rectangle of production extents (`View.cover_of_tiled`): the elaborator's structural look
-- recurses once per coordinate of the long axes
set_option maxRecDepth 16384

noncomputable section

namespace Cert.TailIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1340000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) :
    Σ' (L12 : List (View.Piece (Elt F) S1x384x1024 .bf16)), Σ' (L13 : List (View.Piece (Elt F) S28x1024 .f32)), Σ' (LS2 : List (View.Piece (Elt F) S192x1024 .f32)), Σ' (LS3 : List (View.Piece (Elt F) S192x128 .f32)), Σ' (LT0 : List (View.Piece (Elt F) S8x384x128 .bf16)), { LT1 : List (View.Piece (Elt F) S8x384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, ⌜arg15.view.read (Elt F) f = x13⌝ ∗ arg15.view.loc (c : Thread nD τ) ↦[arg15.view.set]{fullShare} arg15.view.writes (Elt F) f L13) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ tbPt0 c tbM0_0 xt0) -∗ K ⟨⟩))
          ⊢ wp frame (wpE (defs₀ (F := F)) Variants.none c none) E (cc0_se_res2block i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_se_res2block_eq_skeleton]; unfold cc0_se_res2block_skel
    simp only [k0_part21_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%ds0, %fs0, -, HS0⟩, ⟨%ds1, %fs1, -, HS1⟩, ⟨%ds2, %fs2, -, HS2⟩, ⟨%ds3, %fs3, -, HS3⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]
    · iexists _; isplitr; swap; · iexact H13
      ipureintro; exact harg15.read_unread _
    isplitl [HS0]; · iexists _; iexact HS0
    isplitl [HS1]; · iexists _; iexact HS1
    isplitl [HS2]; · iexists _; iexact HS2
    isplitl [HS3]; · iexists _; iexact HS3
    iexact HT0

end Cert.TailIdeal.Gen

end
-- ==== Proof.T.RunB.lean ====
/- The body's run in case B of its one conditional. -/
module

public import proofs.«01_k».proof.Proof.T.RunA

@[expose] public section

-- membership in a rectangle of production extents (`View.cover_of_tiled`): the elaborator's structural look
-- recurses once per coordinate of the long axes
set_option maxRecDepth 16384

noncomputable section

namespace Cert.TailIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1028000 in
/-- What the body's stores leave in each output's staging memref, as pieces (last first) IN CASE B (`scf.if` 0 not taken: points 1, 2, … 27: 27 of 28), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : ¬cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (xs2 : Vec F S192x1024 .f32) (xs3 : Vec F S192x128 .f32) :
    Σ' (L12 : List (View.Piece (Elt F) S1x384x1024 .bf16)), Σ' (L13 : List (View.Piece (Elt F) S28x1024 .f32)), Σ' (LS2 : List (View.Piece (Elt F) S192x1024 .f32)), Σ' (LS3 : List (View.Piece (Elt F) S192x128 .f32)), Σ' (LT0 : List (View.Piece (Elt F) S8x384x128 .bf16)), { LT1 : List (View.Piece (Elt F) S8x384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare x13 ∗ (∃ d, owns (c : Thread nD τ) arg16 fullShare d) ∗ (∃ d, owns (c : Thread nD τ) arg17 fullShare d) ∗ owns (c : Thread nD τ) arg18 fullShare xs2 ∗ owns (c : Thread nD τ) arg19 fullShare xs3 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, ⌜arg15.view.read (Elt F) f = x13⌝ ∗ arg15.view.loc (c : Thread nD τ) ↦[arg15.view.set]{fullShare} arg15.view.writes (Elt F) f L13) ∗ (∃ f, arg16.view.loc (c : Thread nD τ) ↦[arg16.view.set]{fullShare} arg16.view.writes (Elt F) f LT0) ∗ (∃ f, arg17.view.loc (c : Thread nD τ) ↦[arg17.view.set]{fullShare} arg17.view.writes (Elt F) f LT1) ∗ owns (c : Thread nD τ) arg18 fullShare xs2 ∗ owns (c : Thread nD τ) arg19 fullShare xs3 ∗ tbPt0 c tbM0_0 xt0) -∗ K ⟨⟩))
          ⊢ wp frame (wpE (defs₀ (F := F)) Variants.none c none) E (cc0_se_res2block i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, [], [], ?_, ?_, fun E K => ?run⟩
  case run =>
    simp only [cc0_se_res2block_eq_skeleton]; unfold cc0_se_res2block_skel
    simp only [k0_part21_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%ds0, %fs0, -, HS0⟩, ⟨%ds1, %fs1, -, HS1⟩, ⟨%fs2, %hfs2, HS2⟩, ⟨%fs3, %hfs3, HS3⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg18.eq_unread hfs2; obtain rfl := harg19.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]
    · iexists _; isplitr; swap; · iexact H13
      ipureintro; exact harg15.read_unread _
    isplitl [HS0]; · iexists _; iexact HS0
    isplitl [HS1]; · iexists _; iexact HS1
    isplitl [HS2]
    · iexists _; isplitr; · ipureintro; exact harg18.read_unread _
      iexact HS2
    isplitl [HS3]
    · iexists _; isplitr; · ipureintro; exact harg19.read_unread _
      iexact HS3
    iexact HT0

end Cert.TailIdeal.Gen

end
-- ==== Proof.T.Vals.lean ====
/- What one grid point of the tail kernel leaves in its two results and in the scratches it carries, written with
   the functions of `Pure`: the stores it makes, read back where the kernel reads them. -/
module

public import proofs.«01_k».proof.Proof.T.Pure
public import proofs.«01_k».proof.Proof.T.RunB

@[expose] public section

set_option maxRecDepth 16384

noncomputable section

namespace Cert.TailIdeal.Val

open Idealize.ShloMosaic Idealize.ShloMosaic.TcCoe Idealize.SL.Sem
open Cert.TailIdeal Cert.TailIdeal.Gen

variable {F : FTy → Type} [FloatOps F]

/-! ## The stored pieces -/

theorem inb_slot (j : Fin 8) (a : Fin 3) : (![j.val, 0, 0] : Fin 3 → ℕ) a + S1x384x128.size a ≤ S8x384x128.size a := by
  match a with
  | 0 => show j.val + 1 ≤ 8; omega
  | 1 => show 0 + 384 ≤ 384; omega
  | 2 => show 0 + 128 ≤ 128; omega
theorem inb_lane (j : Fin 8) (a : Fin 3) : (![0, 0, 128 * j.val] : Fin 3 → ℕ) a + S1x384x128.size a ≤ S1x384x1024.size a := by
  match a with
  | 0 => show 0 + 1 ≤ 1; omega
  | 1 => show 0 + 384 ≤ 384; omega
  | 2 => show 128 * j.val + 128 ≤ 1024; omega
theorem inb_scale (k : Fin 32) (a : Fin 3) : (![0, 0, k.val] : Fin 3 → ℕ) a + S1x384x1.size a ≤ S1x384x32.size a := by
  match a with
  | 0 => show 0 + 1 ≤ 1; omega
  | 1 => show 0 + 384 ≤ 384; omega
  | 2 => show k.val + 1 ≤ 32; omega
theorem inb_w (n : Fin 4) (a : Fin 2) : (![0, 256 * n.val] : Fin 2 → ℕ) a + S1024x256.size a ≤ S1024x1024.size a := by
  match a with
  | 0 => show 0 + 1024 ≤ 1024; omega
  | 1 => show 256 * n.val + 256 ≤ 1024; omega
theorem inb_row (n : Fin 4) (a : Fin 2) : (![0, 256 * n.val] : Fin 2 → ℕ) a + S1x256.size a ≤ S1x1024.size a := by
  match a with
  | 0 => show 0 + 1 ≤ 1; omega
  | 1 => show 256 * n.val + 256 ≤ 1024; omega
theorem inb_u (j : Fin 8) (a : Fin 2) : (![0, 128 * j.val] : Fin 2 → ℕ) a + S192x128.size a ≤ S192x1024.size a := by
  match a with
  | 0 => show 0 + 192 ≤ 192; omega
  | 1 => show 128 * j.val + 128 ≤ 1024; omega

/-- One slot of a scratch of eight. -/
abbrev slot (j : Fin 8) : Rect S8x384x128 := Rect.unit (s := S8x384x128) ![j.val, 0, 0] S1x384x128.size (inb_slot j)
/-- One block of lanes of the result. -/
abbrev lane (j : Fin 8) : Rect S1x384x1024 := Rect.unit (s := S1x384x1024) ![0, 0, 128 * j.val] S1x384x128.size (inb_lane j)

/-- Eight stores, one a slot, the last one first. -/
abbrev L8 {e : EltTy} (p : Fin 8 → Vec F S1x384x128 e) : List (View.Piece (Elt F) S8x384x128 e) :=
  [⟨slot 7, p 7⟩, ⟨slot 6, p 6⟩, ⟨slot 5, p 5⟩, ⟨slot 4, p 4⟩, ⟨slot 3, p 3⟩, ⟨slot 2, p 2⟩, ⟨slot 1, p 1⟩, ⟨slot 0, p 0⟩]
/-- Eight stores, one a block of lanes, the last one first. -/
abbrev LL {e : EltTy} (p : Fin 8 → Vec F S1x384x128 e) : List (View.Piece (Elt F) S1x384x1024 e) :=
  [⟨lane 7, p 7⟩, ⟨lane 6, p 6⟩, ⟨lane 5, p 5⟩, ⟨lane 4, p 4⟩, ⟨lane 3, p 3⟩, ⟨lane 2, p 2⟩, ⟨lane 1, p 1⟩, ⟨lane 0, p 0⟩]

/-- What the eight slots hold, at an index of the scratch. -/
def G8 {e : EltTy} (p : Fin 8 → Vec F S1x384x128 e) : Vec F S8x384x128 e := fun y => p (y 0) (ix3 0 (y 1) (y 2))
/-- What the eight blocks of lanes hold, at an index of the result. -/
def gLane {e : EltTy} (p : Fin 8 → Vec F S1x384x128 e) : Vec F S1x384x1024 e := fun y =>
  p ⟨(y 2).val / 128, by have := (y 2).isLt; show _ < 8; change (y 2).val < 1024 at this; omega⟩ (ix3 0 (y 1) (⟨(y 2).val % 128, by omega⟩ : Fin 128))

theorem slotG {e : EltTy} (p : Fin 8 → Vec F S1x384x128 e) (j : Fin 8) (x : S1x384x128.Idx) : p j x = G8 p ((slot j).emb x) := by
  have h0 : (x 0).val < 1 := (x 0).isLt
  have e0 : (slot j).emb x 0 = j := Fin.ext (by show j.val + 1 * (x 0).val = j.val; omega)
  have e1 : (ix3 0 ((slot j).emb x 1) ((slot j).emb x 2) : S1x384x128.Idx) = x := by
    funext a
    refine Fin.ext ?_
    match a with
    | 0 => show 0 = (x 0).val; omega
    | 1 => show 0 + 1 * (x 1).val = (x 1).val; omega
    | 2 => show 0 + 1 * (x 2).val = (x 2).val; omega
  exact ((congrArg (fun k => p k _) e0).trans (congrArg (p j) e1)).symm

theorem laneG {e : EltTy} (p : Fin 8 → Vec F S1x384x128 e) (j : Fin 8) (x : S1x384x128.Idx) : p j x = gLane p ((lane j).emb x) := by
  have h0 : (x 0).val < 1 := (x 0).isLt
  have h2 : (x 2).val < 128 := (x 2).isLt
  have e0 : (⟨((lane j).emb x 2).val / 128, by have := ((lane j).emb x 2).isLt; change _ < 1024 at this; omega⟩ : Fin 8) = j :=
    Fin.ext (by show (128 * j.val + 1 * (x 2).val) / 128 = j.val; omega)
  have e1 : (ix3 0 ((lane j).emb x 1) (⟨((lane j).emb x 2).val % 128, by omega⟩ : Fin 128) : S1x384x128.Idx) = x := by
    funext a
    refine Fin.ext ?_
    match a with
    | 0 => show 0 = (x 0).val; omega
    | 1 => show 0 + 1 * (x 1).val = (x 1).val; omega
    | 2 => show (128 * j.val + 1 * (x 2).val) % 128 = (x 2).val; omega
  exact ((congrArg (fun k => p k _) e0).trans (congrArg (p j) e1)).symm

theorem mem_L8 {e : EltTy} (p : Fin 8 → Vec F S1x384x128 e) : ∀ j : Fin 8, (⟨slot j, p j⟩ : View.Piece (Elt F) S8x384x128 e) ∈ L8 p
  | 7 => .head _ | 6 => .tail _ (.head _) | 5 => .tail _ (.tail _ (.head _)) | 4 => .tail _ (.tail _ (.tail _ (.head _)))
  | 3 => .tail _ (.tail _ (.tail _ (.tail _ (.head _)))) | 2 => .tail _ (.tail _ (.tail _ (.tail _ (.tail _ (.head _)))))
  | 1 => .tail _ (.tail _ (.tail _ (.tail _ (.tail _ (.tail _ (.head _)))))) | 0 => .tail _ (.tail _ (.tail _ (.tail _ (.tail _ (.tail _ (.tail _ (.head _)))))))
theorem mem_LL {e : EltTy} (p : Fin 8 → Vec F S1x384x128 e) : ∀ j : Fin 8, (⟨lane j, p j⟩ : View.Piece (Elt F) S1x384x1024 e) ∈ LL p
  | 7 => .head _ | 6 => .tail _ (.head _) | 5 => .tail _ (.tail _ (.head _)) | 4 => .tail _ (.tail _ (.tail _ (.head _)))
  | 3 => .tail _ (.tail _ (.tail _ (.tail _ (.head _)))) | 2 => .tail _ (.tail _ (.tail _ (.tail _ (.tail _ (.head _)))))
  | 1 => .tail _ (.tail _ (.tail _ (.tail _ (.tail _ (.tail _ (.head _)))))) | 0 => .tail _ (.tail _ (.tail _ (.tail _ (.tail _ (.tail _ (.tail _ (.head _)))))))

/-- A slot holds what was stored in it. -/
theorem read8 {e : EltTy} {κ : Kind} {sp : Space} (v : View sig κ sp S8x384x128 e) (p : Fin 8 → Vec F S1x384x128 e) (j : Fin 8) :
    v.readCov (L8 p) (slot j).toLoadRect = p j := by
  rw [View.readCov_eq_canon']
  funext x
  have h := View.canon_append_of_piecesOf (G8 p) [] (L8 p)
    ⟨slotG p 7, slotG p 6, slotG p 5, slotG p 4, slotG p 3, slotG p 2, slotG p 1, slotG p 0, trivial⟩ ((slot j).emb x)
    ⟨_, mem_L8 p j, (slot j).toLoadRect.idx_mem x⟩
  rw [List.append_nil] at h
  exact h.trans (slotG p j x).symm

/-- The result block holds what was stored over its lanes. -/
theorem readL {e : EltTy} {κ : Kind} {sp : Space} (v : View sig κ sp S1x384x1024 e) (p : Fin 8 → Vec F S1x384x128 e) (j : Fin 8) (t : Fin 384) (l : Fin 128) :
    v.read (Elt F) (v.writes (Elt F) v.junk (LL p)) (ix3 0 t ⟨128 * j.val + l.val, by omega⟩) = p j (ix3 0 t l) := by
  rw [View.read_writes_junk_eq_canon]
  have h := View.canon_append_of_piecesOf (gLane p) [] (LL p)
    ⟨laneG p 7, laneG p 6, laneG p 5, laneG p 4, laneG p 3, laneG p 2, laneG p 1, laneG p 0, trivial⟩ ((lane j).emb (ix3 0 t l))
    ⟨_, mem_LL p j, (lane j).toLoadRect.idx_mem (ix3 0 t l)⟩
  rw [List.append_nil] at h
  have e : (ix3 0 t ⟨128 * j.val + l.val, by omega⟩ : S1x384x1024.Idx) = (lane j).emb (ix3 0 t l) := by
    funext a
    refine Fin.ext ?_
    match a with
    | 0 => rfl
    | 1 => show t.val = 0 + 1 * t.val; omega
    | 2 => show 128 * j.val + l.val = 128 * j.val + 1 * l.val; omega
  rw [e]
  exact h.trans (laneG p j _).symm

/-! ## The loads -/

/-- The dequantised block `j`. -/
def actP (arg3 : Memref sig .tc .vmem S1x384x1024 .fp8e4m3) (harg3 : arg3.IsWhole) (arg4 : Memref sig .tc .vmem S1x384x32 .f32) (harg4 : arg4.IsWhole)
    (x1 : Vec F S1x384x1024 .fp8e4m3) (x2 : Vec F S1x384x32 .f32) (j : Fin 8) : Vec F S1x384x128 .bf16 :=
  k0_pay21
    (View.readAt (Elt F) arg4.view (Rect.unit (s := S1x384x32) ![0, 0, 4 * j.val] S1x384x1.size (inb_scale ⟨4 * j.val, by omega⟩)).toLoadRect (harg4.unread x2))
    (View.readAt (Elt F) arg4.view (Rect.unit (s := S1x384x32) ![0, 0, 4 * j.val + 1] S1x384x1.size (inb_scale ⟨4 * j.val + 1, by omega⟩)).toLoadRect (harg4.unread x2))
    (View.readAt (Elt F) arg4.view (Rect.unit (s := S1x384x32) ![0, 0, 4 * j.val + 2] S1x384x1.size (inb_scale ⟨4 * j.val + 2, by omega⟩)).toLoadRect (harg4.unread x2))
    (View.readAt (Elt F) arg4.view (Rect.unit (s := S1x384x32) ![0, 0, 4 * j.val + 3] S1x384x1.size (inb_scale ⟨4 * j.val + 3, by omega⟩)).toLoadRect (harg4.unread x2))
    (View.readAt (Elt F) arg3.view (lane j).toLoadRect (harg3.unread x1))

/-- Quarter `n` of a row operand. -/
def rowP (arg : Memref sig .tc .vmem S1x1024 .f32) (harg : arg.IsWhole) (x : Vec F S1x1024 .f32) (n : Fin 4) : Vec F S1x256 .f32 :=
  View.readAt (Elt F) arg.view (Rect.unit (s := S1x1024) ![0, 256 * n.val] S1x256.size (inb_row n)).toLoadRect (harg.unread x)

/-- Quarter `n` of the weights. -/
def wP (arg : Memref sig .tc .vmem S1024x1024 .fp8e4m3) (harg : arg.IsWhole) (x : Vec F S1024x1024 .fp8e4m3) (n : Fin 4) : Vec F S1024x256 .fp8e4m3 :=
  View.readAt (Elt F) arg.view (Rect.unit (s := S1024x1024) ![0, 256 * n.val] S1024x256.size (inb_w n)).toLoadRect (harg.unread x)

/-- Block `j` of the second squeeze weights. -/
def uP (arg : Memref sig .tc .vmem S192x1024 .f32) (harg : arg.IsWhole) (x : Vec F S192x1024 .f32) (j : Fin 8) : Vec F S192x128 .f32 :=
  View.readAt (Elt F) arg.view (Rect.unit (s := S192x1024) ![0, 128 * j.val] S192x128.size (inb_u j)).toLoadRect (harg.unread x)

/-- Block `j` of the shortcut. -/
def xP (arg : Memref sig .tc .vmem S1x384x1024 .bf16) (harg : arg.IsWhole) (x : Vec F S1x384x1024 .bf16) (j : Fin 8) : Vec F S1x384x128 .bf16 :=
  View.readAt (Elt F) arg.view (lane j).toLoadRect (harg.unread x)

/-- The valid length of a grid point's sample. -/
def lenP (c : Dev nD) (i : grid0.Coords) (xt0 : TbBuf0 (F := F) c tbM0_0) : Elt F .i32 :=
  View.readAt (Elt F) tbM0_0.view (Rect.unit (s := S28) (k0_off1 i) S1.size (k0_off1_inb i)).toLoadRect xt0 (Shape.Idx.first (lt_of_lt_of_eq Nat.zero_lt_one numel1_S1.symm))

theorem inb_wlo (k : Fin 8) (a : Fin 2) : (![0, 128 * k.val] : Fin 2 → ℕ) a + S128x128.size a ≤ S192x1024.size a := by
  match a with
  | 0 => show 0 + 128 ≤ 192; omega
  | 1 => show 128 * k.val + 128 ≤ 1024; omega
theorem inb_whi (k : Fin 8) (a : Fin 2) : (![128, 128 * k.val] : Fin 2 → ℕ) a + S64x128.size a ≤ S192x1024.size a := by
  match a with
  | 0 => show 128 + 64 ≤ 192; omega
  | 1 => show 128 * k.val + 128 ≤ 1024; omega
theorem inb_slo (k : Fin 8) (a : Fin 2) : (![128 * k.val, 0] : Fin 2 → ℕ) a + S128x128.size a ≤ S1024x192.size a := by
  match a with
  | 0 => show 128 * k.val + 128 ≤ 1024; omega
  | 1 => show 0 + 128 ≤ 192; omega
theorem inb_shi (k : Fin 8) (a : Fin 2) : (![128 * k.val, 128] : Fin 2 → ℕ) a + S128x64.size a ≤ S1024x192.size a := by
  match a with
  | 0 => show 128 * k.val + 128 ≤ 1024; omega
  | 1 => show 128 + 64 ≤ 192; omega
theorem inb_blo (a : Fin 2) : (![0, 0] : Fin 2 → ℕ) a + S128x128.size a ≤ S192x128.size a := by
  match a with
  | 0 => show 0 + 128 ≤ 192; omega
  | 1 => show 0 + 128 ≤ 128; omega
theorem inb_bhi (a : Fin 2) : (![128, 0] : Fin 2 → ℕ) a + S64x128.size a ≤ S192x128.size a := by
  match a with
  | 0 => show 128 + 64 ≤ 192; omega
  | 1 => show 0 + 128 ≤ 128; omega
theorem inb_clo (a : Fin 2) : (![0, 0] : Fin 2 → ℕ) a + S1x128.size a ≤ S1x192.size a := by
  match a with
  | 0 => show 0 + 1 ≤ 1; omega
  | 1 => show 0 + 128 ≤ 192; omega
theorem inb_chi (a : Fin 2) : (![0, 128] : Fin 2 → ℕ) a + S1x64.size a ≤ S1x192.size a := by
  match a with
  | 0 => show 0 + 1 ≤ 1; omega
  | 1 => show 128 + 64 ≤ 192; omega

section Transposes
variable (arg10 : Memref sig .tc .vmem S1024x192 .f32) (harg10 : arg10.IsWhole) (x8 : Vec F S1024x192 .f32)
  (arg11 : Memref sig .tc .vmem S1x192 .f32) (harg11 : arg11.IsWhole) (x9 : Vec F S1x192 .f32)

/-- The upper part of a transposed block of weights, as a store. -/
abbrev wlo (k : Fin 8) : View.Piece (Elt F) S192x1024 .f32 :=
  ⟨Rect.unit (s := S192x1024) ![0, 128 * k.val] S128x128.size (inb_wlo k), k0_pay2 (View.readAt (Elt F) arg10.view (Rect.unit (s := S1024x192) ![128 * k.val, 0] S128x128.size (inb_slo k)).toLoadRect (harg10.unread x8))⟩
/-- The lower part of a transposed block of weights, as a store. -/
abbrev whi (k : Fin 8) : View.Piece (Elt F) S192x1024 .f32 :=
  ⟨Rect.unit (s := S192x1024) ![128, 128 * k.val] S64x128.size (inb_whi k), k0_pay3 (View.readAt (Elt F) arg10.view (Rect.unit (s := S1024x192) ![128 * k.val, 128] S128x64.size (inb_shi k)).toLoadRect (harg10.unread x8))⟩
/-- The transposed weights' sixteen stores, the last one first. -/
abbrev LW : List (View.Piece (Elt F) S192x1024 .f32) :=
  [whi arg10 harg10 x8 7, wlo arg10 harg10 x8 7, whi arg10 harg10 x8 6, wlo arg10 harg10 x8 6, whi arg10 harg10 x8 5, wlo arg10 harg10 x8 5, whi arg10 harg10 x8 4, wlo arg10 harg10 x8 4,
   whi arg10 harg10 x8 3, wlo arg10 harg10 x8 3, whi arg10 harg10 x8 2, wlo arg10 harg10 x8 2, whi arg10 harg10 x8 1, wlo arg10 harg10 x8 1, whi arg10 harg10 x8 0, wlo arg10 harg10 x8 0]
/-- The transposed bias's two stores, the last one first. -/
abbrev LB : List (View.Piece (Elt F) S192x128 .f32) :=
  [⟨Rect.unit (s := S192x128) ![128, 0] S64x128.size inb_bhi, k0_pay20 (k0_pay19 (View.readAt (Elt F) arg11.view (Rect.unit (s := S1x192) ![0, 128] S1x64.size inb_chi).toLoadRect (harg11.unread x9)))⟩,
   ⟨Rect.unit (s := S192x128) ![0, 0] S128x128.size inb_blo, k0_pay18 (View.readAt (Elt F) arg11.view (Rect.unit (s := S1x192) ![0, 0] S1x128.size inb_clo).toLoadRect (harg11.unread x9))⟩]
end Transposes

variable (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (xs2 : Vec F S192x1024 .f32) (xs3 : Vec F S192x128 .f32)

/-- The four quarters of the normalised second product. -/
def zbsP (a : Fin 8 → Vec F S1x384x128 .bf16) (n : Fin 4) : FVec F S384x256 .f32 :=
  zb a (wP arg5 harg5 x3 n) (rowP arg6 harg6 x4 n) (rowP arg7 harg7 x5 n) (rowP arg8 harg8 x6 n) (rowP arg9 harg9 x7 n)

theorem storesB (hc0 : ¬cond0_0 i) :
    let a := fun j => arg16.view.readCov (L8 (actP arg3 harg3 arg4 harg4 x1 x2)) (slot j).toLoadRect
    let zs := zbsP arg5 harg5 arg6 harg6 arg7 harg7 arg8 harg8 arg9 harg9 x3 x4 x5 x6 x7 a
    let s := sP (hidP (lenP c i xt0) zs (View.readAt (Elt F) arg18.view (Rect.unit (s := S192x1024) ![0, 0] S192x1024.size inb_S192x1024_S192x1024_0_0).toLoadRect (harg18.unread xs2))
      (View.readAt (Elt F) arg19.view (Rect.unit (s := S192x128) ![0, 0] S192x128.size inb_S192x128_S192x128_0_0).toLoadRect (harg19.unread xs3))) (uP arg12 harg12 x10)
      (View.readAt (Elt F) arg13.view (Rect.unit (s := S1x1024) ![0, 0] S1x1024.size inb_S1x1024_S1x1024_0_0).toLoadRect (harg13.unread x11))
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0 xs2 xs3).1 = LL fun j => oP j s (arg17.view.readCov (L8 (zparts zs)) (slot j).toLoadRect) (xP arg2 harg2 x0 j) := by
  intro a zs s
  rfl

theorem rowsB (hc0 : ¬cond0_0 i) :
    let a := fun j => arg16.view.readCov (L8 (actP arg3 harg3 arg4 harg4 x1 x2)) (slot j).toLoadRect
    let zs := zbsP arg5 harg5 arg6 harg6 arg7 harg7 arg8 harg8 arg9 harg9 x3 x4 x5 x6 x7 a
    let s := sP (hidP (lenP c i xt0) zs (View.readAt (Elt F) arg18.view (Rect.unit (s := S192x1024) ![0, 0] S192x1024.size inb_S192x1024_S192x1024_0_0).toLoadRect (harg18.unread xs2))
      (View.readAt (Elt F) arg19.view (Rect.unit (s := S192x128) ![0, 0] S192x128.size inb_S192x128_S192x128_0_0).toLoadRect (harg19.unread xs3))) (uP arg12 harg12 x10)
      (View.readAt (Elt F) arg13.view (Rect.unit (s := S1x1024) ![0, 0] S1x1024.size inb_S1x1024_S1x1024_0_0).toLoadRect (harg13.unread x11))
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0 xs2 xs3).2.1 = [⟨Rect.unit (s := S28x1024) (k0_off2 i) S1x1024.size (k0_off2_inb i), s⟩] := by
  intro a zs s
  rfl

theorem storesA (hc0 : cond0_0 i) :
    let a := fun j => arg16.view.readCov (L8 (actP arg3 harg3 arg4 harg4 x1 x2)) (slot j).toLoadRect
    let zs := zbsP arg5 harg5 arg6 harg6 arg7 harg7 arg8 harg8 arg9 harg9 x3 x4 x5 x6 x7 a
    let s := sP (hidP (lenP c i xt0) zs (arg18.view.readCov (LW arg10 harg10 x8) (Rect.unit (s := S192x1024) ![0, 0] S192x1024.size inb_S192x1024_S192x1024_0_0).toLoadRect)
      (arg19.view.readCov (LB arg11 harg11 x9) (Rect.unit (s := S192x128) ![0, 0] S192x128.size inb_S192x128_S192x128_0_0).toLoadRect)) (uP arg12 harg12 x10)
      (View.readAt (Elt F) arg13.view (Rect.unit (s := S1x1024) ![0, 0] S1x1024.size inb_S1x1024_S1x1024_0_0).toLoadRect (harg13.unread x11))
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).1 = LL fun j => oP j s (arg17.view.readCov (L8 (zparts zs)) (slot j).toLoadRect) (xP arg2 harg2 x0 j) := by
  intro a zs s
  rfl

theorem rowsA (hc0 : cond0_0 i) :
    let a := fun j => arg16.view.readCov (L8 (actP arg3 harg3 arg4 harg4 x1 x2)) (slot j).toLoadRect
    let zs := zbsP arg5 harg5 arg6 harg6 arg7 harg7 arg8 harg8 arg9 harg9 x3 x4 x5 x6 x7 a
    let s := sP (hidP (lenP c i xt0) zs (arg18.view.readCov (LW arg10 harg10 x8) (Rect.unit (s := S192x1024) ![0, 0] S192x1024.size inb_S192x1024_S192x1024_0_0).toLoadRect)
      (arg19.view.readCov (LB arg11 harg11 x9) (Rect.unit (s := S192x128) ![0, 0] S192x128.size inb_S192x128_S192x128_0_0).toLoadRect)) (uP arg12 harg12 x10)
      (View.readAt (Elt F) arg13.view (Rect.unit (s := S1x1024) ![0, 0] S1x1024.size inb_S1x1024_S1x1024_0_0).toLoadRect (harg13.unread x11))
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.1 = [⟨Rect.unit (s := S28x1024) (k0_off2 i) S1x1024.size (k0_off2_inb i), s⟩] := by
  intro a zs s
  rfl

theorem carryW (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.1 = LW arg10 harg10 x8 := rfl

theorem carryB (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.2.1 = LB arg11 harg11 x9 := rfl

end Cert.TailIdeal.Val
-- ==== Proof.T.Point.lean ====
/- What one grid point of the tail kernel leaves, over the extended reals: the problem's formulas of that sample's
   blocks. -/
module

public import proofs.«01_k».proof.Proof.T.Vals
public import Idealize.ShloMosaic.Lib.WholeRead

@[expose] public section

set_option maxRecDepth 16384

noncomputable section

namespace Cert.TailIdeal.Val

open Idealize.ShloMosaic Idealize.ShloMosaic.TcCoe Idealize.SL.Sem
open Cert.TailIdeal Cert.TailIdeal.Gen

/-! ## The formulas -/

/-- The dequantised activations. -/
def Av (cc : Fin 384 → Fin 1024 → EReal) (cs : Fin 384 → Fin 32 → EReal) (t : Fin 384) (k : Fin 1024) : EReal :=
  cc t k * cs t ⟨k.val / 32, by omega⟩
/-- The normalised second product. -/
def Zv (A : Fin 384 → Fin 1024 → EReal) (w : Fin 1024 → Fin 1024 → EReal) (ws b g e : Fin 1024 → EReal) (t : Fin 384) (d : Fin 1024) : EReal :=
  max ((∑ k : Fin 1024, A t k * w k d) * ws d + b d) 0 * g d + e d
/-- The hidden squeeze vector. -/
def Hv (len : BitVec 32) (Z : Fin 384 → Fin 1024 → EReal) (w1 : Fin 1024 → Fin 192 → EReal) (b1 : Fin 192 → EReal) (c : Fin 192) : EReal :=
  max ((∑ d : Fin 1024, w1 d c * Ideal.div (∑ t : Fin 384, Scalar.select (Scalar.cmpi .slt (BitVec.ofNat 32 t.val) len) (Z t d) 0) (FloatOps.sitofp (F := Ideal) .f32 len)) + b1 c) 0
/-- The squeeze vector. -/
def Sv (H : Fin 192 → EReal) (w2 : Fin 192 → Fin 1024 → EReal) (b2 : Fin 1024 → EReal) (d : Fin 1024) : EReal :=
  Ideal.logistic ((∑ c : Fin 192, w2 c d * H c) + b2 d)

/-! ## The loads, at an index -/

section Loads

theorem rowP_apply (arg : Memref sig .tc .vmem S1x1024 .f32) (harg : arg.IsWhole) (x : Vec Ideal S1x1024 .f32) (n : Fin 4) (q : Fin 256) :
    rowP arg harg x n (ix2 0 q) = x (ix2 0 ⟨256 * n.val + q.val, by omega⟩) := by
  rw [rowP, harg.readAt_unread]
  refine congrArg x ?_
  funext a; refine Fin.ext ?_
  match a with
  | 0 => rfl
  | 1 => show 256 * n.val + 1 * q.val = 256 * n.val + q.val; omega

theorem wP_apply (arg : Memref sig .tc .vmem S1024x1024 .fp8e4m3) (harg : arg.IsWhole) (x : Vec Ideal S1024x1024 .fp8e4m3) (n : Fin 4) (k : Fin 1024) (q : Fin 256) :
    wP arg harg x n (ix2 k q) = x (ix2 k ⟨256 * n.val + q.val, by omega⟩) := by
  rw [wP, harg.readAt_unread]
  refine congrArg x ?_
  funext a; refine Fin.ext ?_
  match a with
  | 0 => show 0 + 1 * k.val = k.val; omega
  | 1 => show 256 * n.val + 1 * q.val = 256 * n.val + q.val; omega

theorem uP_apply (arg : Memref sig .tc .vmem S192x1024 .f32) (harg : arg.IsWhole) (x : Vec Ideal S192x1024 .f32) (j : Fin 8) (k : Fin 192) (l : Fin 128) :
    uP arg harg x j (ix2 k l) = x (ix2 k ⟨128 * j.val + l.val, by omega⟩) := by
  rw [uP, harg.readAt_unread]
  refine congrArg x ?_
  funext a; refine Fin.ext ?_
  match a with
  | 0 => show 0 + 1 * k.val = k.val; omega
  | 1 => show 128 * j.val + 1 * l.val = 128 * j.val + l.val; omega

theorem lane_idx (j : Fin 8) (t : Fin 384) (l : Fin 128) :
    ((lane j).toLoadRect.idx (ix3 0 t l) : S1x384x1024.Idx) = ix3 0 t ⟨128 * j.val + l.val, by omega⟩ := by
  funext a; refine Fin.ext ?_
  match a with
  | 0 => rfl
  | 1 => show 0 + 1 * t.val = t.val; omega
  | 2 => show 128 * j.val + 1 * l.val = 128 * j.val + l.val; omega

theorem xP_apply (arg : Memref sig .tc .vmem S1x384x1024 .bf16) (harg : arg.IsWhole) (x : Vec Ideal S1x384x1024 .bf16) (j : Fin 8) (t : Fin 384) (l : Fin 128) :
    xP arg harg x j (ix3 0 t l) = x (ix3 0 t ⟨128 * j.val + l.val, by omega⟩) :=
  (harg.readAt_unread x (lane j).toLoadRect (ix3 0 t l)).trans (congrArg x (lane_idx j t l))

theorem scale_apply (arg : Memref sig .tc .vmem S1x384x32 .f32) (harg : arg.IsWhole) (x : Vec Ideal S1x384x32 .f32) (k : Fin 32) (t : Fin 384) :
    View.readAt (Elt Ideal) arg.view (Rect.unit (s := S1x384x32) ![0, 0, k.val] S1x384x1.size (inb_scale k)).toLoadRect (harg.unread x) (ix3 0 t 0) = x (ix3 0 t k) := by
  rw [harg.readAt_unread]
  refine congrArg x ?_
  funext a; refine Fin.ext ?_
  match a with
  | 0 => rfl
  | 1 => show 0 + 1 * t.val = t.val; omega
  | 2 => show k.val + 1 * 0 = k.val; omega

theorem actP_apply (arg3 : Memref sig .tc .vmem S1x384x1024 .fp8e4m3) (harg3 : arg3.IsWhole) (arg4 : Memref sig .tc .vmem S1x384x32 .f32) (harg4 : arg4.IsWhole)
    (x1 : Vec Ideal S1x384x1024 .fp8e4m3) (x2 : Vec Ideal S1x384x32 .f32) (j : Fin 8) (t : Fin 384) (l : Fin 128) :
    actP arg3 harg3 arg4 harg4 x1 x2 j (ix3 0 t l) = Av (fun t k => x1 (ix3 0 t k)) (fun t k => x2 (ix3 0 t k)) t ⟨128 * j.val + l.val, by omega⟩ :=
  act_apply _ _ _ _ _ (fun t k => x1 (ix3 0 t k)) (fun t k => x2 (ix3 0 t k)) j
    (fun t => scale_apply arg4 harg4 x2 ⟨4 * j.val, by omega⟩ t) (fun t => scale_apply arg4 harg4 x2 ⟨4 * j.val + 1, by omega⟩ t)
    (fun t => scale_apply arg4 harg4 x2 ⟨4 * j.val + 2, by omega⟩ t) (fun t => scale_apply arg4 harg4 x2 ⟨4 * j.val + 3, by omega⟩ t)
    (fun t l => (harg3.readAt_unread x1 (lane j).toLoadRect (ix3 0 t l)).trans (congrArg x1 (lane_idx j t l))) t l

theorem whole_apply {S : Shape} {e : EltTy} (arg : Memref sig .tc .vmem S e) (harg : arg.IsWhole) (x : Vec Ideal S e) (off : Fin S.rank → ℕ) (inb) (h : ∀ a, off a = 0) (y : S.Idx) :
    View.readAt (Elt Ideal) arg.view (Rect.unit (s := S) off S.size inb).toLoadRect (harg.unread x) y = x y := by
  refine (harg.readAt_unread x (Rect.unit (s := S) off S.size inb).toLoadRect y).trans (congrArg x ?_)
  funext a; refine Fin.ext ?_
  show off a + 1 * (y a).val = (y a).val
  rw [h]; omega

end Loads

/-! ## The transposed scratches -/

section Transposes
variable (arg10 : Memref sig .tc .vmem S1024x192 .f32) (harg10 : arg10.IsWhole) (x8 : Vec Ideal S1024x192 .f32)
  (arg11 : Memref sig .tc .vmem S1x192 .f32) (harg11 : arg11.IsWhole) (x9 : Vec Ideal S1x192 .f32)

theorem pay2_apply (v : FVec Ideal S128x128 .f32) (a b : Fin 128) : k0_pay2 (F := Ideal) v (ix2 a b) = v (ix2 b a) := by
  pointwise [k0_pay2]
theorem pay3_apply (v : FVec Ideal S128x64 .f32) (a : Fin 64) (b : Fin 128) : k0_pay3 (F := Ideal) v (ix2 a b) = v (ix2 b a) := by
  pointwise [k0_pay3]
theorem pay18_apply (v : FVec Ideal S1x128 .f32) (a b : Fin 128) : k0_pay18 (F := Ideal) v (ix2 a b) = v (ix2 0 a) := by
  pointwise [k0_pay18]
theorem pay19_apply (v : FVec Ideal S1x64 .f32) (a : Fin 64) (b : Fin 128) : k0_pay20 (F := Ideal) (k0_pay19 v) (ix2 a b) = v (ix2 0 a) := by
  pointwise [k0_pay19, k0_pay20]

/-- The transposed weights. -/
def GW : Vec Ideal S192x1024 .f32 := fun y => x8 (ix2 (y 1) (y 0))
/-- The bias down the rows, repeated along the lanes. -/
def GB : Vec Ideal S192x128 .f32 := fun y => x9 (ix2 0 (y 0))

theorem wlo_G (k : Fin 8) (x : (wlo (F := Ideal) arg10 harg10 x8 k).1.shape.Idx) : (wlo arg10 harg10 x8 k).2 x = GW x8 ((wlo (F := Ideal) arg10 harg10 x8 k).1.emb x) := by
  obtain ⟨a, b, rfl⟩ : ∃ (a b : Fin 128), x = (ix2 a b : S128x128.Idx) := ⟨x 0, x 1, by funext i; match i with | 0 => rfl | 1 => rfl⟩
  refine (pay2_apply (View.readAt (Elt Ideal) arg10.view (Rect.unit (s := S1024x192) ![128 * k.val, 0] S128x128.size (inb_slo k)).toLoadRect (harg10.unread x8)) a b).trans ?_
  rw [harg10.readAt_unread]; refine congrArg x8 ?_
  funext i; refine Fin.ext ?_
  match i with
  | 0 => rfl
  | 1 => rfl

theorem whi_G (k : Fin 8) (x : (whi (F := Ideal) arg10 harg10 x8 k).1.shape.Idx) : (whi arg10 harg10 x8 k).2 x = GW x8 ((whi (F := Ideal) arg10 harg10 x8 k).1.emb x) := by
  obtain ⟨a, b, rfl⟩ : ∃ (a : Fin 64) (b : Fin 128), x = (ix2 a b : S64x128.Idx) := ⟨x 0, x 1, by funext i; match i with | 0 => rfl | 1 => rfl⟩
  refine (pay3_apply (View.readAt (Elt Ideal) arg10.view (Rect.unit (s := S1024x192) ![128 * k.val, 128] S128x64.size (inb_shi k)).toLoadRect (harg10.unread x8)) a b).trans ?_
  rw [harg10.readAt_unread]; refine congrArg x8 ?_
  funext i; refine Fin.ext ?_
  match i with
  | 0 => rfl
  | 1 => rfl

theorem pieces_W : View.PiecesOf (GW x8) (LW (F := Ideal) arg10 harg10 x8) :=
  ⟨whi_G _ _ _ 7, wlo_G _ _ _ 7, whi_G _ _ _ 6, wlo_G _ _ _ 6, whi_G _ _ _ 5, wlo_G _ _ _ 5, whi_G _ _ _ 4, wlo_G _ _ _ 4,
   whi_G _ _ _ 3, wlo_G _ _ _ 3, whi_G _ _ _ 2, wlo_G _ _ _ 2, whi_G _ _ _ 1, wlo_G _ _ _ 1, whi_G _ _ _ 0, wlo_G _ _ _ 0, trivial⟩

theorem mem_wlo (k : Fin 8) : wlo (F := Ideal) arg10 harg10 x8 k ∈ LW (F := Ideal) arg10 harg10 x8 := by
  match k with
  | 7 => exact .tail _ (.head _)
  | 6 => exact .tail _ (.tail _ (.tail _ (.head _)))
  | 5 => exact .tail _ (.tail _ (.tail _ (.tail _ (.tail _ (.head _)))))
  | 4 => exact .tail _ (.tail _ (.tail _ (.tail _ (.tail _ (.tail _ (.tail _ (.head _)))))))
  | 3 => exact .tail _ (.tail _ (.tail _ (.tail _ (.tail _ (.tail _ (.tail _ (.tail _ (.tail _ (.head _)))))))))
  | 2 => exact .tail _ (.tail _ (.tail _ (.tail _ (.tail _ (.tail _ (.tail _ (.tail _ (.tail _ (.tail _ (.tail _ (.head _)))))))))))
  | 1 => exact .tail _ (.tail _ (.tail _ (.tail _ (.tail _ (.tail _ (.tail _ (.tail _ (.tail _ (.tail _ (.tail _ (.tail _ (.tail _ (.head _)))))))))))))
  | 0 => exact .tail _ (.tail _ (.tail _ (.tail _ (.tail _ (.tail _ (.tail _ (.tail _ (.tail _ (.tail _ (.tail _ (.tail _ (.tail _ (.tail _ (.tail _ (.head _)))))))))))))))
theorem mem_whi (k : Fin 8) : whi (F := Ideal) arg10 harg10 x8 k ∈ LW (F := Ideal) arg10 harg10 x8 := by
  match k with
  | 7 => exact .head _
  | 6 => exact .tail _ (.tail _ (.head _))
  | 5 => exact .tail _ (.tail _ (.tail _ (.tail _ (.head _))))
  | 4 => exact .tail _ (.tail _ (.tail _ (.tail _ (.tail _ (.tail _ (.head _))))))
  | 3 => exact .tail _ (.tail _ (.tail _ (.tail _ (.tail _ (.tail _ (.tail _ (.tail _ (.head _))))))))
  | 2 => exact .tail _ (.tail _ (.tail _ (.tail _ (.tail _ (.tail _ (.tail _ (.tail _ (.tail _ (.tail _ (.head _))))))))))
  | 1 => exact .tail _ (.tail _ (.tail _ (.tail _ (.tail _ (.tail _ (.tail _ (.tail _ (.tail _ (.tail _ (.tail _ (.tail _ (.head _))))))))))))
  | 0 => exact .tail _ (.tail _ (.tail _ (.tail _ (.tail _ (.tail _ (.tail _ (.tail _ (.tail _ (.tail _ (.tail _ (.tail _ (.tail _ (.tail _ (.head _))))))))))))))

theorem canon_W : View.canon (LW (F := Ideal) arg10 harg10 x8) = GW x8 := by
  funext y
  have h0 : (y 0).val < 192 := (y 0).isLt
  have h1 : (y 1).val < 1024 := (y 1).isLt
  have h := View.canon_append_of_piecesOf (GW x8) [] (LW (F := Ideal) arg10 harg10 x8) (pieces_W arg10 harg10 x8) y ?_
  · rwa [List.append_nil] at h
  · by_cases hy : (y 0).val < 128
    · refine ⟨_, mem_wlo arg10 harg10 x8 ⟨(y 1).val / 128, by omega⟩, (LoadRect.mem_set _).mpr fun a => ?_⟩
      match a with
      | 0 => exact ⟨(y 0).val, hy, by show (y 0).val = 0 + 1 * (y 0).val; omega⟩
      | 1 => exact ⟨(y 1).val % 128, Nat.mod_lt _ (by omega), by show (y 1).val = 128 * ((y 1).val / 128) + 1 * ((y 1).val % 128); omega⟩
    · refine ⟨_, mem_whi arg10 harg10 x8 ⟨(y 1).val / 128, by omega⟩, (LoadRect.mem_set _).mpr fun a => ?_⟩
      match a with
      | 0 => exact ⟨(y 0).val - 128, by show _ < 64; omega, by show (y 0).val = 128 + 1 * ((y 0).val - 128); omega⟩
      | 1 => exact ⟨(y 1).val % 128, Nat.mod_lt _ (by omega), by show (y 1).val = 128 * ((y 1).val / 128) + 1 * ((y 1).val % 128); omega⟩

theorem pieces_B : View.PiecesOf (GB x9) (LB (F := Ideal) arg11 harg11 x9) := by
  refine ⟨fun x => ?_, fun x => ?_, trivial⟩
  · obtain ⟨a, b, rfl⟩ : ∃ (a : Fin 64) (b : Fin 128), x = (ix2 a b : S64x128.Idx) := ⟨x 0, x 1, by funext i; match i with | 0 => rfl | 1 => rfl⟩
    refine (pay19_apply (View.readAt (Elt Ideal) arg11.view (Rect.unit (s := S1x192) ![0, 128] S1x64.size inb_chi).toLoadRect (harg11.unread x9)) a b).trans ?_
    rw [harg11.readAt_unread]; refine congrArg x9 ?_
    funext i; refine Fin.ext ?_
    match i with
    | 0 => rfl
    | 1 => rfl
  · obtain ⟨a, b, rfl⟩ : ∃ (a b : Fin 128), x = (ix2 a b : S128x128.Idx) := ⟨x 0, x 1, by funext i; match i with | 0 => rfl | 1 => rfl⟩
    refine (pay18_apply (View.readAt (Elt Ideal) arg11.view (Rect.unit (s := S1x192) ![0, 0] S1x128.size inb_clo).toLoadRect (harg11.unread x9)) a b).trans ?_
    rw [harg11.readAt_unread]; refine congrArg x9 ?_
    funext i; refine Fin.ext ?_
    match i with
    | 0 => rfl
    | 1 => rfl

theorem canon_B : View.canon (LB (F := Ideal) arg11 harg11 x9) = GB x9 := by
  funext y
  have h0 : (y 0).val < 192 := (y 0).isLt
  have h1 : (y 1).val < 128 := (y 1).isLt
  have h := View.canon_append_of_piecesOf (GB x9) [] (LB (F := Ideal) arg11 harg11 x9) (pieces_B arg11 harg11 x9) y ?_
  · rwa [List.append_nil] at h
  · by_cases hy : (y 0).val < 128
    · refine ⟨_, .tail _ (.head _), (LoadRect.mem_set _).mpr fun a => ?_⟩
      match a with
      | 0 => exact ⟨(y 0).val, hy, by show (y 0).val = 0 + 1 * (y 0).val; omega⟩
      | 1 => exact ⟨(y 1).val, h1, by show (y 1).val = 0 + 1 * (y 1).val; omega⟩
    · refine ⟨_, .head _, (LoadRect.mem_set _).mpr fun a => ?_⟩
      match a with
      | 0 => exact ⟨(y 0).val - 128, by show _ < 64; omega, by show (y 0).val = 128 + 1 * ((y 0).val - 128); omega⟩
      | 1 => exact ⟨(y 1).val, h1, by show (y 1).val = 0 + 1 * (y 1).val; omega⟩

end Transposes

/-! ## A point's results -/

section Point

variable (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole)
    (x0 : Vec Ideal S1x384x1024 .bf16) (x1 : Vec Ideal S1x384x1024 .fp8e4m3) (x2 : Vec Ideal S1x384x32 .f32) (x3 : Vec Ideal S1024x1024 .fp8e4m3) (x4 : Vec Ideal S1x1024 .f32) (x5 : Vec Ideal S1x1024 .f32) (x6 : Vec Ideal S1x1024 .f32) (x7 : Vec Ideal S1x1024 .f32) (x8 : Vec Ideal S1024x192 .f32) (x9 : Vec Ideal S1x192 .f32) (x10 : Vec Ideal S192x1024 .f32) (x11 : Vec Ideal S1x1024 .f32) (x13 : Vec Ideal S28x1024 .f32) (xt0 : TbBuf0 (F := Ideal) c tbM0_0) (xs2 : Vec Ideal S192x1024 .f32) (xs3 : Vec Ideal S192x128 .f32)

/-- The squeeze vector a point computes, from the loaded squeeze operands. -/
def pS (w1 : Fin 1024 → Fin 192 → EReal) (b1 : Fin 192 → EReal) (len : BitVec 32) : Fin 1024 → EReal :=
  Sv (Hv len (Zv (Av (fun t k => x1 (ix3 0 t k)) (fun t k => x2 (ix3 0 t k))) (fun k d => x3 (ix2 k d)) (fun d => x4 (ix2 0 d)) (fun d => x5 (ix2 0 d)) (fun d => x6 (ix2 0 d)) (fun d => x7 (ix2 0 d))) w1 b1)
    (fun k d => x10 (ix2 k d)) (fun d => x11 (ix2 0 d))

/-- The result block a point computes. -/
def pO (w1 : Fin 1024 → Fin 192 → EReal) (b1 : Fin 192 → EReal) (len : BitVec 32) (t : Fin 384) (d : Fin 1024) : EReal :=
  Zv (Av (fun t k => x1 (ix3 0 t k)) (fun t k => x2 (ix3 0 t k))) (fun k d => x3 (ix2 k d)) (fun d => x4 (ix2 0 d)) (fun d => x5 (ix2 0 d)) (fun d => x6 (ix2 0 d)) (fun d => x7 (ix2 0 d)) t d
    * pS x1 x2 x3 x4 x5 x6 x7 x10 x11 w1 b1 len d + x0 (ix3 0 t d)

theorem zbs_apply (n : Fin 4) (t : Fin 384) (q : Fin 256) :
    zbsP (F := Ideal) arg5 harg5 arg6 harg6 arg7 harg7 arg8 harg8 arg9 harg9 x3 x4 x5 x6 x7 (fun j => arg16.view.readCov (L8 (actP arg3 harg3 arg4 harg4 x1 x2)) (slot j).toLoadRect) n (ix2 t q)
      = Zv (Av (fun t k => x1 (ix3 0 t k)) (fun t k => x2 (ix3 0 t k))) (fun k d => x3 (ix2 k d)) (fun d => x4 (ix2 0 d)) (fun d => x5 (ix2 0 d)) (fun d => x6 (ix2 0 d)) (fun d => x7 (ix2 0 d)) t ⟨256 * n.val + q.val, by omega⟩ := by
  refine (zb_apply _ _ _ _ _ _ (Av (fun t k => x1 (ix3 0 t k)) (fun t k => x2 (ix3 0 t k))) (fun j t l => ?_) t q).trans ?_
  · rw [read8]
    exact (actP_apply arg3 harg3 arg4 harg4 x1 x2 j t l).trans (congrArg (Av _ _ t) (Fin.ext (by show 128 * j.val + l.val = j.val * 128 + l.val; omega)))
  · simp only [rowP_apply, wP_apply]
    rfl

theorem s_apply (w1 : Fin 1024 → Fin 192 → EReal) (b1 : Fin 192 → EReal) (len : BitVec 32) (wv : FVec Ideal S192x1024 .f32) (bv : FVec Ideal S192x128 .f32)
    (hw : ∀ k d, wv (ix2 k d) = w1 d k) (hb : ∀ k l, bv (ix2 k l) = b1 k) (d : Fin 1024) :
    sP (F := Ideal) (hidP (F := Ideal) len (zbsP arg5 harg5 arg6 harg6 arg7 harg7 arg8 harg8 arg9 harg9 x3 x4 x5 x6 x7 (fun j => arg16.view.readCov (L8 (actP arg3 harg3 arg4 harg4 x1 x2)) (slot j).toLoadRect)) wv bv) (uP arg12 harg12 x10)
      (View.readAt (Elt Ideal) arg13.view (Rect.unit (s := S1x1024) ![0, 0] S1x1024.size inb_S1x1024_S1x1024_0_0).toLoadRect (harg13.unread x11)) (ix2 0 d)
      = pS x1 x2 x3 x4 x5 x6 x7 x10 x11 w1 b1 len d := by
  refine (sP_apply _ _ _ (fun k d => x10 (ix2 k d)) (fun j k l => uP_apply arg12 harg12 x10 j k l)
    (Hv len (Zv (Av (fun t k => x1 (ix3 0 t k)) (fun t k => x2 (ix3 0 t k))) (fun k d => x3 (ix2 k d)) (fun d => x4 (ix2 0 d)) (fun d => x5 (ix2 0 d)) (fun d => x6 (ix2 0 d)) (fun d => x7 (ix2 0 d))) w1 b1)
    (fun k l => ?_) d).trans ?_
  · refine (hidP_apply len _ wv bv _ (zbs_apply arg3 harg3 arg4 harg4 arg5 harg5 arg6 harg6 arg7 harg7 arg8 harg8 arg9 harg9 arg16 x1 x2 x3 x4 x5 x6 x7) k l).trans ?_
    simp only [hw, hb]
    rfl
  · rw [whole_apply arg13 harg13 x11 _ _ (by decide)]
    rfl

theorem o_apply (w1 : Fin 1024 → Fin 192 → EReal) (b1 : Fin 192 → EReal) (len : BitVec 32) (s : FVec Ideal S1x1024 .f32)
    (hs : ∀ d, s (ix2 0 d) = pS x1 x2 x3 x4 x5 x6 x7 x10 x11 w1 b1 len d) {κ : Kind} {sp : Space} (v : View sig κ sp S1x384x1024 .bf16) (t : Fin 384) (d : Fin 1024) :
    v.read (Elt Ideal) (v.writes (Elt Ideal) v.junk (LL fun j => oP (F := Ideal) j s (arg17.view.readCov (L8 (zparts (F := Ideal) (zbsP arg5 harg5 arg6 harg6 arg7 harg7 arg8 harg8 arg9 harg9 x3 x4 x5 x6 x7 (fun j => arg16.view.readCov (L8 (actP arg3 harg3 arg4 harg4 x1 x2)) (slot j).toLoadRect)))) (slot j).toLoadRect) (xP arg2 harg2 x0 j))) (ix3 0 t d)
      = pO x0 x1 x2 x3 x4 x5 x6 x7 x10 x11 w1 b1 len t d := by
  obtain ⟨j, l, rfl⟩ : ∃ (j : Fin 8) (l : Fin 128), d = ⟨128 * j.val + l.val, by omega⟩ :=
    ⟨⟨d.val / 128, by omega⟩, ⟨d.val % 128, by omega⟩, Fin.ext (by show d.val = 128 * (d.val / 128) + d.val % 128; omega)⟩
  refine (readL v _ j t l).trans ((oP_apply j s _ _ t l).trans ?_)
  rw [read8, hs, xP_apply, zparts_apply _ _ (zbs_apply arg3 harg3 arg4 harg4 arg5 harg5 arg6 harg6 arg7 harg7 arg8 harg8 arg9 harg9 arg16 x1 x2 x3 x4 x5 x6 x7)]
  rfl

end Point

end Cert.TailIdeal.Val
-- ==== Proof.T.Frame.lean ====
/- The proof data of the tail kernel: what each window's staging buffer holds after each grid point, the
   invariant between the points, the body obligation, and the run of the whole program.  The output of the
   squeeze vectors (window 13) is one block for the whole grid that each point writes one row of; its buffer is
   held to a predicate, "the rows of the points so far are the rows those points computed". -/
module

public import proofs.«01_k».proof.Proof.T.RunA
public import proofs.«01_k».proof.Proof.T.RunB
public import Idealize.ShloMosaic.Lib.Claim
public import Idealize.ShloMosaic.Lib.WritesUnit
public import Idealize.ShloMosaic.Lib.Pointwise
public import Idealize.ShloMosaic.Lib.Pipeline.DatRel

@[expose] public section

-- membership in a rectangle of production extents (`View.cover_of_tiled`): the elaborator's structural look
-- recurses once per coordinate of the long axes
set_option maxRecDepth 16384

noncomputable section

namespace Cert.TailIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces of each case -/

/-- The stores of the first point into the result block cover it. -/
theorem cover0_A_12 (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (y : S1x384x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).1 S1x384x128.size (by sl_kernel_rfl) y

/-- The stores of the first point into the transposed weight cover it. -/
theorem scover0_A_2 (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (y : S192x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.1 ![64, 128] (by sl_kernel_rfl) y

/-- The stores of the first point into the transposed bias cover it. -/
theorem scover0_A_3 (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (y : S192x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.2.2.1 ![64, 128] (by sl_kernel_rfl) y

/-- The stores of a later point into the result block cover it. -/
theorem cover0_B_12 (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole) (hc0 : ¬cond0_0 i)
    (x0 : Vec F S1x384x1024 .bf16) (x1 : Vec F S1x384x1024 .fp8e4m3) (x2 : Vec F S1x384x32 .f32) (x3 : Vec F S1024x1024 .fp8e4m3) (x4 : Vec F S1x1024 .f32) (x5 : Vec F S1x1024 .f32) (x6 : Vec F S1x1024 .f32) (x7 : Vec F S1x1024 .f32) (x8 : Vec F S1024x192 .f32) (x9 : Vec F S1x192 .f32) (x10 : Vec F S192x1024 .f32) (x11 : Vec F S1x1024 .f32) (x13 : Vec F S28x1024 .f32) (xt0 : TbBuf0 (F := F) c tbM0_0) (xs2 : Vec F S192x1024 .f32) (xs3 : Vec F S192x128 .f32) (y : S1x384x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0 xs2 xs3).1 S1x384x128.size (by sl_kernel_rfl) y

/-- The whole block of squeeze vectors, as a view to read pieces back through. -/
abbrev VO0_13 : View sig .tc .vmem S28x1024 .f32 := (Memref.whole cc0_stg13_0 : Memref sig .tc .vmem S28x1024 .f32).view
/-- Some contents of that block. -/
def any13 : Vec F S28x1024 .f32 := VO0_13.read (Elt F) VO0_13.junk

/-- The rectangle of the row a point writes. -/
theorem off2_eq (t : Fin grid0.N) : k0_off2 (grid0.coords t) = ![t.val, 0] := by
  have ht : t.val < 28 := Nat.lt_of_lt_of_eq t.isLt N_0
  have e0 : (grid0.coords t 0).val = t.val / 1 % 28 := Pipeline.Grid.coords_val t 0 (by decide) rfl
  have h : (BitVec.ofNat 32 (grid0.coords t 0).val).toNat = t.val := by
    rw [e0, BitVec.toNat_ofNat]; omega
  unfold k0_off2
  funext a
  fin_cases a
  · exact h
  · rfl

/-- Reading the block after one row was stored over anything: the row, or what was there. -/
theorem row_read {κ : Kind} {sp : Space} (v : View sig κ sp S28x1024 .f32) (f : v.ty.Contents (Elt F)) (t : Fin grid0.N)
    (p : S1x1024.Idx → Elt F .f32) (r : Fin 28) (l : Fin 1024) :
    v.read (Elt F) (v.writes (Elt F) f [⟨Rect.unit (s := S28x1024) (k0_off2 (grid0.coords t)) S1x1024.size (k0_off2_inb (grid0.coords t)), p⟩])
        (ix2 r l : S28x1024.Idx)
      = if r.val = t.val then p (ix2 0 l) else v.read (Elt F) f (ix2 r l) := by
  by_cases h : r.val = t.val
  · rw [if_pos h]
    exact View.read_writes_cons_rows_of_mem v f _ p [] _ (ix2 (0 : Fin 1) l : S1x1024.Idx) (off2_eq t)
      (by simpa using h) (by simp)
  · rw [if_neg h]
    exact View.read_writes_cons_rows_of_not_mem v f _ p [] _ (W := 1) (off2_eq t) rfl
      (by show r.val < t.val ∨ t.val + 1 ≤ r.val; omega)

/-- The result block a point of case A leaves. -/
def out0_A (hO : Ok m) (c : Dev nD) (t : Fin (cfgM m hO).N) (h0 : t.val % 28 = 0) : Vec F S1x384x1024 .bf16 :=
  VO0_12.read (Elt F) (VO0_12.writes (Elt F) VO0_12.junk (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0)).1)

/-- The row of squeeze vectors a point of case A leaves. -/
def row0_A (hO : Ok m) (c : Dev nD) (t : Fin (cfgM m hO).N) (h0 : t.val % 28 = 0) : Fin 1024 → Elt F .f32 := fun l =>
  VO0_13.read (Elt F) (VO0_13.writes (Elt F) VO0_13.junk (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0)).2.1) (ix2 (⟨t.val, lt_of_lt_of_eq t.isLt (show (cfgM m hO).N = 28 from N_0)⟩ : Fin 28) l : S28x1024.Idx)

/-- A point of case A leaves the other rows as they were. -/
theorem rows0_A (hO : Ok m) (c : Dev nD) (t : Fin (cfgM m hO).N) (h0 : t.val % 28 = 0) (x13 : Vec F S28x1024 .f32) {κ : Kind} {sp : Space}
    (v : View sig κ sp S28x1024 .f32) (f : v.ty.Contents (Elt F)) (r : Fin 28) (l : Fin 1024) :
    v.read (Elt F) (v.writes (Elt F) f (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) x13 (tbl m 0)).2.1) (ix2 r l : S28x1024.Idx)
      = if r.val = t.val then row0_A m hO c t h0 l else v.read (Elt F) f (ix2 r l) := by
  refine (row_read v f t _ r l).trans ?_
  by_cases h : r.val = t.val
  · rw [if_pos h, if_pos h]
    refine Eq.symm ((row_read VO0_13 VO0_13.junk t _ (⟨t.val, lt_of_lt_of_eq t.isLt (show (cfgM m hO).N = 28 from N_0)⟩ : Fin 28) l).trans ?_)
    rw [if_pos rfl]
  · rw [if_neg h, if_neg h]

/-- The result block a point of case B leaves. -/
def out0_B (hO : Ok m) (c : Dev nD) (t : Fin (cfgM m hO).N) (h0 : ¬t.val % 28 = 0) (xs2 : Vec F S192x1024 .f32) (xs3 : Vec F S192x128 .f32) : Vec F S1x384x1024 .bf16 :=
  VO0_12.read (Elt F) (VO0_12.writes (Elt F) VO0_12.junk (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0) xs2 xs3).1)

/-- The row of squeeze vectors a point of case B leaves. -/
def row0_B (hO : Ok m) (c : Dev nD) (t : Fin (cfgM m hO).N) (h0 : ¬t.val % 28 = 0) (xs2 : Vec F S192x1024 .f32) (xs3 : Vec F S192x128 .f32) : Fin 1024 → Elt F .f32 := fun l =>
  VO0_13.read (Elt F) (VO0_13.writes (Elt F) VO0_13.junk (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0) xs2 xs3).2.1) (ix2 (⟨t.val, lt_of_lt_of_eq t.isLt (show (cfgM m hO).N = 28 from N_0)⟩ : Fin 28) l : S28x1024.Idx)

/-- A point of case B leaves the other rows as they were. -/
theorem rows0_B (hO : Ok m) (c : Dev nD) (t : Fin (cfgM m hO).N) (h0 : ¬t.val % 28 = 0) (xs2 : Vec F S192x1024 .f32) (xs3 : Vec F S192x128 .f32) (x13 : Vec F S28x1024 .f32) {κ : Kind} {sp : Space}
    (v : View sig κ sp S28x1024 .f32) (f : v.ty.Contents (Elt F)) (r : Fin 28) (l : Fin 1024) :
    v.read (Elt F) (v.writes (Elt F) f (kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) x13 (tbl m 0) xs2 xs3).2.1) (ix2 r l : S28x1024.Idx)
      = if r.val = t.val then row0_B m hO c t h0 xs2 xs3 l else v.read (Elt F) f (ix2 r l) := by
  refine (row_read v f t _ r l).trans ?_
  by_cases h : r.val = t.val
  · rw [if_pos h, if_pos h]
    refine Eq.symm ((row_read VO0_13 VO0_13.junk t _ (⟨t.val, lt_of_lt_of_eq t.isLt (show (cfgM m hO).N = 28 from N_0)⟩ : Fin 28) l).trans ?_)
    rw [if_pos rfl]
  · rw [if_neg h, if_neg h]

/-- The transposed weight the first point leaves in its scratch. -/
def sout0_2 (hO : Ok m) (c : Dev nD) (t : Fin (cfgM m hO).N) (h0 : t.val % 28 = 0) : Vec F S192x1024 .f32 :=
  VS0_2.read (Elt F) (VS0_2.writes (Elt F) VS0_2.junk (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0)).2.2.1)

/-- The transposed bias the first point leaves in its scratch. -/
def sout0_3 (hO : Ok m) (c : Dev nD) (t : Fin (cfgM m hO).N) (h0 : t.val % 28 = 0) : Vec F S192x128 .f32 :=
  VS0_3.read (Elt F) (VS0_3.writes (Elt F) VS0_3.junk (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) any13 (tbl m 0)).2.2.2.1)

/-- There is a first point. -/
theorem exists_first (hO : Ok m) : ∃ t : Fin (cfgM m hO).N, t.val = 0 :=
  ⟨⟨0, by rw [show (cfgM m hO).N = 28 from N_0]; omega⟩, rfl⟩
/-- The first point. -/
def first (hO : Ok m) : Fin (cfgM m hO).N := (exists_first m hO).choose
theorem first_val (hO : Ok m) : (first m hO).val = 0 := (exists_first m hO).choose_spec
theorem first_mod (hO : Ok m) : (first m hO).val % 28 = 0 := by rw [first_val]

/-- The transposed weight the kernel carries between the points. -/
def w1t (hO : Ok m) (c : Dev nD) : Vec F S192x1024 .f32 := sout0_2 m hO c (first m hO) (first_mod m hO)
/-- The transposed bias the kernel carries between the points. -/
def b1t (hO : Ok m) (c : Dev nD) : Vec F S192x128 .f32 := sout0_3 m hO c (first m hO) (first_mod m hO)

/-- The result block after a point. -/
def outAt (hO : Ok m) (c : Dev nD) (t : Fin (cfgM m hO).N) : Vec F S1x384x1024 .bf16 :=
  if h0 : t.val % 28 = 0 then out0_A m hO c t h0 else out0_B m hO c t h0 (w1t m hO c) (b1t m hO c)
/-- The row of squeeze vectors a point writes. -/
def rowAt (hO : Ok m) (c : Dev nD) (t : Fin (cfgM m hO).N) : Fin 1024 → Elt F .f32 :=
  if h0 : t.val % 28 = 0 then row0_A m hO c t h0 else row0_B m hO c t h0 (w1t m hO c) (b1t m hO c)

/-- The invariant between the points: before the first one every scratch at anything; afterwards the two
    transposed arrays at what the first point put there. -/
def PhiS (hO : Ok m) (c : Dev nD) : ℕ → sProp 𝕄
  | 0 => iprop(Pipeline.ΦA spec0 c ∗ Pipeline.ΦT pre0 (tbl m) c)
  | _ + 1 => iprop(iprop(iprop((∃ d, owns (c : Thread nD τ) scM0_0 fullShare d) ∗ (∃ d, owns (c : Thread nD τ) scM0_1 fullShare d) ∗ owns (c : Thread nD τ) scM0_2 fullShare (w1t m hO c) ∗ owns (c : Thread nD τ) scM0_3 fullShare (b1t m hO c)) ∗ (∃ r, prngReg c r)) ∗ Pipeline.ΦT pre0 (tbl m) c)

theorem PhiS_zero (hO : Ok m) (c : Dev nD) (n : ℕ) (hz : n = 0) : PhiS m hO c n = iprop(Pipeline.ΦA spec0 c ∗ Pipeline.ΦT pre0 (tbl m) c) := by
  subst hz; rfl
theorem PhiS_pos (hO : Ok m) (c : Dev nD) (n : ℕ) (hz : n ≠ 0) : PhiS m hO c n = iprop(iprop(iprop((∃ d, owns (c : Thread nD τ) scM0_0 fullShare d) ∗ (∃ d, owns (c : Thread nD τ) scM0_1 fullShare d) ∗ owns (c : Thread nD τ) scM0_2 fullShare (w1t m hO c) ∗ owns (c : Thread nD τ) scM0_3 fullShare (b1t m hO c)) ∗ (∃ r, prngReg c r)) ∗ Pipeline.ΦT pre0 (tbl m) c) := by
  cases n with
  | zero => exact absurd rfl hz
  | succ n => rfl

/-- The proof data: the inputs at their blocks, the result block at `outAt`; the squeeze vectors' block is held
    to a predicate instead (`Rows`). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => outAt m hO c t
    | ⟨13, _⟩ => any13
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d

/-- Which windows are held to a predicate: the squeeze vectors' alone. -/
def held (hO : Ok m) : Fin (cfgM m hO).W → Bool
  | ⟨13, _⟩ => true
  | _ => false

/-- The predicate: after point `t` the rows of the points so far are what those points computed. -/
def Rows (hO : Ok m) (c : Dev nD) (t : Fin (cfgM m hO).N) (X : Vec F S28x1024 .f32) : Prop :=
  ∀ u : Fin (cfgM m hO).N, u.val ≤ t.val → ∀ (r : Fin 28) (l : Fin 1024), r.val = u.val → X (ix2 r l) = rowAt m hO c u l

/-- The same as the library's family of predicates. -/
def Rl (hO : Ok m) (c : Dev nD) : (w : Fin (cfgM m hO).W) → Fin (cfgM m hO).N → (((cfgM m hO).win w).block.Idx → Elt F ((cfgM m hO).win w).elt) → Prop
  | ⟨13, _⟩ => fun t X => Rows m hO c t X
  | _ => fun _ _ => True

/-- What a point may find in the squeeze vectors' buffer has the rows of the points before. -/
theorem finds_rows (hO : Ok m) (c : Dev nD) (t : Fin (cfgM m hO).N) (Y : Vec F S28x1024 .f32)
    (h : ((dats m hO 0 c).toRRel (held m hO) (Rl m hO c)).Finds 13 t Y) :
    ∀ u : Fin (cfgM m hO).N, u.val < t.val → ∀ (r : Fin 28) (l : Fin 1024), r.val = u.val → Y (ix2 r l) = rowAt m hO c u l := by
  intro u hu r l hr
  have hN : t.val < 28 := lt_of_lt_of_eq t.isLt (show (cfgM m hO).N = 28 from N_0)
  have hf : ((cfgM m hO).win 13).fetch t = false := rfl
  rcases (Pipeline.RDat.finds_of_pos _ hf (by omega) Y).mp h with h | h
  · have := (flush0_13 (adm m hO) _).mp h
    simp only at this
    omega
  · exact ((dats m hO 0 c).toRRel_leaves (fgt := held m hO) (Rl := Rl m hO c) (w := 13) rfl h : Rows m hO c _ Y) u (by simp only; omega) r l hr

/-- What the body is called with at a point, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ Y, ⌜((dats m hO 0 c).toRRel (held m hO) (Rl m hO c)).Finds 13 t Y⌝ ∗ owns (c : Thread nD τ) (ms0_13 m hO t) fullShare Y))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ (∃ X, ⌜Rl m hO c 13 t X⌝ ∗ owns (c : Thread nD τ) (ms0_13 m hO t) fullShare X))

set_option maxHeartbeats 12800000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11]
  rw [show (dats m hO 0 c).owesAt () t.succ = (dats m hO 0 c).owesAt () t.castSucc from rfl,
    after0_0, after0_1, after0_2, after0_3, after0_4, after0_5, after0_6, after0_7, after0_8, after0_9, after0_10, after0_11, after0_12]
  rw [show (dats m hO 0 c).Φ t.succ = PhiS m hO c (t.val + 1) from rfl, show (dats m hO 0 c).Φ t.castSucc = PhiS m hO c t.val from rfl,
    PhiS_pos m hO c _ (Nat.succ_ne_zero _), PhiT0_eq]
  have hN : t.val < 28 := lt_of_lt_of_eq t.isLt (show (cfgM m hO).N = 28 from N_0)
  by_cases h0 : t.val % 28 = 0
  · have hz : t.val = 0 := by omega
    obtain rfl : t = first m hO := Fin.ext (hz.trans (first_val m hO).symm)
    rw [PhiS_zero m hO c _ hz, PhiT0_eq, PhiA0_eq, show outAt m hO c (first m hO) = out0_A m hO c (first m hO) h0 from dif_pos h0]
    unfold out0_A
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y, %hY, H13⟩⟩
    iapply ((kernelRun0_A c (grid0.coords (first m hO)) _ _ _ _ _ _ _ _ _ _ _ _ _ _ _ _ _ _ _ _ _ _ _ _ _ _ _ _ _ _ _ _ _ _ _ _ ((hcond0_0 (first m hO)).mpr h0) (iblk m hO c 0 (first m hO)) (iblk m hO c 1 (first m hO)) (iblk m hO c 2 (first m hO)) (iblk m hO c 3 (first m hO)) (iblk m hO c 4 (first m hO)) (iblk m hO c 5 (first m hO)) (iblk m hO c 6 (first m hO)) (iblk m hO c 7 (first m hO)) (iblk m hO c 8 (first m hO)) (iblk m hO c 9 (first m hO)) (iblk m hO c 10 (first m hO)) (iblk m hO c 11 (first m hO)) Y (tbl m 0)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, H8, H9, H10, H11, ⟨%e12, H12⟩, ⟨%e13, %he13, H13⟩, ⟨%fT0, HS0⟩, ⟨%fT1, HS1⟩, ⟨%es2, HS2⟩, ⟨%es3, HS3⟩, HT0⟩
    isplitl [HS0 HS1 HS2 HS3 Hg HT0]
    · isplitl [HS0 HS1 HS2 HS3 Hg]
      · isplitl [HS0 HS1 HS2 HS3]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · unfold owns; iexists _; isplitr
            swap; · iexact HS2
            ipureintro; unfold w1t sout0_2; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; unfold b1t sout0_3; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _)
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _)
    iexists _; isplitr; swap
    · unfold owns; iexists _; isplitr
      swap; · iexact H13
      ipureintro; rfl
    ipureintro
    show Rows m hO c (first m hO) _
    intro u hu r l hr
    refine (rows0_A m hO c (first m hO) h0 Y _ e13 r l).trans ?_
    by_cases hut : u.val = (first m hO).val
    · obtain rfl : u = first m hO := Fin.ext hut
      rw [if_pos hr]; unfold rowAt; rw [dif_pos h0]
    · rw [if_neg (by omega), he13]
      exact finds_rows m hO c (first m hO) Y hY u (by omega) r l hr
  · rw [PhiS_pos m hO c t.val (by omega), PhiT0_eq, show outAt m hO c t = out0_B m hO c t h0 (w1t m hO c) (b1t m hO c) from dif_neg h0]
    unfold out0_B
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y, %hY, H13⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) Y (tbl m 0) (w1t m hO c) (b1t m hO c)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, H8, H9, H10, H11, ⟨%e12, H12⟩, ⟨%e13, %he13, H13⟩, ⟨%fT0, HS0⟩, ⟨%fT1, HS1⟩, HS2, HS3, HT0⟩
    isplitl [HS0 HS1 HS2 HS3 Hg HT0]
    · isplitl [HS0 HS1 HS2 HS3 Hg]
      · isplitl [HS0 HS1 HS2 HS3]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _)
    iexists _; isplitr; swap
    · unfold owns; iexists _; isplitr
      swap; · iexact H13
      ipureintro; rfl
    ipureintro
    show Rows m hO c t _
    intro u hu r l hr
    refine (rows0_B m hO c t h0 (w1t m hO c) (b1t m hO c) Y _ e13 r l).trans ?_
    by_cases hut : u.val = t.val
    · obtain rfl : u = t := Fin.ext hut
      rw [if_pos hr]; unfold rowAt; rw [dif_neg h0]
    · rw [if_neg (by omega), he13]
      exact finds_rows m hO c t Y hY u (by omega) r l hr

/-- The body table's row at a point's slots is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) :
    Pipeline.BodyObligationRel (dats (F := F) m hO 0 c) (defs₀ (F := F)) Variants.none () Set.univ (held m hO) (Rl m hO c) := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiS_zero m hO c 0 rfl]
  try exact Idealize.SL.BI.Entails.refl _

/-- After the last point the invariant gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val from rfl,
    PhiS_pos m hO c _ (by rw [Fin.val_last]; have : (cfgM m hO).N = 28 := N_0; omega), PhiA0_eq]
  iintro ⟨⟨⟨HS0, HS1, HS2, HS3⟩, Hg⟩, -⟩
  isplitl [HS0 HS1 HS2 HS3]
  · isplitl [HS0]
    · iexact HS0
    isplitl [HS1]
    · iexact HS1
    isplitl [HS2]
    · iexists _; iexact HS2
    iexists _; iexact HS3
  iexact Hg

/-- The proof data the launch takes. -/
abbrev rdat (hO : Ok m) (c : Dev nD) : Pipeline.RDat τ (Elt F) Unit ℕ (UR sig nD τ) ℕ ((Pipeline.pin pcfgs fun _ => adm m hO) 0) c :=
  (dats m hO 0 c).toRRel (held m hO) (Rl m hO c)

set_option backward.isDefEq.respectTransparency.types false in
set_option maxHeartbeats 800000 in
/-- The run of the whole program, every semaphore at zero at its end. -/
theorem run_main_quiescent (hO : Ok m) : θ_run defs (onTc (τ := τ) (main (F := F))) (s₀ m ρ)
    (fun r => Pipeline.RDat.FramePost ((Pipeline.pin pcfgs fun _ => adm m hO) 0) (rdat m hO) (V m) r ∧ r.2.sem = fun _ => 0) :=
  Pipeline.RDat.θ_run_frameP_track (Q' := _) pcfgs (fun _ => adm m hO) (0 : Fin 1) launch0 defs₀ Variants.none (rdat m hO) m ρ main
    (hbody := fun c => (body_obligation m hO c).toRRel) (hshare := fun c => (dats m hO 0 c).share_full fun _ => rfl)
    (howed := fun _ _ => rfl) (V := V m)
    (hmain := hmain m Variants.none) (hA := A_eq m hO) (hpf := V_pre m) (hin := hin m hO) (hout := hout m hO)

/-- The same without the semaphores. -/
theorem run_main (hO : Ok m) : θ_run defs (onTc (τ := τ) (main (F := F))) (s₀ m ρ)
    (Pipeline.RDat.FramePost ((Pipeline.pin pcfgs fun _ => adm m hO) 0) (rdat m hO) (V m)) :=
  (θ_run defs _ _).mono (fun _ h => h.1) (run_main_quiescent m ρ hO)

/-- The frame: the argument arrays end unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ hO (rdat m hO) (A_eq m hO) (run_main m ρ hO)) ((θ_run defs _ _).mono (fun _ h => h.2) (run_main_quiescent m ρ hO))

end Cert.TailIdeal.Gen

end
-- ==== Proof.T.Value.lean ====
/- The tail kernel's two results as functions of its arguments: what every grid point leaves is the problem's formulas
   of its sample, and the write-backs put the samples side by side. -/
module

public import proofs.«01_k».proof.Proof.T.Point
public import proofs.«01_k».proof.Proof.T.Frame
public import Idealize.ShloMosaic.Lib.Pipeline.ValueKit

@[expose] public section

set_option maxRecDepth 16384

noncomputable section

namespace Cert.TailIdeal.Val

open Idealize.ShloMosaic Idealize.ShloMosaic.TcCoe Idealize.SL.Sem
open Cert.TailIdeal Cert.TailIdeal.Gen

/-! ## The results, as formulas of the arguments -/

section Formulas

variable (x : S28x384x1024.Idx → EReal) (len : S28.Idx → BitVec 32) (cc : S28x384x1024.Idx → EReal) (cs : S28x384x32.Idx → EReal)
  (w : S1024x1024.Idx → EReal) (ws b g e : S1024.Idx → EReal) (sw1 : S1024x192.Idx → EReal) (sb1 : S192.Idx → EReal)
  (sw2 : S192x1024.Idx → EReal) (sb2 : S1024.Idx → EReal)

/-- The normalised second product of sample `n`. -/
def specZ (n : Fin 28) : Fin 384 → Fin 1024 → EReal :=
  Zv (Av (fun t k => cc (ix3 n t k)) (fun t k => cs (ix3 n t k))) (fun k d => w (ix2 k d)) (fun d => ws (ix1 d)) (fun d => b (ix1 d)) (fun d => g (ix1 d)) (fun d => e (ix1 d))
/-- The squeeze vector of sample `n`. -/
def specS (n : Fin 28) : Fin 1024 → EReal :=
  Sv (Hv (len (ix1 n)) (specZ cc cs w ws b g e n) (fun d k => sw1 (ix2 d k)) (fun k => sb1 (ix1 k))) (fun k d => sw2 (ix2 k d)) (fun d => sb2 (ix1 d))
/-- The gated result of sample `n`. -/
def specO (n : Fin 28) (t : Fin 384) (d : Fin 1024) : EReal :=
  specZ cc cs w ws b g e n t d * specS len cc cs w ws b g e sw1 sb1 sw2 sb2 n d + x (ix3 n t d)

variable (x0 : Vec Ideal S1x384x1024 .bf16) (x1 : Vec Ideal S1x384x1024 .fp8e4m3) (x2 : Vec Ideal S1x384x32 .f32) (x3 : Vec Ideal S1024x1024 .fp8e4m3)
  (x4 x5 x6 x7 : Vec Ideal S1x1024 .f32) (x10 : Vec Ideal S192x1024 .f32) (x11 : Vec Ideal S1x1024 .f32)
  (w1 : Fin 1024 → Fin 192 → EReal) (b1 : Fin 192 → EReal) (ln : BitVec 32) (n : Fin 28)

theorem pS_eq (h1 : ∀ t k, x1 (ix3 0 t k) = cc (ix3 n t k)) (h2 : ∀ t k, x2 (ix3 0 t k) = cs (ix3 n t k)) (h3 : ∀ k d, x3 (ix2 k d) = w (ix2 k d))
    (h4 : ∀ d, x4 (ix2 0 d) = ws (ix1 d)) (h5 : ∀ d, x5 (ix2 0 d) = b (ix1 d)) (h6 : ∀ d, x6 (ix2 0 d) = g (ix1 d)) (h7 : ∀ d, x7 (ix2 0 d) = e (ix1 d))
    (h10 : ∀ k d, x10 (ix2 k d) = sw2 (ix2 k d)) (h11 : ∀ d, x11 (ix2 0 d) = sb2 (ix1 d)) (hw : ∀ d k, w1 d k = sw1 (ix2 d k)) (hb : ∀ k, b1 k = sb1 (ix1 k))
    (hl : ln = len (ix1 n)) (d : Fin 1024) : pS x1 x2 x3 x4 x5 x6 x7 x10 x11 w1 b1 ln d = specS len cc cs w ws b g e sw1 sb1 sw2 sb2 n d := by
  unfold pS specS specZ
  rw [funext₂ h1, funext₂ h2, funext₂ h3, funext h4, funext h5, funext h6, funext h7, funext₂ h10, funext h11, funext₂ hw, funext hb, hl]

theorem pO_eq (h0 : ∀ t k, x0 (ix3 0 t k) = x (ix3 n t k)) (h1 : ∀ t k, x1 (ix3 0 t k) = cc (ix3 n t k)) (h2 : ∀ t k, x2 (ix3 0 t k) = cs (ix3 n t k)) (h3 : ∀ k d, x3 (ix2 k d) = w (ix2 k d))
    (h4 : ∀ d, x4 (ix2 0 d) = ws (ix1 d)) (h5 : ∀ d, x5 (ix2 0 d) = b (ix1 d)) (h6 : ∀ d, x6 (ix2 0 d) = g (ix1 d)) (h7 : ∀ d, x7 (ix2 0 d) = e (ix1 d))
    (h10 : ∀ k d, x10 (ix2 k d) = sw2 (ix2 k d)) (h11 : ∀ d, x11 (ix2 0 d) = sb2 (ix1 d)) (hw : ∀ d k, w1 d k = sw1 (ix2 d k)) (hb : ∀ k, b1 k = sb1 (ix1 k))
    (hl : ln = len (ix1 n)) (t : Fin 384) (d : Fin 1024) : pO x0 x1 x2 x3 x4 x5 x6 x7 x10 x11 w1 b1 ln t d = specO x len cc cs w ws b g e sw1 sb1 sw2 sb2 n t d := by
  unfold pO specO
  rw [pS_eq len cc cs w ws b g e sw1 sb1 sw2 sb2 x1 x2 x3 x4 x5 x6 x7 x10 x11 w1 b1 ln n h1 h2 h3 h4 h5 h6 h7 h10 h11 hw hb hl, h0]
  unfold specZ
  rw [funext₂ h1, funext₂ h2, funext₂ h3, funext h4, funext h5, funext h6, funext h7]

end Formulas

/-! ## The blocks a point reads -/

section Blocks

variable (m : (ℓ : Loc nD τ sig) → Buf (Elt Ideal) ℓ) (hO : Ok m) (c : Dev nD)

/-- A point's number, as a sample's. -/
abbrev smp (t : Fin (cfgM m hO).N) : Fin 28 := ⟨t.val, lt_of_lt_of_eq t.isLt (show (cfgM m hO).N = 28 from N_0)⟩

theorem idx0 : ∀ t : Fin (cfgM m hO).N, ((cfgM m hO).win 0).index t = ![t.val, 0, 0] :=
  (by decide +kernel : ∀ t : Fin grid0.N, cc0_transform_0 (grid0.coords t) = ![t.val, 0, 0])
theorem idx1 : ∀ t : Fin (cfgM m hO).N, ((cfgM m hO).win 1).index t = ![t.val, 0, 0] :=
  (by decide +kernel : ∀ t : Fin grid0.N, cc0_transform_1 (grid0.coords t) = ![t.val, 0, 0])
theorem idx2 : ∀ t : Fin (cfgM m hO).N, ((cfgM m hO).win 2).index t = ![t.val, 0, 0] :=
  (by decide +kernel : ∀ t : Fin grid0.N, cc0_transform_2 (grid0.coords t) = ![t.val, 0, 0])
theorem idx12 : ∀ t : Fin (cfgM m hO).N, ((cfgM m hO).win 12).index t = ![t.val, 0, 0] :=
  (by decide +kernel : ∀ t : Fin grid0.N, cc0_transform_12 (grid0.coords t) = ![t.val, 0, 0])
theorem blk0 (t : Fin (cfgM m hO).N) (a : Fin 384) (b : Fin 1024) :
    iblk m hO c 0 t (ix3 0 a b) = m ((c : Thread nD τ).loc main_arg0) (ix3 (smp m hO t) a b) := by
  blk_ext [iblk, V, idx0 m hO t]
theorem blk1 (t : Fin (cfgM m hO).N) (a : Fin 384) (b : Fin 1024) :
    iblk m hO c 1 t (ix3 0 a b) = m ((c : Thread nD τ).loc main_arg2) (ix3 (smp m hO t) a b) := by
  blk_ext [iblk, V, idx1 m hO t]
theorem blk2 (t : Fin (cfgM m hO).N) (a : Fin 384) (b : Fin 32) :
    iblk m hO c 2 t (ix3 0 a b) = m ((c : Thread nD τ).loc main_arg3) (ix3 (smp m hO t) a b) := by
  blk_ext [iblk, V, idx2 m hO t]
theorem blk3 (t : Fin (cfgM m hO).N) (a : Fin 1024) (b : Fin 1024) :
    iblk m hO c 3 t (ix2 a b) = m ((c : Thread nD τ).loc main_arg4) (ix2 a b) := by
  have idx : ((cfgM m hO).win 3).index t = ![0, 0] := rfl
  rw [← V_main_arg4 m c]
  blk_ext [iblk, idx]
theorem blk8 (t : Fin (cfgM m hO).N) (a : Fin 1024) (b : Fin 192) :
    iblk m hO c 8 t (ix2 a b) = m ((c : Thread nD τ).loc main_arg9) (ix2 a b) := by
  have idx : ((cfgM m hO).win 8).index t = ![0, 0] := rfl
  rw [← V_main_arg9 m c]
  blk_ext [iblk, idx]
theorem blk10 (t : Fin (cfgM m hO).N) (a : Fin 192) (b : Fin 1024) :
    iblk m hO c 10 t (ix2 a b) = m ((c : Thread nD τ).loc main_arg11) (ix2 a b) := by
  have idx : ((cfgM m hO).win 10).index t = ![0, 0] := rfl
  rw [← V_main_arg11 m c]
  blk_ext [iblk, idx]
theorem V_main_v0 (b : Fin 1024) : V m c main_v0 (ix2 0 b) = m ((c : Thread nD τ).loc main_arg5) (ix1 b) := by
  unfold V
  after_results
  pointwise
theorem blk4 (t : Fin (cfgM m hO).N) (b : Fin 1024) : iblk m hO c 4 t (ix2 0 b) = m ((c : Thread nD τ).loc main_arg5) (ix1 b) := by
  have idx : ((cfgM m hO).win 4).index t = ![0, 0] := rfl
  refine Eq.trans ?_ (V_main_v0 m c b)
  blk_ext [iblk, idx]
theorem V_main_v1 (b : Fin 1024) : V m c main_v1 (ix2 0 b) = m ((c : Thread nD τ).loc main_arg6) (ix1 b) := by
  unfold V
  after_results
  pointwise
theorem blk5 (t : Fin (cfgM m hO).N) (b : Fin 1024) : iblk m hO c 5 t (ix2 0 b) = m ((c : Thread nD τ).loc main_arg6) (ix1 b) := by
  have idx : ((cfgM m hO).win 5).index t = ![0, 0] := rfl
  refine Eq.trans ?_ (V_main_v1 m c b)
  blk_ext [iblk, idx]
theorem V_main_v2 (b : Fin 1024) : V m c main_v2 (ix2 0 b) = m ((c : Thread nD τ).loc main_arg7) (ix1 b) := by
  unfold V
  after_results
  pointwise
theorem blk6 (t : Fin (cfgM m hO).N) (b : Fin 1024) : iblk m hO c 6 t (ix2 0 b) = m ((c : Thread nD τ).loc main_arg7) (ix1 b) := by
  have idx : ((cfgM m hO).win 6).index t = ![0, 0] := rfl
  refine Eq.trans ?_ (V_main_v2 m c b)
  blk_ext [iblk, idx]
theorem V_main_v3 (b : Fin 1024) : V m c main_v3 (ix2 0 b) = m ((c : Thread nD τ).loc main_arg8) (ix1 b) := by
  unfold V
  after_results
  pointwise
theorem blk7 (t : Fin (cfgM m hO).N) (b : Fin 1024) : iblk m hO c 7 t (ix2 0 b) = m ((c : Thread nD τ).loc main_arg8) (ix1 b) := by
  have idx : ((cfgM m hO).win 7).index t = ![0, 0] := rfl
  refine Eq.trans ?_ (V_main_v3 m c b)
  blk_ext [iblk, idx]
theorem V_main_v4 (b : Fin 192) : V m c main_v4 (ix2 0 b) = m ((c : Thread nD τ).loc main_arg10) (ix1 b) := by
  unfold V
  after_results
  pointwise
theorem blk9 (t : Fin (cfgM m hO).N) (b : Fin 192) : iblk m hO c 9 t (ix2 0 b) = m ((c : Thread nD τ).loc main_arg10) (ix1 b) := by
  have idx : ((cfgM m hO).win 9).index t = ![0, 0] := rfl
  refine Eq.trans ?_ (V_main_v4 m c b)
  blk_ext [iblk, idx]
theorem V_main_v5 (b : Fin 1024) : V m c main_v5 (ix2 0 b) = m ((c : Thread nD τ).loc main_arg12) (ix1 b) := by
  unfold V
  after_results
  pointwise
theorem blk11 (t : Fin (cfgM m hO).N) (b : Fin 1024) : iblk m hO c 11 t (ix2 0 b) = m ((c : Thread nD τ).loc main_arg12) (ix1 b) := by
  have idx : ((cfgM m hO).win 11).index t = ![0, 0] := rfl
  refine Eq.trans ?_ (V_main_v5 m c b)
  blk_ext [iblk, idx]

theorem off1 (t : Fin (cfgM m hO).N) : k0_off1 (grid0.coords t) = ![t.val] :=
  (by decide +kernel : ∀ t : Fin grid0.N, k0_off1 (grid0.coords t) = ![t.val]) t

theorem len_eq (t : Fin (cfgM m hO).N) : lenP (F := Ideal) c (grid0.coords t) (tbl m 0) = m ((c : Thread nD τ).loc main_arg1) (ix1 (smp m hO t)) := by
  obtain rfl : c = 0 := Subsingleton.elim _ _
  rw [← V_main_arg1 m 0]
  unfold lenP
  refine congrArg (V m (0 : Dev nD) main_arg1) ?_
  funext a
  refine Fin.ext ?_
  match a with
  | 0 =>
    show k0_off1 (grid0.coords t) 0 + 1 * 0 = t.val
    rw [off1 m hO t]; rfl

end Blocks

theorem whole_apply' {S : Shape} {e : EltTy} (arg : Memref sig .tc .vmem S e) (harg : arg.IsWhole) (x : Vec Ideal S e) (off : Fin S.rank → ℕ) (inb) (h : ∀ a, off a = 0) :
    View.readAt (Elt Ideal) arg.view (Rect.unit (s := S) off S.size inb).toLoadRect (harg.unread x) = x := funext fun y => whole_apply arg harg x off inb h y

/-! ## What each case of the body stores, as formulas of its blocks -/

section Cases

variable (c : Dev nD) (i : grid0.Coords) (arg2 : Memref sig .tc .vmem S1x384x1024 .bf16) (harg2 : arg2.IsWhole) (arg3 : Memref sig .tc .vmem S1x384x1024 .fp8e4m3) (harg3 : arg3.IsWhole) (arg4 : Memref sig .tc .vmem S1x384x32 .f32) (harg4 : arg4.IsWhole) (arg5 : Memref sig .tc .vmem S1024x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x192 .f32) (harg10 : arg10.IsWhole) (arg11 : Memref sig .tc .vmem S1x192 .f32) (harg11 : arg11.IsWhole) (arg12 : Memref sig .tc .vmem S192x1024 .f32) (harg12 : arg12.IsWhole) (arg13 : Memref sig .tc .vmem S1x1024 .f32) (harg13 : arg13.IsWhole) (arg14 : Memref sig .tc .vmem S1x384x1024 .bf16) (harg14 : arg14.IsWhole) (arg15 : Memref sig .tc .vmem S28x1024 .f32) (harg15 : arg15.IsWhole) (arg16 : Memref sig .tc .vmem S8x384x128 .bf16) (harg16 : arg16.IsWhole) (arg17 : Memref sig .tc .vmem S8x384x128 .f32) (harg17 : arg17.IsWhole) (arg18 : Memref sig .tc .vmem S192x1024 .f32) (harg18 : arg18.IsWhole) (arg19 : Memref sig .tc .vmem S192x128 .f32) (harg19 : arg19.IsWhole)
    (x0 : Vec Ideal S1x384x1024 .bf16) (x1 : Vec Ideal S1x384x1024 .fp8e4m3) (x2 : Vec Ideal S1x384x32 .f32) (x3 : Vec Ideal S1024x1024 .fp8e4m3) (x4 : Vec Ideal S1x1024 .f32) (x5 : Vec Ideal S1x1024 .f32) (x6 : Vec Ideal S1x1024 .f32) (x7 : Vec Ideal S1x1024 .f32) (x8 : Vec Ideal S1024x192 .f32) (x9 : Vec Ideal S1x192 .f32) (x10 : Vec Ideal S192x1024 .f32) (x11 : Vec Ideal S1x1024 .f32) (x13 : Vec Ideal S28x1024 .f32) (xt0 : TbBuf0 (F := Ideal) c tbM0_0) (xs2 : Vec Ideal S192x1024 .f32) (xs3 : Vec Ideal S192x128 .f32)

/-- The squeeze weight read back from its transposed scratch, where the first point stored it. -/
theorem wA (k : Fin 192) (d : Fin 1024) : arg18.view.readCov (LW (F := Ideal) arg10 harg10 x8) (Rect.unit (s := S192x1024) ![0, 0] S192x1024.size inb_S192x1024_S192x1024_0_0).toLoadRect (ix2 k d) = x8 (ix2 d k) := by
  rw [View.readCov_eq_canon', canon_W]
  refine congrArg x8 ?_
  funext a; refine Fin.ext ?_
  match a with
  | 0 => show 0 + 1 * d.val = d.val; omega
  | 1 => show 0 + 1 * k.val = k.val; omega
/-- The squeeze bias read back from its transposed scratch, where the first point stored it. -/
theorem bA (k : Fin 192) (l : Fin 128) : arg19.view.readCov (LB (F := Ideal) arg11 harg11 x9) (Rect.unit (s := S192x128) ![0, 0] S192x128.size inb_S192x128_S192x128_0_0).toLoadRect (ix2 k l) = x9 (ix2 0 k) := by
  rw [View.readCov_eq_canon', canon_B]
  refine congrArg x9 ?_
  funext a; refine Fin.ext ?_
  match a with
  | 0 => rfl
  | 1 => show 0 + 1 * k.val = k.val; omega

theorem outA (hc0 : cond0_0 i) {κ : Kind} {sp : Space} (v : View sig κ sp S1x384x1024 .bf16) (t : Fin 384) (d : Fin 1024) :
    v.read (Elt Ideal) (v.writes (Elt Ideal) v.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).1) (ix3 0 t d)
      = pO x0 x1 x2 x3 x4 x5 x6 x7 x10 x11 (fun d k => x8 (ix2 d k)) (fun k => x9 (ix2 0 k)) (lenP c i xt0) t d := by
  rw [storesA]
  exact o_apply (hs := fun d => s_apply (hw := wA arg10 harg10 arg18 x8) (hb := bA arg11 harg11 arg19 x9) (d := d) ..) ..

theorem rowA (hc0 : cond0_0 i) : ∃ s : S1x1024.Idx → EReal,
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0).2.1 = [⟨Rect.unit (s := S28x1024) (k0_off2 i) S1x1024.size (k0_off2_inb i), s⟩]
      ∧ ∀ d, s (ix2 0 d) = pS x1 x2 x3 x4 x5 x6 x7 x10 x11 (fun d k => x8 (ix2 d k)) (fun k => x9 (ix2 0 k)) (lenP c i xt0) d :=
  ⟨_, rowsA (hc0 := hc0) .., fun d => s_apply (hw := wA arg10 harg10 arg18 x8) (hb := bA arg11 harg11 arg19 x9) (d := d) ..⟩

theorem outB (hc0 : ¬cond0_0 i) {κ : Kind} {sp : Space} (v : View sig κ sp S1x384x1024 .bf16) (t : Fin 384) (d : Fin 1024)
    (w1 : Fin 1024 → Fin 192 → EReal) (b1 : Fin 192 → EReal) (hw : ∀ k d, xs2 (ix2 k d) = w1 d k) (hb : ∀ k l, xs3 (ix2 k l) = b1 k) :
    v.read (Elt Ideal) (v.writes (Elt Ideal) v.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0 xs2 xs3).1) (ix3 0 t d)
      = pO x0 x1 x2 x3 x4 x5 x6 x7 x10 x11 w1 b1 (lenP c i xt0) t d := by
  rw [storesB, whole_apply' arg18 harg18 xs2 _ _ (by decide), whole_apply' arg19 harg19 xs3 _ _ (by decide)]
  exact o_apply (hs := fun d => s_apply (hw := hw) (hb := hb) (d := d) ..) ..

theorem rowB (hc0 : ¬cond0_0 i)
    (w1 : Fin 1024 → Fin 192 → EReal) (b1 : Fin 192 → EReal) (hw : ∀ k d, xs2 (ix2 k d) = w1 d k) (hb : ∀ k l, xs3 (ix2 k l) = b1 k) : ∃ s : S1x1024.Idx → EReal,
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x13 xt0 xs2 xs3).2.1 = [⟨Rect.unit (s := S28x1024) (k0_off2 i) S1x1024.size (k0_off2_inb i), s⟩]
      ∧ ∀ d, s (ix2 0 d) = pS x1 x2 x3 x4 x5 x6 x7 x10 x11 w1 b1 (lenP c i xt0) d :=
  ⟨_, rowsB (hc0 := hc0) .., fun d => s_apply (hw := (fun k d => (congrFun (whole_apply' arg18 harg18 xs2 _ _ (by decide)) _).trans (hw k d))) (hb := (fun k l => (congrFun (whole_apply' arg19 harg19 xs3 _ _ (by decide)) _).trans (hb k l))) (d := d) ..⟩

end Cases

/-! ## What every point leaves -/

section Points

variable (m : (ℓ : Loc nD τ sig) → Buf (Elt Ideal) ℓ) (hO : Ok m) (c : Dev nD)

/-- The squeeze vectors, of the arguments. -/
abbrev argS : Fin 28 → Fin 1024 → EReal := specS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
/-- The gated result, of the arguments. -/
abbrev argO : Fin 28 → Fin 384 → Fin 1024 → EReal := specO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem w1t_apply (k : Fin 192) (d : Fin 1024) : w1t m hO c (ix2 k d) = m ((c : Thread nD τ).loc main_arg9) (ix2 d k) := by
  unfold w1t sout0_2
  refine (congrFun ((View.read_writes_junk_eq_canon VS0_2 _).trans ((congrArg View.canon (carryW ..)).trans (canon_W ..))) (ix2 k d)).trans ?_
  exact blk8 m hO c (first m hO) d k
theorem b1t_apply (k : Fin 192) (l : Fin 128) : b1t m hO c (ix2 k l) = m ((c : Thread nD τ).loc main_arg10) (ix1 k) := by
  unfold b1t sout0_3
  refine (congrFun ((View.read_writes_junk_eq_canon VS0_3 _).trans ((congrArg View.canon (carryB ..)).trans (canon_B ..))) (ix2 k l)).trans ?_
  exact blk9 m hO c (first m hO) k

theorem outAt_apply (t : Fin (cfgM m hO).N) (a : Fin 384) (d : Fin 1024) : outAt m hO c t (ix3 0 a d) = argO m c (smp m hO t) a d := by
  by_cases h0 : t.val % 28 = 0
  · rw [show outAt m hO c t = out0_A m hO c t h0 from dif_pos h0]
    unfold out0_A
    refine (outA (v := VO0_12) (t := a) (d := d) (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t) (arg13 := ms0_11 m hO t) (harg13 := hs0_11 m hO t) (arg14 := ms0_12 m hO t) (harg14 := hs0_12 m hO t) (arg15 := ms0_13 m hO t) (harg15 := hs0_13 m hO t) (arg16 := scM0_0) (harg16 := Memref.isWhole_whole _) (arg17 := scM0_1) (harg17 := Memref.isWhole_whole _) (arg18 := scM0_2) (harg18 := Memref.isWhole_whole _) (arg19 := scM0_3) (harg19 := Memref.isWhole_whole _) (hc0 := (hcond0_0 t).mpr h0)
      (x0 := iblk m hO c 0 t) (x1 := iblk m hO c 1 t) (x2 := iblk m hO c 2 t) (x3 := iblk m hO c 3 t) (x4 := iblk m hO c 4 t) (x5 := iblk m hO c 5 t) (x6 := iblk m hO c 6 t) (x7 := iblk m hO c 7 t) (x8 := iblk m hO c 8 t) (x9 := iblk m hO c 9 t) (x10 := iblk m hO c 10 t) (x11 := iblk m hO c 11 t) (x13 := any13) (xt0 := tbl m 0)).trans ?_
    exact pO_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (iblk m hO c 0 t) (iblk m hO c 1 t) (iblk m hO c 2 t) (iblk m hO c 3 t) (iblk m hO c 4 t) (iblk m hO c 5 t) (iblk m hO c 6 t) (iblk m hO c 7 t) (iblk m hO c 10 t) (iblk m hO c 11 t) (fun d k => iblk m hO c 8 t (ix2 d k)) (fun k => iblk m hO c 9 t (ix2 0 k)) (lenP (F := Ideal) c (grid0.coords t) (tbl m 0)) (smp m hO t) (blk0 m hO c t) (blk1 m hO c t) (blk2 m hO c t) (blk3 m hO c t) (blk4 m hO c t) (blk5 m hO c t) (blk6 m hO c t) (blk7 m hO c t) (blk10 m hO c t) (blk11 m hO c t) (blk8 m hO c t) (blk9 m hO c t) (len_eq m hO c t) a d
  · rw [show outAt m hO c t = out0_B m hO c t h0 (w1t m hO c) (b1t m hO c) from dif_neg h0]
    unfold out0_B
    refine (outB (v := VO0_12) (t := a) (d := d) (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t) (arg13 := ms0_11 m hO t) (harg13 := hs0_11 m hO t) (arg14 := ms0_12 m hO t) (harg14 := hs0_12 m hO t) (arg15 := ms0_13 m hO t) (harg15 := hs0_13 m hO t) (arg16 := scM0_0) (harg16 := Memref.isWhole_whole _) (arg17 := scM0_1) (harg17 := Memref.isWhole_whole _) (arg18 := scM0_2) (harg18 := Memref.isWhole_whole _) (arg19 := scM0_3) (harg19 := Memref.isWhole_whole _) (hc0 := fun h => h0 ((hcond0_0 t).mp h))
      (x0 := iblk m hO c 0 t) (x1 := iblk m hO c 1 t) (x2 := iblk m hO c 2 t) (x3 := iblk m hO c 3 t) (x4 := iblk m hO c 4 t) (x5 := iblk m hO c 5 t) (x6 := iblk m hO c 6 t) (x7 := iblk m hO c 7 t) (x8 := iblk m hO c 8 t) (x9 := iblk m hO c 9 t) (x10 := iblk m hO c 10 t) (x11 := iblk m hO c 11 t) (x13 := any13) (xt0 := tbl m 0) (hw := w1t_apply m hO c) (hb := b1t_apply m hO c)).trans ?_
    exact pO_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (iblk m hO c 0 t) (iblk m hO c 1 t) (iblk m hO c 2 t) (iblk m hO c 3 t) (iblk m hO c 4 t) (iblk m hO c 5 t) (iblk m hO c 6 t) (iblk m hO c 7 t) (iblk m hO c 10 t) (iblk m hO c 11 t) (fun d k => (m ((c : Thread nD τ).loc main_arg9)) (ix2 d k)) (fun k => (m ((c : Thread nD τ).loc main_arg10)) (ix1 k)) (lenP (F := Ideal) c (grid0.coords t) (tbl m 0)) (smp m hO t) (blk0 m hO c t) (blk1 m hO c t) (blk2 m hO c t) (blk3 m hO c t) (blk4 m hO c t) (blk5 m hO c t) (blk6 m hO c t) (blk7 m hO c t) (blk10 m hO c t) (blk11 m hO c t) (fun _ _ => rfl) (fun _ => rfl) (len_eq m hO c t) a d

/-- The row a point's one store leaves, at a column. -/
theorem row_of (L : List (View.Piece (Elt Ideal) S28x1024 .f32)) (t : Fin grid0.N) (n : Fin 28) (hn : n.val = t.val) (s : S1x1024.Idx → EReal)
    (hs : L = [⟨Rect.unit (s := S28x1024) (k0_off2 (grid0.coords t)) S1x1024.size (k0_off2_inb (grid0.coords t)), s⟩]) (d : Fin 1024) :
    VO0_13.read (Elt Ideal) (VO0_13.writes (Elt Ideal) VO0_13.junk L) (ix2 n d) = s (ix2 0 d) := by
  rw [hs]; exact (row_read (F := Ideal) VO0_13 VO0_13.junk t s n d).trans (if_pos hn)

theorem rowAt_apply (t : Fin (cfgM m hO).N) (d : Fin 1024) : rowAt m hO c t d = argS m c (smp m hO t) d := by
  by_cases h0 : t.val % 28 = 0
  · rw [show rowAt m hO c t = row0_A m hO c t h0 from dif_pos h0]
    unfold row0_A
    obtain ⟨s, hs, hv⟩ := rowA (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t) (arg13 := ms0_11 m hO t) (harg13 := hs0_11 m hO t) (arg14 := ms0_12 m hO t) (harg14 := hs0_12 m hO t) (arg15 := ms0_13 m hO t) (harg15 := hs0_13 m hO t) (arg16 := scM0_0) (harg16 := Memref.isWhole_whole _) (arg17 := scM0_1) (harg17 := Memref.isWhole_whole _) (arg18 := scM0_2) (harg18 := Memref.isWhole_whole _) (arg19 := scM0_3) (harg19 := Memref.isWhole_whole _) (hc0 := (hcond0_0 t).mpr h0)
      (x0 := iblk m hO c 0 t) (x1 := iblk m hO c 1 t) (x2 := iblk m hO c 2 t) (x3 := iblk m hO c 3 t) (x4 := iblk m hO c 4 t) (x5 := iblk m hO c 5 t) (x6 := iblk m hO c 6 t) (x7 := iblk m hO c 7 t) (x8 := iblk m hO c 8 t) (x9 := iblk m hO c 9 t) (x10 := iblk m hO c 10 t) (x11 := iblk m hO c 11 t) (x13 := any13) (xt0 := tbl m 0)
    refine (row_of _ t (smp m hO t) rfl s hs d).trans ((hv d).trans ?_)
    exact pS_eq (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (iblk m hO c 1 t) (iblk m hO c 2 t) (iblk m hO c 3 t) (iblk m hO c 4 t) (iblk m hO c 5 t) (iblk m hO c 6 t) (iblk m hO c 7 t) (iblk m hO c 10 t) (iblk m hO c 11 t) (fun d k => iblk m hO c 8 t (ix2 d k)) (fun k => iblk m hO c 9 t (ix2 0 k)) (lenP (F := Ideal) c (grid0.coords t) (tbl m 0)) (smp m hO t) (blk1 m hO c t) (blk2 m hO c t) (blk3 m hO c t) (blk4 m hO c t) (blk5 m hO c t) (blk6 m hO c t) (blk7 m hO c t) (blk10 m hO c t) (blk11 m hO c t) (blk8 m hO c t) (blk9 m hO c t) (len_eq m hO c t) d
  · rw [show rowAt m hO c t = row0_B m hO c t h0 (w1t m hO c) (b1t m hO c) from dif_neg h0]
    unfold row0_B
    obtain ⟨s, hs, hv⟩ := rowB (c := c) (i := grid0.coords t) (arg2 := ms0_0 m hO t) (harg2 := hs0_0 m hO t) (arg3 := ms0_1 m hO t) (harg3 := hs0_1 m hO t) (arg4 := ms0_2 m hO t) (harg4 := hs0_2 m hO t) (arg5 := ms0_3 m hO t) (harg5 := hs0_3 m hO t) (arg6 := ms0_4 m hO t) (harg6 := hs0_4 m hO t) (arg7 := ms0_5 m hO t) (harg7 := hs0_5 m hO t) (arg8 := ms0_6 m hO t) (harg8 := hs0_6 m hO t) (arg9 := ms0_7 m hO t) (harg9 := hs0_7 m hO t) (arg10 := ms0_8 m hO t) (harg10 := hs0_8 m hO t) (arg11 := ms0_9 m hO t) (harg11 := hs0_9 m hO t) (arg12 := ms0_10 m hO t) (harg12 := hs0_10 m hO t) (arg13 := ms0_11 m hO t) (harg13 := hs0_11 m hO t) (arg14 := ms0_12 m hO t) (harg14 := hs0_12 m hO t) (arg15 := ms0_13 m hO t) (harg15 := hs0_13 m hO t) (arg16 := scM0_0) (harg16 := Memref.isWhole_whole _) (arg17 := scM0_1) (harg17 := Memref.isWhole_whole _) (arg18 := scM0_2) (harg18 := Memref.isWhole_whole _) (arg19 := scM0_3) (harg19 := Memref.isWhole_whole _) (hc0 := fun h => h0 ((hcond0_0 t).mp h))
      (x0 := iblk m hO c 0 t) (x1 := iblk m hO c 1 t) (x2 := iblk m hO c 2 t) (x3 := iblk m hO c 3 t) (x4 := iblk m hO c 4 t) (x5 := iblk m hO c 5 t) (x6 := iblk m hO c 6 t) (x7 := iblk m hO c 7 t) (x8 := iblk m hO c 8 t) (x9 := iblk m hO c 9 t) (x10 := iblk m hO c 10 t) (x11 := iblk m hO c 11 t) (x13 := any13) (xt0 := tbl m 0) (hw := w1t_apply m hO c) (hb := b1t_apply m hO c)
    refine (row_of _ t (smp m hO t) rfl s hs d).trans ((hv d).trans ?_)
    exact pS_eq (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (iblk m hO c 1 t) (iblk m hO c 2 t) (iblk m hO c 3 t) (iblk m hO c 4 t) (iblk m hO c 5 t) (iblk m hO c 6 t) (iblk m hO c 7 t) (iblk m hO c 10 t) (iblk m hO c 11 t) (fun d k => (m ((c : Thread nD τ).loc main_arg9)) (ix2 d k)) (fun k => (m ((c : Thread nD τ).loc main_arg10)) (ix1 k)) (lenP (F := Ideal) c (grid0.coords t) (tbl m 0)) (smp m hO t) (blk1 m hO c t) (blk2 m hO c t) (blk3 m hO c t) (blk4 m hO c t) (blk5 m hO c t) (blk6 m hO c t) (blk7 m hO c t) (blk10 m hO c t) (blk11 m hO c t) (fun _ _ => rfl) (fun _ => rfl) (len_eq m hO c t) d

end Points

end Cert.TailIdeal.Val
-- ==== Proof.T.Final.lean ====
/- The tail kernel's result arrays at the end of its run. -/
module

public import proofs.«01_k».proof.Proof.T.Value
public import Idealize.ShloMosaic.Lib.Pipeline.ArrRel

@[expose] public section

set_option maxRecDepth 16384

noncomputable section

namespace Cert.TailIdeal.Val

open Idealize.ShloMosaic Idealize.ShloMosaic.TcCoe Idealize.SL.Sem
open Cert.TailIdeal Cert.TailIdeal.Gen

variable (m : (ℓ : Loc nD τ sig) → Buf (Elt Ideal) ℓ) (hO : Ok m) (c : Dev nD)

/-- The gated result, as an array. -/
def resO : S28x384x1024.Idx → EReal := fun y => argO m c (y 0) (y 1) (y 2)
/-- The squeeze vectors, as an array. -/
def resS : S28x1024.Idx → EReal := fun y => argS m c (y 0) (y 1)

theorem ex_block (y : S1x384x1024.Idx) : ∃ (b : Fin 384) (d : Fin 1024), y = ix3 0 b d :=
  ⟨y 1, y 2, by funext i; match i with | 0 => exact Fin.ext (Nat.lt_one_iff.mp (y 0).isLt) | 1 => rfl | 2 => rfl⟩

/-- The result blocks cover the result. -/
theorem covers12 : ((cfgM m hO).win 12).Covers := by
  have n0 : ((cfgM m hO).win 12).nblk (0 : Fin 3) = 28 := (by decide : (28 + 1 - 1) / 1 = 28)
  have n1 : ((cfgM m hO).win 12).nblk (1 : Fin 3) = 1 := (by decide : (384 + 384 - 1) / 384 = 1)
  have n2 : ((cfgM m hO).win 12).nblk (2 : Fin 3) = 1 := (by decide : (1024 + 1024 - 1) / 1024 = 1)
  refine ⟨fun (a : Fin 3) => ?_, fun β => ⟨⟨(β (0 : Fin 3)).val, lt_of_lt_of_eq (β (0 : Fin 3)).isLt (n0.trans (show 28 = (cfgM m hO).N from N_0.symm))⟩, flush0_12 (adm m hO) _, fun (a : Fin 3) => ⟨?_, Or.inl ?_⟩⟩⟩
  · match a with
    | 0 => exact (by decide : 0 < 1)
    | 1 => exact (by decide : 0 < 384)
    | 2 => exact (by decide : 0 < 1024)
  · rw [idx12 m hO]
    match a with
    | 0 => rfl
    | 1 => exact (Nat.lt_one_iff.mp (lt_of_lt_of_eq (β (1 : Fin 3)).isLt n1)).symm
    | 2 => exact (Nat.lt_one_iff.mp (lt_of_lt_of_eq (β (2 : Fin 3)).isLt n2)).symm
  · rfl

/-- The result array at the end. -/
theorem arr12 : (dats m hO 0 c).arrAt 12 (cfgM m hO).N = resO m c := by
  refine Pipeline.Dat.arrAt_eq_of_covers _ 12 _ (covers12 m hO) fun t hf y => ?_
  have idx := idx12 m hO t
  rw [after0_12]
  obtain ⟨b, d, rfl⟩ := ex_block y
  refine (outAt_apply m hO c t b d).trans ?_
  show argO m c _ _ _ = argO m c _ _ _
  congr 1 <;> refine Fin.ext ?_ <;> blk_simp [idx] <;> simp

/-- The last point. -/
abbrev lastPt : Fin (cfgM m hO).N := ⟨27, by rw [show (cfgM m hO).N = 28 from N_0]; omega⟩

theorem whole13 : ((cfgM m hO).win 13).WholeAt (lastPt m hO) := by
  refine ⟨(flush0_13 (adm m hO) _).mpr rfl, fun t h => Fin.ext ?_, fun (a : Fin 2) => ⟨?_, rfl⟩⟩
  · have h1 := (flush0_13 (adm m hO) t).mp h
    have h2 := lt_of_lt_of_eq t.isLt (show (cfgM m hO).N = 28 from N_0)
    show t.val = 27
    omega
  · match a with
    | 0 => rfl
    | 1 => rfl

/-- What the squeeze vectors' array may hold at the end is the vectors. -/
theorem arr13 (G : Buf (Elt Ideal) ((c : Thread nD τ).loc main_v6_1)) (h : (rdat m hO c).ArrAt 13 (cfgM m hO).N G) :
    G = resS m c := by
  obtain ⟨X, hX, hG⟩ := Pipeline.RDat.ArrAt.emb_eq_of_wholeAt (rd := rdat m hO c) h (whole13 m hO)
  have hR : Rows m hO c (lastPt m hO) X := (dats m hO 0 c).toRRel_leaves (fgt := held m hO) (Rl := Rl m hO c) (w := 13) rfl hX
  funext y
  obtain ⟨n, d, rfl⟩ : ∃ (n : Fin 28) (d : Fin 1024), y = (ix2 n d : S28x1024.Idx) := ⟨y 0, y 1, by funext i; match i with | 0 => rfl | 1 => rfl⟩
  refine (hG (ix2 n d : S28x1024.Idx)).trans ?_
  have hu : n.val < (cfgM m hO).N := lt_of_lt_of_eq n.isLt (show 28 = (cfgM m hO).N from N_0.symm)
  exact (hR ⟨n.val, hu⟩ (by show n.val ≤ 27; omega) n d rfl).trans (rowAt_apply m hO c ⟨n.val, hu⟩ d)

/-- The results at the end of the run. -/
theorem results (hO : Ok m) (ρ : Dev nD → PrngReg) : θ_run defs (onTc (τ := τ) (main (F := Ideal))) ⟨m, fun _ => 0, ρ⟩ (fun r => ∀ c : Dev nD,
    r.2.mem ((c.tc : Thread nD τ).loc main_v6_0) = resO m c
      ∧ r.2.mem ((c.tc : Thread nD τ).loc main_v6_1) = resS m c) :=
  (θ_run defs _ _).mono (fun r h c =>
    ⟨((((dats m hO 0 c).toR.override_arrAt (w := 12) rfl _ _).trans ((dats m hO 0 c).toR_arrAt_iff 12 _ _)).mp ((h c).1 12)).trans (arr12 m hO c),
      arr13 m hO c _ ((h c).1 13)⟩) (run_main m ρ hO)

end Cert.TailIdeal.Val
-- ==== Proof.T.Ref.lean ====
/- The reference's two results as functions of its arguments: the same formulas. -/
module

public import proofs.«01_k».proof.Proof.T.Value
public import proofs.«01_k».proof.Proof.Gen.TailRefIdeal.Frame
public import Idealize.ShloMosaic.Lib.Pipeline.ValueKit

@[expose] public section

set_option maxRecDepth 16384

noncomputable section

namespace Cert.TailRefIdeal.Val

open Idealize.ShloMosaic Idealize.ShloMosaic.TcCoe Idealize.SL.Sem
open Cert.TailRefIdeal Cert.TailRefIdeal.Gen
open Cert.TailIdeal.Val (Av Zv Hv Sv specZ specS specO)

/-- The normalised second product, at an index. -/
theorem refZ (cc : Vec Ideal S28x384x1024 .fp8e4m3) (cs : Vec Ideal S28x384x32 .f32) (w : Vec Ideal S1024x1024 .fp8e4m3) (ws b g e : Vec Ideal S1x1024 .f32)
    (n : Fin 28) (t : Fin 384) (d : Fin 1024) :
    k0_pay3 (F := Ideal) cc cs w ws b g e (ix3 n t d)
      = Zv (Av (fun t k => cc (ix3 n t k)) (fun t k => cs (ix3 n t k))) (fun k d => w (ix2 k d)) (fun d => ws (ix2 0 d)) (fun d => b (ix2 0 d)) (fun d => g (ix2 0 d)) (fun d => e (ix2 0 d)) t d := by
  pointwise [k0_pay3, Zv, Av]

/-- The squeeze vector, at an index. -/
theorem refS (z : FVec Ideal S28x384x1024 .f32) (len : Vec Ideal S28x1 .i32) (w1 : Vec Ideal S1024x192 .f32) (b1 : Vec Ideal S1x192 .f32) (w2 : Vec Ideal S192x1024 .f32) (b2 : Vec Ideal S1x1024 .f32)
    (n : Fin 28) (d : Fin 1024) :
    k0_pay1 (F := Ideal) z (k0_pay4 (F := Ideal) len) (k0_pay5 (F := Ideal)) len w1 b1 w2 b2 (ix2 n d)
      = Sv (Hv (len (ix2 n 0)) (fun t d => z (ix3 n t d)) (fun d k => w1 (ix2 d k)) (fun k => b1 (ix2 0 k))) (fun k d => w2 (ix2 k d)) (fun d => b2 (ix2 0 d)) d := by
  pointwise [k0_pay1, k0_pay4, k0_pay5, Sv, Hv]
  refine congrArg (fun y => Ideal.logistic (y + b2 (ix2 0 d))) (Finset.sum_congr rfl fun k _ => (mul_comm _ _).trans ?_)
  refine congrArg (fun y => w2 (ix2 k d) * max (y + b1 (ix2 0 k)) 0) (Finset.sum_congr rfl fun j _ => (mul_comm _ _).trans ?_)
  rfl

/-- The gated result, at an index. -/
theorem refO (z : FVec Ideal S28x384x1024 .f32) (mk : IVec S28x384x1024 1) (zz : FVec Ideal S28x384x1024 .f32) (len : Vec Ideal S28x1 .i32) (w1 : Vec Ideal S1024x192 .f32) (b1 : Vec Ideal S1x192 .f32) (w2 : Vec Ideal S192x1024 .f32) (b2 : Vec Ideal S1x1024 .f32)
    (x : Vec Ideal S28x384x1024 .bf16) (n : Fin 28) (t : Fin 384) (d : Fin 1024) :
    k0_pay2 (F := Ideal) z mk zz len w1 b1 w2 b2 x (ix3 n t d) = z (ix3 n t d) * k0_pay1 (F := Ideal) z mk zz len w1 b1 w2 b2 (ix2 n d) + x (ix3 n t d) := by
  pointwise [k0_pay2]

/-! ## The blocks: the whole arrays -/

section Blocks

variable (m : (ℓ : Loc nD τ sig) → Buf (Elt Ideal) ℓ) (c : Dev nD) (t : Fin cfg0.N)

theorem blk1 (n : Fin 28) (a : Fin 384) (b : Fin 1024) : iblk m c 1 t (ix3 n a b) = m ((c : Thread nD τ).loc main_arg0) (ix3 n a b) := by
  have idx : (cfg0.win 1).index t = ![0, 0, 0] := (by decide +kernel : ∀ t : Fin cfg0.N, (cfg0.win 1).index t = ![0, 0, 0]) t
  rw [← V_main_arg0 m c]
  blk_ext [iblk, idx]
theorem blk2 (n : Fin 28) (a : Fin 384) (b : Fin 1024) : iblk m c 2 t (ix3 n a b) = m ((c : Thread nD τ).loc main_arg2) (ix3 n a b) := by
  have idx : (cfg0.win 2).index t = ![0, 0, 0] := (by decide +kernel : ∀ t : Fin cfg0.N, (cfg0.win 2).index t = ![0, 0, 0]) t
  rw [← V_main_arg2 m c]
  blk_ext [iblk, idx]
theorem blk3 (n : Fin 28) (a : Fin 384) (b : Fin 32) : iblk m c 3 t (ix3 n a b) = m ((c : Thread nD τ).loc main_arg3) (ix3 n a b) := by
  have idx : (cfg0.win 3).index t = ![0, 0, 0] := (by decide +kernel : ∀ t : Fin cfg0.N, (cfg0.win 3).index t = ![0, 0, 0]) t
  rw [← V_main_arg3 m c]
  blk_ext [iblk, idx]
theorem blk4 (a : Fin 1024) (b : Fin 1024) : iblk m c 4 t (ix2 a b) = m ((c : Thread nD τ).loc main_arg4) (ix2 a b) := by
  have idx : (cfg0.win 4).index t = ![0, 0] := (by decide +kernel : ∀ t : Fin cfg0.N, (cfg0.win 4).index t = ![0, 0]) t
  rw [← V_main_arg4 m c]
  blk_ext [iblk, idx]
theorem blk9 (a : Fin 1024) (b : Fin 192) : iblk m c 9 t (ix2 a b) = m ((c : Thread nD τ).loc main_arg9) (ix2 a b) := by
  have idx : (cfg0.win 9).index t = ![0, 0] := (by decide +kernel : ∀ t : Fin cfg0.N, (cfg0.win 9).index t = ![0, 0]) t
  rw [← V_main_arg9 m c]
  blk_ext [iblk, idx]
theorem blk11 (a : Fin 192) (b : Fin 1024) : iblk m c 11 t (ix2 a b) = m ((c : Thread nD τ).loc main_arg11) (ix2 a b) := by
  have idx : (cfg0.win 11).index t = ![0, 0] := (by decide +kernel : ∀ t : Fin cfg0.N, (cfg0.win 11).index t = ![0, 0]) t
  rw [← V_main_arg11 m c]
  blk_ext [iblk, idx]
theorem V_main_v0 (n : Fin 28) : V m c main_v0 (ix2 n 0) = m ((c : Thread nD τ).loc main_arg1) (ix1 n) := by
  unfold V
  after_results
  pointwise
theorem blk0 (n : Fin 28) : iblk m c 0 t (ix2 n 0) = m ((c : Thread nD τ).loc main_arg1) (ix1 n) := by
  have idx : (cfg0.win 0).index t = ![0, 0] := (by decide +kernel : ∀ t : Fin cfg0.N, (cfg0.win 0).index t = ![0, 0]) t
  refine Eq.trans ?_ (V_main_v0 m c n)
  blk_ext [iblk, idx]
theorem V_main_v1 (b : Fin 1024) : V m c main_v1 (ix2 0 b) = m ((c : Thread nD τ).loc main_arg5) (ix1 b) := by
  unfold V
  after_results
  pointwise
theorem blk5 (b : Fin 1024) : iblk m c 5 t (ix2 0 b) = m ((c : Thread nD τ).loc main_arg5) (ix1 b) := by
  have idx : (cfg0.win 5).index t = ![0, 0] := (by decide +kernel : ∀ t : Fin cfg0.N, (cfg0.win 5).index t = ![0, 0]) t
  refine Eq.trans ?_ (V_main_v1 m c b)
  blk_ext [iblk, idx]
theorem V_main_v2 (b : Fin 1024) : V m c main_v2 (ix2 0 b) = m ((c : Thread nD τ).loc main_arg6) (ix1 b) := by
  unfold V
  after_results
  pointwise
theorem blk6 (b : Fin 1024) : iblk m c 6 t (ix2 0 b) = m ((c : Thread nD τ).loc main_arg6) (ix1 b) := by
  have idx : (cfg0.win 6).index t = ![0, 0] := (by decide +kernel : ∀ t : Fin cfg0.N, (cfg0.win 6).index t = ![0, 0]) t
  refine Eq.trans ?_ (V_main_v2 m c b)
  blk_ext [iblk, idx]
theorem V_main_v3 (b : Fin 1024) : V m c main_v3 (ix2 0 b) = m ((c : Thread nD τ).loc main_arg7) (ix1 b) := by
  unfold V
  after_results
  pointwise
theorem blk7 (b : Fin 1024) : iblk m c 7 t (ix2 0 b) = m ((c : Thread nD τ).loc main_arg7) (ix1 b) := by
  have idx : (cfg0.win 7).index t = ![0, 0] := (by decide +kernel : ∀ t : Fin cfg0.N, (cfg0.win 7).index t = ![0, 0]) t
  refine Eq.trans ?_ (V_main_v3 m c b)
  blk_ext [iblk, idx]
theorem V_main_v4 (b : Fin 1024) : V m c main_v4 (ix2 0 b) = m ((c : Thread nD τ).loc main_arg8) (ix1 b) := by
  unfold V
  after_results
  pointwise
theorem blk8 (b : Fin 1024) : iblk m c 8 t (ix2 0 b) = m ((c : Thread nD τ).loc main_arg8) (ix1 b) := by
  have idx : (cfg0.win 8).index t = ![0, 0] := (by decide +kernel : ∀ t : Fin cfg0.N, (cfg0.win 8).index t = ![0, 0]) t
  refine Eq.trans ?_ (V_main_v4 m c b)
  blk_ext [iblk, idx]
theorem V_main_v5 (b : Fin 192) : V m c main_v5 (ix2 0 b) = m ((c : Thread nD τ).loc main_arg10) (ix1 b) := by
  unfold V
  after_results
  pointwise
theorem blk10 (b : Fin 192) : iblk m c 10 t (ix2 0 b) = m ((c : Thread nD τ).loc main_arg10) (ix1 b) := by
  have idx : (cfg0.win 10).index t = ![0, 0] := (by decide +kernel : ∀ t : Fin cfg0.N, (cfg0.win 10).index t = ![0, 0]) t
  refine Eq.trans ?_ (V_main_v5 m c b)
  blk_ext [iblk, idx]
theorem V_main_v6 (b : Fin 1024) : V m c main_v6 (ix2 0 b) = m ((c : Thread nD τ).loc main_arg12) (ix1 b) := by
  unfold V
  after_results
  pointwise
theorem blk12 (b : Fin 1024) : iblk m c 12 t (ix2 0 b) = m ((c : Thread nD τ).loc main_arg12) (ix1 b) := by
  have idx : (cfg0.win 12).index t = ![0, 0] := (by decide +kernel : ∀ t : Fin cfg0.N, (cfg0.win 12).index t = ![0, 0]) t
  refine Eq.trans ?_ (V_main_v6 m c b)
  blk_ext [iblk, idx]

/-- The squeeze vectors, of the arguments. -/
abbrev argS : Fin 28 → Fin 1024 → EReal := specS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
/-- The gated result, of the arguments. -/
abbrev argO : Fin 28 → Fin 384 → Fin 1024 → EReal := specO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem z_eq (n : Fin 28) (a : Fin 384) (d : Fin 1024) :
    k0_pay3 (F := Ideal) (iblk m c 2 t) (iblk m c 3 t) (iblk m c 4 t) (iblk m c 5 t) (iblk m c 6 t) (iblk m c 7 t) (iblk m c 8 t) (ix3 n a d)
      = specZ (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n a d := by
  refine (refZ _ _ _ _ _ _ _ n a d).trans ?_
  unfold specZ
  rw [funext₂ (blk2 m c t n), funext₂ (blk3 m c t n), funext₂ (blk4 m c t), funext (blk5 m c t), funext (blk6 m c t), funext (blk7 m c t), funext (blk8 m c t)]

theorem s_eq (n : Fin 28) (d : Fin 1024) :
    k0_pay1 (F := Ideal) (k0_pay3 (F := Ideal) (iblk m c 2 t) (iblk m c 3 t) (iblk m c 4 t) (iblk m c 5 t) (iblk m c 6 t) (iblk m c 7 t) (iblk m c 8 t))
        (k0_pay4 (F := Ideal) (iblk m c 0 t)) (k0_pay5 (F := Ideal)) (iblk m c 0 t) (iblk m c 9 t) (iblk m c 10 t) (iblk m c 11 t) (iblk m c 12 t) (ix2 n d)
      = argS m c n d := by
  refine (refS _ _ _ _ _ _ n d).trans ?_
  unfold argS specS
  rw [funext₂ (z_eq m c t n), blk0 m c t n, funext₂ (blk9 m c t), funext (blk10 m c t), funext₂ (blk11 m c t), funext (blk12 m c t)]

theorem o_eq (n : Fin 28) (a : Fin 384) (d : Fin 1024) :
    k0_pay2 (F := Ideal) (k0_pay3 (F := Ideal) (iblk m c 2 t) (iblk m c 3 t) (iblk m c 4 t) (iblk m c 5 t) (iblk m c 6 t) (iblk m c 7 t) (iblk m c 8 t))
        (k0_pay4 (F := Ideal) (iblk m c 0 t)) (k0_pay5 (F := Ideal)) (iblk m c 0 t) (iblk m c 9 t) (iblk m c 10 t) (iblk m c 11 t) (iblk m c 12 t) (iblk m c 1 t) (ix3 n a d)
      = argO m c n a d := by
  refine (refO _ _ _ _ _ _ _ _ _ n a d).trans ?_
  unfold argO specO
  rw [z_eq m c t n a d, blk1 m c t n a d]
  exact congrArg (fun y => specZ (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n a d * y + (m ((c : Thread nD τ).loc main_arg0)) (ix3 n a d)) (s_eq m c t n d)

theorem out13 : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    = fun y => argO m c (y 0) (y 1) (y 2) := by
  funext y
  obtain ⟨n, a, d, rfl⟩ : ∃ (n : Fin 28) (a : Fin 384) (d : Fin 1024), y = (ix3 n a d : S28x384x1024.Idx) := ⟨y 0, y 1, y 2, by funext i; match i with | 0 => rfl | 1 => rfl | 2 => rfl⟩
  refine Eq.trans ?_ (o_eq m c t n a d)
  unfold_out out0_13
  frame_out
theorem out14 : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    = fun y => argS m c (y 0) (y 1) := by
  funext y
  obtain ⟨n, d, rfl⟩ : ∃ (n : Fin 28) (d : Fin 1024), y = (ix2 n d : S28x1024.Idx) := ⟨y 0, y 1, by funext i; match i with | 0 => rfl | 1 => rfl⟩
  refine Eq.trans ?_ (s_eq m c t n d)
  unfold_out out0_14
  frame_out

/-- The gated result, as an array. -/
def resO : S28x384x1024.Idx → EReal := fun y => argO m c (y 0) (y 1) (y 2)
/-- The squeeze vectors, as an array. -/
def resS : S28x1024.Idx → EReal := fun y => argS m c (y 0) (y 1)

/-- The arrays at the end. -/
theorem arr13 : (dats m 0 c).arrAt 13 cfg0.N = resO m c := by
  refine Pipeline.Dat.arrAt_eq_of_covers _ 13 _ (by decide +kernel) fun t hf y => ?_
  have idx : (cfg0.win 13).index t = ![0, 0, 0] := (by decide +kernel : ∀ t : Fin cfg0.N, (cfg0.win 13).index t = ![0, 0, 0]) t
  rw [after0_13, out13]
  show argO m c _ _ _ = argO m c _ _ _
  congr 1 <;> refine Fin.ext ?_ <;> blk_simp [idx] <;> simp
theorem arr14 : (dats m 0 c).arrAt 14 cfg0.N = resS m c := by
  refine Pipeline.Dat.arrAt_eq_of_covers _ 14 _ (by decide +kernel) fun t hf y => ?_
  have idx : (cfg0.win 14).index t = ![0, 0] := (by decide +kernel : ∀ t : Fin cfg0.N, (cfg0.win 14).index t = ![0, 0]) t
  rw [after0_14, out14]
  show argS m c _ _  = argS m c _ _
  congr 1 <;> refine Fin.ext ?_ <;> blk_simp [idx] <;> simp

end Blocks

/-- The results at the end of the run. -/
theorem results (m : (ℓ : Loc nD τ sig) → Buf (Elt Ideal) ℓ) (ρ : Dev nD → PrngReg) : θ_run defs (onTc (τ := τ) (main (F := Ideal))) ⟨m, fun _ => 0, ρ⟩ (fun r => ∀ c : Dev nD,
    r.2.mem ((c.tc : Thread nD τ).loc main_v7_0) = resO m c ∧ r.2.mem ((c.tc : Thread nD τ).loc main_v7_1) = resS m c) :=
  (θ_run defs _ _).mono (fun r h c => ⟨((h c).1 13).trans (arr13 m c), ((h c).1 14).trans (arr14 m c)⟩) (run_main m ρ)

end Cert.TailRefIdeal.Val
-- ==== Proof.Hd.Pure.lean ====
/- The arithmetic of the head kernel, apart from where its operands lie: the dequantised blocks, the first product,
   one layer of the dilated convolution, each a function of the loaded vectors (at any float instance), and what each
   is at an index over the extended reals. -/
module

public import proofs.«01_k».proof.Proof.Gen.HeadIdeal.Skeleton
public import Idealize.ShloMosaic.Lib.Pointwise
public import Idealize.ShloMosaic.Lib.Pipeline.ReadBack

@[expose] public section

set_option maxRecDepth 16384

noncomputable section

namespace Cert.HeadIdeal.Val

open Idealize.ShloMosaic Idealize.ShloMosaic.TcCoe Idealize.SL.Sem
open Cert.HeadIdeal Cert.HeadIdeal.Gen

section Structure

variable {F : FTy → Type} [FloatOps F]

/-- A dequantised block, the even and the odd words of its rows apart. -/
def ap (p : Fin 2) (s0 s1 s2 s3 : Vec F S1x384x1 .f32) (cb : Vec F S1x384x128 .fp8e4m3) : FVec F S1x1x192x128 .bf16 :=
  match p with
  | 0 => k0_pay60 s0 s1 s2 s3 cb
  | 1 => k0_pay62 (k0_pay61 s0 s1 s2 s3 cb)

/-- A quarter of the first product, scaled, shifted, clipped at zero and normalised. -/
def mm (a : Fin 8 → Vec F S1x1x192x128 .bf16) (w : Vec F S1024x256 .fp8e4m3) (ws b g e : Vec F S1x256 .f32) : FVec F S192x256 .f32 :=
  k0_pay102 (k0_pay101 (a 0) (a 1) (a 2) (a 3) (a 4) (a 5) (a 6) (a 7)) w ws b g e

/-- A half of a quarter, as it is stored. -/
def mh (q : Fin 2) (v : FVec F S192x256 .f32) : FVec F S1x1x192x128 .f32 :=
  match q with
  | 0 => shapeCast S1x1x192x128 (extractStridedSlice S192x128 ![0, 0] v slices_S192x256_o0_0_S192x128) shapeCasts_S192x128_S1x1x192x128
  | 1 => k0_pay100 v

/-- The result of a layer for one of the two words, as it is stored. -/
def lay (p : Fin 2) (acc : FVec F S192x256 .f32) (b g e : Vec F S1x128 .f32) : FVec F S1x1x192x128 .f32 :=
  match p with
  | 0 => k0_pay168 acc b g e
  | 1 => k0_pay169 acc b g e

/-- A layer's weights of one row of blocks, as they are stored. -/
def wbd (r : Fin 4) (w0 w1 w2 : Vec F S1x1x128x128 .bf16) : FVec F S1x128x256 .bf16 :=
  match r with
  | 0 => k0_pay10 w0 w1
  | 1 => k0_pay11 w1 w2
  | 2 => k0_pay12 w0
  | 3 => k0_pay13 w2

end Structure

/-! ## The formulas -/

/-- The time step that row `r` of word `p` is. -/
def tm (p : Fin 2) (r : Fin 192) : Fin 384 := ⟨4 * (r.val / 2) + 2 * p.val + r.val % 2, by omega⟩
/-- The word a time step lies in. -/
def tp (t : Fin 384) : Fin 2 := ⟨t.val % 4 / 2, by omega⟩
/-- The row a time step is in its word. -/
def tr (t : Fin 384) : Fin 192 := ⟨2 * (t.val / 4) + t.val % 2, by omega⟩
theorem tm_tp_tr (t : Fin 384) : tm (tp t) (tr t) = t := Fin.ext (by simp only [tm, tp, tr]; omega)

/-- The time step that place `s` of a row padded by two reflected steps on each side is. -/
def rx (s : ℕ) (h : s < 388) : Fin 384 :=
  ⟨if s = 0 then 2 else if s = 1 then 1 else if s < 386 then s - 2 else if s = 386 then 382 else 381, by split_ifs <;> omega⟩

/-- The dequantised activations. -/
def Av (cc : Fin 384 → Fin 1024 → EReal) (cs : Fin 384 → Fin 32 → EReal) (t : Fin 384) (k : Fin 1024) : EReal :=
  cc t k * cs t ⟨k.val / 32, by omega⟩
/-- The normalised first product. -/
def Zv (A : Fin 384 → Fin 1024 → EReal) (w : Fin 1024 → Fin 1024 → EReal) (ws b g e : Fin 1024 → EReal) (t : Fin 384) (d : Fin 1024) : EReal :=
  max ((∑ k : Fin 1024, A t k * w k d) * ws d + b d) 0 * g d + e d
/-- One layer: the dilated convolution of three taps with reflected ends, clipped at zero and normalised. -/
def Cv (z : Fin 384 → Fin 128 → EReal) (w : Fin 3 → Fin 128 → Fin 128 → EReal) (b g e : Fin 128 → EReal) (t : Fin 384) (l : Fin 128) : EReal :=
  max ((∑ c : Fin 128, z (rx t.val (by omega)) c * w 0 c l) + (∑ c : Fin 128, z (rx (t.val + 2) (by omega)) c * w 1 c l)
    + (∑ c : Fin 128, z (rx (t.val + 4) (by omega)) c * w 2 c l) + b l) 0 * g l + e l
/-- A block of lanes of the first product. -/
def Hb (H : Fin 384 → Fin 1024 → EReal) (j : Fin 8) (t : Fin 384) (l : Fin 128) : EReal := H t ⟨128 * j.val + l.val, by omega⟩

section Layers
variable (H : Fin 384 → Fin 1024 → EReal) (W : Fin 7 → Fin 3 → Fin 128 → Fin 128 → EReal) (b g e : Fin 7 → Fin 128 → EReal)
/-- The first layer's result. -/
def Y1 : Fin 384 → Fin 128 → EReal := Cv (Hb H 1) (W 0) (b 0) (g 0) (e 0)
/-- A later layer's result, from the one before. -/
def Yn (i : Fin 7) (y : Fin 384 → Fin 128 → EReal) : Fin 384 → Fin 128 → EReal :=
  Cv (fun t l => Hb H ⟨i.val + 1, by omega⟩ t l + y t l) (W i) (b i) (g i) (e i)
/-- The block `j` of the result after all the layers: the first block of the product as it is, then the layers. -/
def Yb (j : Fin 8) : Fin 384 → Fin 128 → EReal :=
  match j with
  | 0 => Hb H 0
  | 1 => Y1 H W b g e
  | 2 => Yn H W b g e 1 (Y1 H W b g e)
  | 3 => Yn H W b g e 2 (Yn H W b g e 1 (Y1 H W b g e))
  | 4 => Yn H W b g e 3 (Yn H W b g e 2 (Yn H W b g e 1 (Y1 H W b g e)))
  | 5 => Yn H W b g e 4 (Yn H W b g e 3 (Yn H W b g e 2 (Yn H W b g e 1 (Y1 H W b g e))))
  | 6 => Yn H W b g e 5 (Yn H W b g e 4 (Yn H W b g e 3 (Yn H W b g e 2 (Yn H W b g e 1 (Y1 H W b g e)))))
  | 7 => Yn H W b g e 6 (Yn H W b g e 5 (Yn H W b g e 4 (Yn H W b g e 3 (Yn H W b g e 2 (Yn H W b g e 1 (Y1 H W b g e))))))
end Layers

/-! ## At an index, over the extended reals -/

/-- A dequantised block: every code times the scale of its block of 32. -/
theorem ap_apply (s0 s1 s2 s3 : FVec Ideal S1x384x1 .f32) (cb : FVec Ideal S1x384x128 .fp8e4m3) (x1 : Fin 384 → Fin 1024 → EReal) (x2 : Fin 384 → Fin 32 → EReal) (j : Fin 8)
    (h0 : ∀ t : Fin 384, s0 (ix3 0 t 0) = x2 t ⟨4 * j.val, by omega⟩) (h1 : ∀ t : Fin 384, s1 (ix3 0 t 0) = x2 t ⟨4 * j.val + 1, by omega⟩)
    (h2 : ∀ t : Fin 384, s2 (ix3 0 t 0) = x2 t ⟨4 * j.val + 2, by omega⟩) (h3 : ∀ t : Fin 384, s3 (ix3 0 t 0) = x2 t ⟨4 * j.val + 3, by omega⟩)
    (hc : ∀ (t : Fin 384) (l : Fin 128), cb (ix3 0 t l) = x1 t ⟨128 * j.val + l.val, by omega⟩) (p : Fin 2) (r : Fin 192) (l : Fin 128) :
    ap (F := Ideal) p s0 s1 s2 s3 cb (ix4 0 0 r l) = Av x1 x2 (tm p r) ⟨128 * j.val + l.val, by omega⟩ := by
  have key : ∀ t : Fin 384, t = tm p r → ap (F := Ideal) p s0 s1 s2 s3 cb (ix4 0 0 r l) = cb (ix3 0 t l) *
      (if l.val < 32 then s0 (ix3 0 t 0) else if l.val < 64 then s1 (ix3 0 t 0) else if l.val < 96 then s2 (ix3 0 t 0) else s3 (ix3 0 t 0)) := by
    intro t ht
    have hl := l.isLt
    match p with
    | 0 =>
      pointwise [ap, k0_pay60, k0_pay59]
      have e : ∀ h, (⟨r.val / 2 * 4 + r.val % 2, h⟩ : Fin 384) = t := fun h => Fin.ext (by rw [ht]; simp only [tm]; simp; omega)
      simp only [e]
      split_ifs <;> first | rfl | omega
    | 1 =>
      pointwise [ap, k0_pay62, k0_pay61, k0_pay59]
      have e : ∀ h, (⟨r.val / 2 * 4 + 2 + r.val % 2, h⟩ : Fin 384) = t := fun h => Fin.ext (by rw [ht]; simp only [tm]; simp; omega)
      simp only [e]
      split_ifs <;> first | rfl | omega
  rw [key _ rfl, hc, h0, h1, h2, h3]
  refine congrArg (x1 _ _ * ·) ?_
  have hl := l.isLt
  split_ifs <;> refine congrArg (x2 _) (Fin.ext ?_) <;> dsimp only <;> omega

theorem mm_apply (a : Fin 8 → FVec Ideal S1x1x192x128 .bf16) (w : FVec Ideal S1024x256 .fp8e4m3) (ws b g e : FVec Ideal S1x256 .f32)
    (A : Fin 192 → Fin 1024 → EReal) (hA : ∀ (j : Fin 8) (r : Fin 192) (l : Fin 128), a j (ix4 0 0 r l) = A r ⟨j.val * 128 + l.val, by omega⟩) (r : Fin 192) (q : Fin 256) :
    mm (F := Ideal) a w ws b g e (ix2 r q)
      = max ((∑ k : Fin 1024, A r k * w (ix2 k q)) * ws (ix2 0 q) + b (ix2 0 q)) 0 * g (ix2 0 q) + e (ix2 0 q) := by
  pointwise [mm, k0_pay101, k0_pay102]
  refine congrArg (fun z => max (z * ws (ix2 0 q) + b (ix2 0 q)) 0 * g (ix2 0 q) + e (ix2 0 q)) ?_
  refine Finset.sum_congr rfl fun k _ => congrArg (· * w (ix2 k q)) ?_
  have hk := k.isLt
  split_ifs <;> refine (hA _ _ _).trans (congrArg (A r) (Fin.ext ?_)) <;> dsimp only [Fin.isValue] <;> simp <;> omega

theorem mh_apply (q : Fin 2) (v : FVec Ideal S192x256 .f32) (r : Fin 192) (l : Fin 128) :
    mh (F := Ideal) q v (ix4 0 0 r l) = v (ix2 r ⟨128 * q.val + l.val, by omega⟩) := by
  match q with
  | 0 => pointwise [mh]
  | 1 => pointwise [mh, k0_pay100]

theorem lay_apply (p : Fin 2) (acc : FVec Ideal S192x256 .f32) (b g e : FVec Ideal S1x128 .f32) (r : Fin 192) (l : Fin 128) :
    lay (F := Ideal) p acc b g e (ix4 0 0 r l) = max (acc (ix2 r ⟨128 * p.val + l.val, by omega⟩) + b (ix2 0 l)) 0 * g (ix2 0 l) + e (ix2 0 l) := by
  match p with
  | 0 => pointwise [lay, k0_pay168]
  | 1 => pointwise [lay, k0_pay169]

theorem z1_apply (h : FVec Ideal S1x1x192x128 .f32) (r : Fin 192) (l : Fin 128) : k0_pay148 (F := Ideal) h (ix2 r l) = h (ix4 0 0 r l) := by
  pointwise [k0_pay148]
theorem zn_apply (h h' : FVec Ideal S1x1x192x128 .f32) (r : Fin 192) (l : Fin 128) : k0_pay159 (F := Ideal) h h' (ix2 r l) = h (ix4 0 0 r l) + h' (ix4 0 0 r l) := by
  pointwise [k0_pay159]
theorem zst_apply (z : FVec Ideal S192x128 .bf16) (r : Fin 192) (l : Fin 128) : k0_pay150 (F := Ideal) z (ix3 0 r l) = z (ix2 r l) := by
  pointwise [k0_pay150]
theorem ix2c {m n : ℕ} {a a' : Fin m} {b b' : Fin n} (h : a.val = a'.val) (h' : b.val = b'.val) : ix2 a b = ix2 a' b' := by
  rw [Fin.ext h, Fin.ext h']
theorem ix4c {k l m n : ℕ} {x x' : Fin k} {y y' : Fin l} {a a' : Fin m} {b b' : Fin n} (hx : x.val = x'.val) (hy : y.val = y'.val) (h : a.val = a'.val) (h' : b.val = b'.val) :
    ix4 x y a b = ix4 x' y' a' b' := by
  rw [Fin.ext hx, Fin.ext hy, Fin.ext h, Fin.ext h']

theorem zlo_apply (ze zo : FVec Ideal S192x128 .bf16) (r : Fin 2) (l : Fin 128) :
    k0_pay152 (F := Ideal) ze zo (ix3 0 r l) = if r.val = 0 then zo (ix2 0 l) else ze (ix2 1 l) := by
  pointwise [k0_pay152]
  have hr := r.isLt
  by_cases h : r.val = 0
  · rw [dif_pos (by omega), if_pos h]
    exact congrArg zo (ix2c (by show r.val = 0; omega) rfl)
  · rw [dif_neg (by omega), if_neg h]
    exact congrArg ze (ix2c (by show 1 + (r.val - 1) = 1; omega) rfl)
theorem zhi_apply (ze zo : FVec Ideal S192x128 .bf16) (r : Fin 2) (l : Fin 128) :
    k0_pay153 (F := Ideal) ze zo (ix3 0 r l) = if r.val = 0 then zo (ix2 190 l) else ze (ix2 191 l) := by
  pointwise [k0_pay153]
  have hr := r.isLt
  by_cases h : r.val = 0
  · rw [dif_pos (by omega), if_pos h]
    exact congrArg zo (ix2c (by show 190 + r.val = 190; omega) rfl)
  · rw [dif_neg (by omega), if_neg h]
    exact congrArg ze (ix2c (by show 191 + (r.val - 1) = 191; omega) rfl)

/-- A sum over 512 as four sums over 128. -/
theorem sum512 (f : Fin 512 → EReal) : (∑ x, f x) = (∑ c : Fin 128, f ⟨c.val, by omega⟩) + (∑ c : Fin 128, f ⟨128 + c.val, by omega⟩)
    + (∑ c : Fin 128, f ⟨256 + c.val, by omega⟩) + (∑ c : Fin 128, f ⟨384 + c.val, by omega⟩) := by
  refine (Fin.sum_univ_add (a := 384) (b := 128) f).trans (congrArg (· + _) ?_)
  refine (Fin.sum_univ_add (a := 256) (b := 128) _).trans (congrArg (· + _) ?_)
  exact Fin.sum_univ_add (a := 128) (b := 128) _

theorem acc_apply (ze zo : FVec Ideal S192x128 .bf16) (s1 s2 : FVec Ideal S1x192x128 .bf16) (bd : FVec Ideal S1x512x256 .bf16) (r : Fin 192) (q : Fin 256) :
    k0_pay154 (F := Ideal) ze zo s1 s2 bd (ix2 r q)
      = (∑ c : Fin 128, ze (ix2 r c) * bd (ix3 0 ⟨c.val, by omega⟩ q)) + (∑ c : Fin 128, zo (ix2 r c) * bd (ix3 0 ⟨128 + c.val, by omega⟩ q))
        + (∑ c : Fin 128, s1 (ix3 0 r c) * bd (ix3 0 ⟨256 + c.val, by omega⟩ q)) + (∑ c : Fin 128, s2 (ix3 0 r c) * bd (ix3 0 ⟨384 + c.val, by omega⟩ q)) := by
  pointwise [k0_pay154]
  rw [sum512]
  refine congrArg₂ (· + ·) (congrArg₂ (· + ·) (congrArg₂ (· + ·) ?_ ?_) ?_) ?_ <;> refine Finset.sum_congr rfl fun c _ => congrArg (· * _) ?_ <;> have hc := c.isLt <;> dsimp only <;>
    split_ifs <;> first
    | omega
    | exact congrArg (fun k => ze (ix2 r k)) (Fin.ext (by simp))
    | exact congrArg (fun k => zo (ix2 r k)) (Fin.ext (by simp))
    | exact congrArg (fun k => s1 (ix3 0 r k)) (Fin.ext (by first | omega | (dsimp only; omega) | (simp; omega)))
    | exact congrArg (fun k => s2 (ix3 0 r k)) (Fin.ext (by first | omega | (dsimp only; omega) | (simp; omega)))

/-- Row of blocks `k` of a layer's rearranged weights, the columns of word `p`. -/
def wv (W : Fin 3 → Fin 128 → Fin 128 → EReal) (k : Fin 4) (c : Fin 128) (p : Fin 2) (l : Fin 128) : EReal :=
  match k with
  | 0 => if p.val = 0 then W 1 c l else W 0 c l
  | 1 => if p.val = 0 then W 2 c l else W 1 c l
  | 2 => if p.val = 0 then W 0 c l else 0
  | 3 => if p.val = 0 then 0 else W 2 c l

theorem wbd_apply (k : Fin 4) (w : Fin 3 → FVec Ideal S1x1x128x128 .bf16) (c : Fin 128) (p : Fin 2) (l : Fin 128) :
    wbd (F := Ideal) k (w 0) (w 1) (w 2) (ix3 0 c ⟨128 * p.val + l.val, by omega⟩) = wv (fun k c l => w k (ix4 0 0 c l)) k c p l := by
  have hp := p.isLt
  have hl := l.isLt
  match k with
  | 0 =>
    pointwise [wbd, k0_pay10, k0_pay8, k0_pay7]
    dsimp only [wv]
    by_cases h : p.val = 0
    · rw [dif_pos (by omega), if_pos h]
      exact congrArg (w 1) (ix4c rfl rfl rfl (by show 128 * p.val + l.val = l.val; omega))
    · rw [dif_neg (by omega), if_neg h]
      exact congrArg (w 0) (ix4c rfl rfl rfl (by show 128 * p.val + l.val - 128 = l.val; omega))
  | 1 =>
    pointwise [wbd, k0_pay11, k0_pay8, k0_pay9]
    dsimp only [wv]
    by_cases h : p.val = 0
    · rw [dif_pos (by omega), if_pos h]
      exact congrArg (w 2) (ix4c rfl rfl rfl (by show 128 * p.val + l.val = l.val; omega))
    · rw [dif_neg (by omega), if_neg h]
      exact congrArg (w 1) (ix4c rfl rfl rfl (by show 128 * p.val + l.val - 128 = l.val; omega))
  | 2 =>
    pointwise [wbd, k0_pay12, k0_pay7, k0_pay6]
    dsimp only [wv]
    by_cases h : p.val = 0
    · rw [dif_pos (by omega), if_pos h]
      exact congrArg (w 0) (ix4c rfl rfl rfl (by show 128 * p.val + l.val = l.val; omega))
    · rw [dif_neg (by omega), if_neg h]
  | 3 =>
    pointwise [wbd, k0_pay13, k0_pay9, k0_pay6]
    dsimp only [wv]
    by_cases h : p.val = 0
    · rw [dif_pos (by omega), if_pos h]
    · rw [dif_neg (by omega), if_neg h]
      exact congrArg (w 2) (ix4c rfl rfl rfl (by show 128 * p.val + l.val - 128 = l.val; omega))

/-- What the rows two steps back are, the first two reflected. -/
def sA (Z : Fin 384 → Fin 128 → EReal) (r : Fin 192) (c : Fin 128) : EReal :=
  if r.val = 0 then Z (tm 1 0) c else if r.val = 1 then Z (tm 0 1) c else Z (tm 1 ⟨r.val - 2, by omega⟩) c
/-- What the rows two steps on are, the last two reflected. -/
def sB (Z : Fin 384 → Fin 128 → EReal) (r : Fin 192) (c : Fin 128) : EReal :=
  if r.val = 190 then Z (tm 1 190) c else if r.val = 191 then Z (tm 0 191) c else Z (tm 0 ⟨(r.val + 2) % 192, by omega⟩) c

theorem rx_val (s : ℕ) (h : s < 388) : (rx s h).val = if s = 0 then 2 else if s = 1 then 1 else if s < 386 then s - 2 else if s = 386 then 382 else 381 := rfl
theorem tm_val (p : Fin 2) (r : Fin 192) : (tm p r).val = 4 * (r.val / 2) + 2 * p.val + r.val % 2 := rfl

theorem sA_eq (Z : Fin 384 → Fin 128 → EReal) (r : Fin 192) (c : Fin 128) (h) : sA Z r c = Z (rx (tm 0 r).val h) c := by
  have hr := r.isLt
  rw [sA]
  split_ifs <;> refine congrArg (fun t => Z t c) (Fin.ext ?_) <;> rw [rx_val] <;> simp only [tm_val, Fin.isValue, show ((0 : Fin 2)).val = 0 from rfl, show ((1 : Fin 2)).val = 1 from rfl, show ((0 : Fin 192)).val = 0 from rfl, show ((1 : Fin 192)).val = 1 from rfl, show ((190 : Fin 192)).val = 190 from rfl, show ((191 : Fin 192)).val = 191 from rfl] <;> (repeat' split) <;> omega
theorem sB_eq (Z : Fin 384 → Fin 128 → EReal) (r : Fin 192) (c : Fin 128) (h) : sB Z r c = Z (rx ((tm 1 r).val + 4) h) c := by
  have hr := r.isLt
  rw [sB]
  split_ifs <;> refine congrArg (fun t => Z t c) (Fin.ext ?_) <;> rw [rx_val] <;> simp only [tm_val, Fin.isValue, show ((0 : Fin 2)).val = 0 from rfl, show ((1 : Fin 2)).val = 1 from rfl, show ((0 : Fin 192)).val = 0 from rfl, show ((1 : Fin 192)).val = 1 from rfl, show ((190 : Fin 192)).val = 190 from rfl, show ((191 : Fin 192)).val = 191 from rfl] <;> (repeat' split) <;> omega
theorem mid_eq (p : Fin 2) (r : Fin 192) (h) : rx ((tm p r).val + 2) h = tm p r := by
  have hr := r.isLt
  have ht := (tm p r).isLt
  refine Fin.ext ?_
  rw [rx_val, if_neg (by omega), if_neg (by omega), if_pos (by omega)]
  omega
theorem up_eq (r : Fin 192) (h) : rx ((tm 0 r).val + 4) h = tm 1 r := by
  have hr := r.isLt
  refine Fin.ext ?_
  rw [rx_val]; simp only [tm_val, Fin.isValue, show ((0 : Fin 2)).val = 0 from rfl, show ((1 : Fin 2)).val = 1 from rfl, show ((0 : Fin 192)).val = 0 from rfl, show ((1 : Fin 192)).val = 1 from rfl, show ((190 : Fin 192)).val = 190 from rfl, show ((191 : Fin 192)).val = 191 from rfl]; repeat' split
  all_goals omega
theorem dn_eq (r : Fin 192) (h) : rx (tm 1 r).val h = tm 0 r := by
  have hr := r.isLt
  refine Fin.ext ?_
  rw [rx_val]; simp only [tm_val, Fin.isValue, show ((0 : Fin 2)).val = 0 from rfl, show ((1 : Fin 2)).val = 1 from rfl, show ((0 : Fin 192)).val = 0 from rfl, show ((1 : Fin 192)).val = 1 from rfl, show ((190 : Fin 192)).val = 190 from rfl, show ((191 : Fin 192)).val = 191 from rfl]; repeat' split
  all_goals omega

/-- The four blocks of a layer's products are its three taps. -/
theorem taps (Z : Fin 384 → Fin 128 → EReal) (W : Fin 3 → Fin 128 → Fin 128 → EReal) (p : Fin 2) (r : Fin 192) (l : Fin 128) :
    (∑ c : Fin 128, Z (tm 0 r) c * wv W 0 c p l) + (∑ c : Fin 128, Z (tm 1 r) c * wv W 1 c p l) + (∑ c : Fin 128, sA Z r c * wv W 2 c p l) + (∑ c : Fin 128, sB Z r c * wv W 3 c p l)
      = (∑ c : Fin 128, Z (rx (tm p r).val (by omega)) c * W 0 c l) + (∑ c : Fin 128, Z (rx ((tm p r).val + 2) (by omega)) c * W 1 c l)
        + (∑ c : Fin 128, Z (rx ((tm p r).val + 4) (by omega)) c * W 2 c l) := by
  match p with
  | 0 =>
    simp only [wv, Fin.val_zero, if_true, mul_zero, Finset.sum_const_zero, add_zero, sA_eq Z r _ (show _ < 388 by omega), mid_eq, up_eq]
    abel
  | 1 =>
    simp only [wv, Fin.val_one, one_ne_zero, if_false, mul_zero, Finset.sum_const_zero, add_zero, sB_eq Z r _ (show _ < 388 by omega), mid_eq, dn_eq]

end Cert.HeadIdeal.Val
-- ==== Proof.Hd.Vals.lean ====
/- What one grid point of the head kernel leaves in its two results and in the scratch it carries, written with the
   functions of `Pure`: the stores it makes, read back where the kernel reads them. -/
module

public import proofs.«01_k».proof.Proof.Hd.Pure
public import proofs.«01_k».proof.Proof.Gen.HeadIdeal.Frame.RunB

@[expose] public section

set_option maxRecDepth 16384

noncomputable section

namespace Cert.HeadIdeal.Val

open Idealize.ShloMosaic Idealize.ShloMosaic.TcCoe Idealize.SL.Sem
open Cert.HeadIdeal Cert.HeadIdeal.Gen

variable {F : FTy → Type} [FloatOps F]

/-! ## The rectangles -/

theorem inb_jp (j : Fin 8) (p : Fin 2) (a : Fin 4) : (![j.val, p.val, 0, 0] : Fin 4 → ℕ) a + S1x1x192x128.size a ≤ S8x2x192x128.size a := by
  match a with
  | 0 => show j.val + 1 ≤ 8; omega
  | 1 => show p.val + 1 ≤ 2; omega
  | 2 => show 0 + 192 ≤ 192; omega
  | 3 => show 0 + 128 ≤ 128; omega
theorem inb_scale (k : Fin 32) (a : Fin 3) : (![0, 0, k.val] : Fin 3 → ℕ) a + S1x384x1.size a ≤ S1x384x32.size a := by
  match a with
  | 0 => show 0 + 1 ≤ 1; omega
  | 1 => show 0 + 384 ≤ 384; omega
  | 2 => show k.val + 1 ≤ 32; omega
theorem inb_lane (j : Fin 8) (a : Fin 3) : (![0, 0, 128 * j.val] : Fin 3 → ℕ) a + S1x384x128.size a ≤ S1x384x1024.size a := by
  match a with
  | 0 => show 0 + 1 ≤ 1; omega
  | 1 => show 0 + 384 ≤ 384; omega
  | 2 => show 128 * j.val + 128 ≤ 1024; omega
theorem inb_lane32 (j : Fin 8) (a : Fin 3) : (![0, 0, 128 * j.val] : Fin 3 → ℕ) a + S1x32x128.size a ≤ S1x32x1024.size a := by
  match a with
  | 0 => show 0 + 1 ≤ 1; omega
  | 1 => show 0 + 32 ≤ 32; omega
  | 2 => show 128 * j.val + 128 ≤ 1024; omega
theorem inb_w (n : Fin 4) (a : Fin 2) : (![0, 256 * n.val] : Fin 2 → ℕ) a + S1024x256.size a ≤ S1024x1024.size a := by
  match a with
  | 0 => show 0 + 1024 ≤ 1024; omega
  | 1 => show 256 * n.val + 256 ≤ 1024; omega
theorem inb_row (n : Fin 4) (a : Fin 2) : (![0, 256 * n.val] : Fin 2 → ℕ) a + S1x256.size a ≤ S1x1024.size a := by
  match a with
  | 0 => show 0 + 1 ≤ 1; omega
  | 1 => show 256 * n.val + 256 ≤ 1024; omega
theorem inb_r7 (i : Fin 7) (a : Fin 2) : (![i.val, 0] : Fin 2 → ℕ) a + S1x128.size a ≤ S7x128.size a := by
  match a with
  | 0 => show i.val + 1 ≤ 7; omega
  | 1 => show 0 + 128 ≤ 128; omega
theorem inb_wr (i : Fin 7) (k : Fin 3) (a : Fin 4) : (![i.val, k.val, 0, 0] : Fin 4 → ℕ) a + S1x1x128x128.size a ≤ S7x3x128x128.size a := by
  match a with
  | 0 => show i.val + 1 ≤ 7; omega
  | 1 => show k.val + 1 ≤ 3; omega
  | 2 => show 0 + 128 ≤ 128; omega
  | 3 => show 0 + 128 ≤ 128; omega
theorem inb_bdp (i : Fin 7) (r : Fin 4) (a : Fin 3) : (![i.val, 128 * r.val, 0] : Fin 3 → ℕ) a + S1x128x256.size a ≤ S7x512x256.size a := by
  match a with
  | 0 => show i.val + 1 ≤ 7; omega
  | 1 => show 128 * r.val + 128 ≤ 512; omega
  | 2 => show 0 + 256 ≤ 256; omega
theorem inb_bdr (i : Fin 7) (a : Fin 3) : (![i.val, 0, 0] : Fin 3 → ℕ) a + S1x512x256.size a ≤ S7x512x256.size a := by
  match a with
  | 0 => show i.val + 1 ≤ 7; omega
  | 1 => show 0 + 512 ≤ 512; omega
  | 2 => show 0 + 256 ≤ 256; omega
theorem inb_z (p : Fin 2) (o : Fin 33) (a : Fin 3) : (![p.val, o.val, 0] : Fin 3 → ℕ) a + S1x192x128.size a ≤ S2x224x128.size a := by
  match a with
  | 0 => show p.val + 1 ≤ 2; omega
  | 1 => show o.val + 192 ≤ 224; omega
  | 2 => show 0 + 128 ≤ 128; omega
theorem inb_z2 (p : Fin 2) (o : Fin 223) (a : Fin 3) : (![p.val, o.val, 0] : Fin 3 → ℕ) a + S1x2x128.size a ≤ S2x224x128.size a := by
  match a with
  | 0 => show p.val + 1 ≤ 2; omega
  | 1 => show o.val + 2 ≤ 224; omega
  | 2 => show 0 + 128 ≤ 128; omega
theorem inb_se (j : Fin 8) (s p k : Fin 2) (a : Fin 4) : S1x1x4x128.size a = 0 ∨ (![j.val, p.val, 184 * s.val + k.val, 0] : Fin 4 → ℕ) a + (![1, 1, 2, 1] : Fin 4 → ℕ) a * (S1x1x4x128.size a - 1) < S8x2x192x128.size a := by
  right
  match a with
  | 0 => show j.val + 1 * 0 < 8; omega
  | 1 => show p.val + 1 * 0 < 2; omega
  | 2 => show 184 * s.val + k.val + 2 * 3 < 192; omega
  | 3 => show 0 + 1 * 127 < 128; omega
theorem inb_sc (j : Fin 8) (p k : Fin 2) (a : Fin 4) : S1x1x96x128.size a = 0 ∨ (![j.val, p.val, k.val, 0] : Fin 4 → ℕ) a + (![1, 1, 2, 1] : Fin 4 → ℕ) a * (S1x1x96x128.size a - 1) < S8x2x192x128.size a := by
  right
  match a with
  | 0 => show j.val + 1 * 0 < 8; omega
  | 1 => show p.val + 1 * 0 < 2; omega
  | 2 => show k.val + 2 * 95 < 192; omega
  | 3 => show 0 + 1 * 127 < 128; omega
theorem inb_te (s p k : Fin 2) (a : Fin 2) : S4x128.size a = 0 ∨ (![16 * s.val + 2 * p.val + k.val, 0] : Fin 2 → ℕ) a + (![4, 1] : Fin 2 → ℕ) a * (S4x128.size a - 1) < S32x128.size a := by
  right
  match a with
  | 0 => show 16 * s.val + 2 * p.val + k.val + 4 * 3 < 32; omega
  | 1 => show 0 + 1 * 127 < 128; omega
theorem inb_tc (p k : Fin 2) (a : Fin 2) : S96x128.size a = 0 ∨ (![2 * p.val + k.val, 0] : Fin 2 → ℕ) a + (![4, 1] : Fin 2 → ℕ) a * (S96x128.size a - 1) < S384x128.size a := by
  right
  match a with
  | 0 => show 2 * p.val + k.val + 4 * 95 < 384; omega
  | 1 => show 0 + 1 * 127 < 128; omega

/-- One word of one block of a scratch. -/
abbrev rc (j : Fin 8) (p : Fin 2) : Rect S8x2x192x128 := Rect.unit (s := S8x2x192x128) ![j.val, p.val, 0, 0] S1x1x192x128.size (inb_jp j p)
/-- One block of lanes of the second result. -/
abbrev lane (j : Fin 8) : Rect S1x384x1024 := Rect.unit (s := S1x384x1024) ![0, 0, 128 * j.val] S1x384x128.size (inb_lane j)
/-- One block of lanes of the first result. -/
abbrev lane32 (j : Fin 8) : Rect S1x32x1024 := Rect.unit (s := S1x32x1024) ![0, 0, 128 * j.val] S1x32x128.size (inb_lane32 j)
/-- 192 rows of the padded scratch. -/
abbrev zr (p : Fin 2) (o : Fin 33) : Rect S2x224x128 := Rect.unit (s := S2x224x128) ![p.val, o.val, 0] S1x192x128.size (inb_z p o)
/-- Two rows of the padded scratch. -/
abbrev zr2 (p : Fin 2) (o : Fin 223) : Rect S2x224x128 := Rect.unit (s := S2x224x128) ![p.val, o.val, 0] S1x2x128.size (inb_z2 p o)
/-- The rows of a word which the first or the last eight time steps of one parity are. -/
abbrev se (j : Fin 8) (s p k : Fin 2) : LoadRect S8x2x192x128 := ⟨![j.val, p.val, 184 * s.val + k.val, 0], S1x1x4x128.size, ![1, 1, 2, 1], inb_se j s p k⟩
/-- The rows of a word of one parity. -/
abbrev sc (j : Fin 8) (p k : Fin 2) : LoadRect S8x2x192x128 := ⟨![j.val, p.val, k.val, 0], S1x1x96x128.size, ![1, 1, 2, 1], inb_sc j p k⟩
/-- Where they go among the edge rows. -/
abbrev te (s p k : Fin 2) : Rect S32x128 := ⟨(⟨![16 * s.val + 2 * p.val + k.val, 0], S4x128.size, ![4, 1], inb_te s p k⟩ : LoadRect S32x128), spos_4_1⟩
/-- Where they go among all the rows. -/
abbrev tc (p k : Fin 2) : Rect S384x128 := ⟨(⟨![2 * p.val + k.val, 0], S96x128.size, ![4, 1], inb_tc p k⟩ : LoadRect S384x128), spos_4_1⟩

/-! ## The loads -/

/-- Quarter `n` of a row operand. -/
def rowP (arg : Memref sig .tc .vmem S1x1024 .f32) (harg : arg.IsWhole) (x : Vec F S1x1024 .f32) (n : Fin 4) : Vec F S1x256 .f32 :=
  View.readAt (Elt F) arg.view (Rect.unit (s := S1x1024) ![0, 256 * n.val] S1x256.size (inb_row n)).toLoadRect (harg.unread x)
/-- Quarter `n` of the weights. -/
def wP (arg : Memref sig .tc .vmem S1024x1024 .fp8e4m3) (harg : arg.IsWhole) (x : Vec F S1024x1024 .fp8e4m3) (n : Fin 4) : Vec F S1024x256 .fp8e4m3 :=
  View.readAt (Elt F) arg.view (Rect.unit (s := S1024x1024) ![0, 256 * n.val] S1024x256.size (inb_w n)).toLoadRect (harg.unread x)
/-- A row operand of layer `i`. -/
def r7P (arg : Memref sig .tc .vmem S7x128 .f32) (harg : arg.IsWhole) (x : Vec F S7x128 .f32) (i : Fin 7) : Vec F S1x128 .f32 :=
  View.readAt (Elt F) arg.view (Rect.unit (s := S7x128) ![i.val, 0] S1x128.size (inb_r7 i)).toLoadRect (harg.unread x)
/-- Tap `k` of layer `i`. -/
def wrP (arg : Memref sig .tc .vmem S7x3x128x128 .bf16) (harg : arg.IsWhole) (x : Vec F S7x3x128x128 .bf16) (i : Fin 7) (k : Fin 3) : Vec F S1x1x128x128 .bf16 :=
  View.readAt (Elt F) arg.view (Rect.unit (s := S7x3x128x128) ![i.val, k.val, 0, 0] S1x1x128x128.size (inb_wr i k)).toLoadRect (harg.unread x)
/-- The dequantised block `j`, one word. -/
def aP (arg1 : Memref sig .tc .vmem S1x384x1024 .fp8e4m3) (harg1 : arg1.IsWhole) (arg2 : Memref sig .tc .vmem S1x384x32 .f32) (harg2 : arg2.IsWhole)
    (x0 : Vec F S1x384x1024 .fp8e4m3) (x1 : Vec F S1x384x32 .f32) (j : Fin 8) (p : Fin 2) : Vec F S1x1x192x128 .bf16 :=
  ap p
    (View.readAt (Elt F) arg2.view (Rect.unit (s := S1x384x32) ![0, 0, 4 * j.val] S1x384x1.size (inb_scale ⟨4 * j.val, by omega⟩)).toLoadRect (harg2.unread x1))
    (View.readAt (Elt F) arg2.view (Rect.unit (s := S1x384x32) ![0, 0, 4 * j.val + 1] S1x384x1.size (inb_scale ⟨4 * j.val + 1, by omega⟩)).toLoadRect (harg2.unread x1))
    (View.readAt (Elt F) arg2.view (Rect.unit (s := S1x384x32) ![0, 0, 4 * j.val + 2] S1x384x1.size (inb_scale ⟨4 * j.val + 2, by omega⟩)).toLoadRect (harg2.unread x1))
    (View.readAt (Elt F) arg2.view (Rect.unit (s := S1x384x32) ![0, 0, 4 * j.val + 3] S1x384x1.size (inb_scale ⟨4 * j.val + 3, by omega⟩)).toLoadRect (harg2.unread x1))
    (View.readAt (Elt F) arg1.view (lane j).toLoadRect (harg1.unread x0))

/-! ## The stores -/

/-- A list of pieces of the block scratches. -/
abbrev Lh (F : FTy → Type) (e : EltTy) : Type := List (View.Piece (Elt F) S8x2x192x128 e)
/-- A list of pieces of the padded scratch. -/
abbrev Lz (F : FTy → Type) : Type := List (View.Piece (Elt F) S2x224x128 .bf16)

/-- The dequantised blocks' sixteen stores, the last one first. -/
def LA (a : Fin 8 → Fin 2 → Vec F S1x1x192x128 .bf16) : Lh F .bf16 :=
  [⟨rc 7 1, a 7 1⟩, ⟨rc 7 0, a 7 0⟩, ⟨rc 6 1, a 6 1⟩, ⟨rc 6 0, a 6 0⟩, ⟨rc 5 1, a 5 1⟩, ⟨rc 5 0, a 5 0⟩, ⟨rc 4 1, a 4 1⟩, ⟨rc 4 0, a 4 0⟩, ⟨rc 3 1, a 3 1⟩, ⟨rc 3 0, a 3 0⟩, ⟨rc 2 1, a 2 1⟩, ⟨rc 2 0, a 2 0⟩, ⟨rc 1 1, a 1 1⟩, ⟨rc 1 0, a 1 0⟩, ⟨rc 0 1, a 0 1⟩, ⟨rc 0 0, a 0 0⟩]
/-- The first product's sixteen stores, the last one first. -/
def LH (v : Fin 4 → Fin 2 → FVec F S192x256 .f32) : Lh F .f32 :=
  [⟨rc 7 1, mh 1 (v 3 1)⟩, ⟨rc 6 1, mh 0 (v 3 1)⟩, ⟨rc 7 0, mh 1 (v 3 0)⟩, ⟨rc 6 0, mh 0 (v 3 0)⟩, ⟨rc 5 1, mh 1 (v 2 1)⟩, ⟨rc 4 1, mh 0 (v 2 1)⟩, ⟨rc 5 0, mh 1 (v 2 0)⟩, ⟨rc 4 0, mh 0 (v 2 0)⟩, ⟨rc 3 1, mh 1 (v 1 1)⟩, ⟨rc 2 1, mh 0 (v 1 1)⟩, ⟨rc 3 0, mh 1 (v 1 0)⟩, ⟨rc 2 0, mh 0 (v 1 0)⟩, ⟨rc 1 1, mh 1 (v 0 1)⟩, ⟨rc 0 1, mh 0 (v 0 1)⟩, ⟨rc 1 0, mh 1 (v 0 0)⟩, ⟨rc 0 0, mh 0 (v 0 0)⟩]
/-- The rearranged weights' twenty-eight stores, the last one first. -/
def LB (arg8 : Memref sig .tc .vmem S7x3x128x128 .bf16) (harg8 : arg8.IsWhole) (x7 : Vec F S7x3x128x128 .bf16) : List (View.Piece (Elt F) S7x512x256 .bf16) :=
  let p := fun (i : Fin 7) (r : Fin 4) => (⟨Rect.unit (s := S7x512x256) ![i.val, 128 * r.val, 0] S1x128x256.size (inb_bdp i r), wbd r (wrP arg8 harg8 x7 i 0) (wrP arg8 harg8 x7 i 1) (wrP arg8 harg8 x7 i 2)⟩ : View.Piece (Elt F) S7x512x256 .bf16)
  [p 6 3, p 6 2, p 6 1, p 6 0, p 5 3, p 5 2, p 5 1, p 5 0, p 4 3, p 4 2, p 4 1, p 4 0, p 3 3, p 3 2, p 3 1, p 3 0, p 2 3, p 2 2, p 2 1, p 2 0, p 1 3, p 1 2, p 1 1, p 1 0, p 0 3, p 0 2, p 0 1, p 0 0]

/-- What a layer stores in the padded scratch, on top of what it held. -/
def zput (ze zo : FVec F S192x128 .bf16) (L : Lz F) : Lz F :=
  ⟨zr2 0 208, k0_pay153 ze zo⟩ :: ⟨zr2 1 14, k0_pay152 ze zo⟩ :: ⟨zr 1 16, k0_pay150 zo⟩ :: ⟨zr 0 16, k0_pay150 ze⟩ :: L
/-- A layer's products. -/
def accP (arg16 : Memref sig .tc .vmem S2x224x128 .bf16) (ze zo : FVec F S192x128 .bf16) (L : Lz F) (bd : Vec F S1x512x256 .bf16) : FVec F S192x256 .f32 :=
  k0_pay154 ze zo (arg16.view.readCov (zput ze zo L) (zr 1 14).toLoadRect) (arg16.view.readCov (zput ze zo L) (zr 0 18).toLoadRect) bd
/-- One layer: what it leaves in the blocks and in the padded scratch. -/
def step (arg16 : Memref sig .tc .vmem S2x224x128 .bf16) (j : Fin 8) (ze zo : FVec F S192x128 .bf16) (bd : Vec F S1x512x256 .bf16) (b g e : Vec F S1x128 .f32)
    (s : Lh F .f32 × Lz F) : Lh F .f32 × Lz F :=
  (⟨rc j 1, lay 1 (accP arg16 ze zo s.2 bd) b g e⟩ :: ⟨rc j 0, lay 0 (accP arg16 ze zo s.2 bd) b g e⟩ :: s.1, zput ze zo s.2)
/-- The first layer's input, one word. -/
def zf (arg15 : Memref sig .tc .vmem S8x2x192x128 .f32) (L : Lh F .f32) (p : Fin 2) : FVec F S192x128 .bf16 := k0_pay148 (arg15.view.readCov L (rc 1 p).toLoadRect)
/-- A later layer's input, one word. -/
def zl (arg15 : Memref sig .tc .vmem S8x2x192x128 .f32) (L : Lh F .f32) (j j' : Fin 8) (p : Fin 2) : FVec F S192x128 .bf16 :=
  k0_pay159 (arg15.view.readCov L (rc j p).toLoadRect) (arg15.view.readCov L (rc j' p).toLoadRect)

section Layers
variable (arg15 : Memref sig .tc .vmem S8x2x192x128 .f32) (arg16 : Memref sig .tc .vmem S2x224x128 .bf16) (bd : Fin 7 → Vec F S1x512x256 .bf16) (b g e : Fin 7 → Vec F S1x128 .f32)
/-- The first layer. -/
def st1 (L : Lh F .f32) : Lh F .f32 × Lz F := step arg16 1 (zf arg15 L 0) (zf arg15 L 1) (bd 0) (b 0) (g 0) (e 0) (L, [])
/-- A later layer. -/
def stn (i : Fin 7) (j j' : Fin 8) (s : Lh F .f32 × Lz F) : Lh F .f32 × Lz F :=
  step arg16 j (zl arg15 s.1 j j' 0) (zl arg15 s.1 j j' 1) (bd i) (b i) (g i) (e i) s
/-- All seven layers. -/
def st7 (L : Lh F .f32) : Lh F .f32 × Lz F :=
  stn arg15 arg16 bd b g e 6 7 6 (stn arg15 arg16 bd b g e 5 6 5 (stn arg15 arg16 bd b g e 4 5 4 (stn arg15 arg16 bd b g e 3 4 3
    (stn arg15 arg16 bd b g e 2 3 2 (stn arg15 arg16 bd b g e 1 2 1 (st1 arg15 arg16 bd b g e L))))))
end Layers

/-- The edge rows of block `j`, on top of what the staging scratch held. -/
def eput (arg15 : Memref sig .tc .vmem S8x2x192x128 .f32) (L : Lh F .f32) (j : Fin 8) (E : List (View.Piece (Elt F) S32x128 .f32)) : List (View.Piece (Elt F) S32x128 .f32) :=
  ⟨te 1 1 1, k0_pay222 (arg15.view.readCov L (se j 1 1 1))⟩ :: ⟨te 1 1 0, k0_pay222 (arg15.view.readCov L (se j 1 1 0))⟩ :: ⟨te 1 0 1, k0_pay222 (arg15.view.readCov L (se j 1 0 1))⟩ :: ⟨te 1 0 0, k0_pay222 (arg15.view.readCov L (se j 1 0 0))⟩ :: ⟨te 0 1 1, k0_pay222 (arg15.view.readCov L (se j 0 1 1))⟩ :: ⟨te 0 1 0, k0_pay222 (arg15.view.readCov L (se j 0 1 0))⟩ :: ⟨te 0 0 1, k0_pay222 (arg15.view.readCov L (se j 0 0 1))⟩ :: ⟨te 0 0 0, k0_pay222 (arg15.view.readCov L (se j 0 0 0))⟩ :: E
/-- All the rows of block `j`, on top of what the staging scratch held. -/
def cput (arg15 : Memref sig .tc .vmem S8x2x192x128 .f32) (L : Lh F .f32) (j : Fin 8) (E : List (View.Piece (Elt F) S384x128 .f32)) : List (View.Piece (Elt F) S384x128 .f32) :=
  ⟨tc 1 1, k0_pay2 (arg15.view.readCov L (sc j 1 1))⟩ :: ⟨tc 1 0, k0_pay2 (arg15.view.readCov L (sc j 1 0))⟩ :: ⟨tc 0 1, k0_pay2 (arg15.view.readCov L (sc j 0 1))⟩ :: ⟨tc 0 0, k0_pay2 (arg15.view.readCov L (sc j 0 0))⟩ :: E
/-- What the staging scratch holds before block `j` goes in. -/
def eacc (arg15 : Memref sig .tc .vmem S8x2x192x128 .f32) (L : Lh F .f32) : ℕ → List (View.Piece (Elt F) S32x128 .f32)
  | 0 => []
  | k + 1 => eput arg15 L (Fin.ofNat 8 k) (eacc arg15 L k)
/-- What the other staging scratch holds before block `j` goes in. -/
def cacc (arg15 : Memref sig .tc .vmem S8x2x192x128 .f32) (L : Lh F .f32) : ℕ → List (View.Piece (Elt F) S384x128 .f32)
  | 0 => []
  | k + 1 => cput arg15 L (Fin.ofNat 8 k) (cacc arg15 L k)

/-- The first result's eight stores, the last one first. -/
def LE (arg15 : Memref sig .tc .vmem S8x2x192x128 .f32) (arg18 : Memref sig .tc .vmem S32x128 .f32) (L : Lh F .f32) : List (View.Piece (Elt F) S1x32x1024 .f32) :=
  let p := fun (j : Fin 8) => (⟨lane32 j, k0_pay230 (arg18.view.readCov (eput arg15 L j (eacc arg15 L j.val)) (Rect.unit (s := S32x128) ![0, 0] S32x128.size inb_S32x128_S32x128_0_0).toLoadRect)⟩ : View.Piece (Elt F) S1x32x1024 .f32)
  [p 7, p 6, p 5, p 4, p 3, p 2, p 1, p 0]
/-- The second result's eight stores, the last one first. -/
def LC (arg15 : Memref sig .tc .vmem S8x2x192x128 .f32) (arg19 : Memref sig .tc .vmem S384x128 .f32) (L : Lh F .f32) : List (View.Piece (Elt F) S1x384x1024 .f32) :=
  let p := fun (j : Fin 8) => (⟨lane j, k0_pay5 (arg19.view.readCov (cput arg15 L j (cacc arg15 L j.val)) (Rect.unit (s := S384x128) ![0, 0] S384x128.size inb_S384x128_S384x128_0_0).toLoadRect)⟩ : View.Piece (Elt F) S1x384x1024 .f32)
  [p 7, p 6, p 5, p 4, p 3, p 2, p 1, p 0]

variable (c : Dev nD) (i : grid0.Coords) (arg1 : Memref sig .tc .vmem S1x384x1024 .fp8e4m3) (harg1 : arg1.IsWhole) (arg2 : Memref sig .tc .vmem S1x384x32 .f32) (harg2 : arg2.IsWhole) (arg3 : Memref sig .tc .vmem S1024x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S7x3x128x128 .bf16) (harg8 : arg8.IsWhole) (arg9 : Memref sig .tc .vmem S7x128 .f32) (harg9 : arg9.IsWhole) (arg10 : Memref sig .tc .vmem S7x128 .f32) (harg10 : arg10.IsWhole) (arg11 : Memref sig .tc .vmem S7x128 .f32) (harg11 : arg11.IsWhole) (arg12 : Memref sig .tc .vmem S1x32x1024 .f32) (harg12 : arg12.IsWhole) (arg13 : Memref sig .tc .vmem S1x384x1024 .f32) (harg13 : arg13.IsWhole) (arg14 : Memref sig .tc .vmem S8x2x192x128 .bf16) (harg14 : arg14.IsWhole) (arg15 : Memref sig .tc .vmem S8x2x192x128 .f32) (harg15 : arg15.IsWhole) (arg16 : Memref sig .tc .vmem S2x224x128 .bf16) (harg16 : arg16.IsWhole) (arg17 : Memref sig .tc .vmem S7x512x256 .bf16) (harg17 : arg17.IsWhole) (arg18 : Memref sig .tc .vmem S32x128 .f32) (harg18 : arg18.IsWhole) (arg19 : Memref sig .tc .vmem S384x128 .f32) (harg19 : arg19.IsWhole)
    (x0 : Vec F S1x384x1024 .fp8e4m3) (x1 : Vec F S1x384x32 .f32) (x2 : Vec F S1024x1024 .fp8e4m3) (x3 : Vec F S1x1024 .f32) (x4 : Vec F S1x1024 .f32) (x5 : Vec F S1x1024 .f32) (x6 : Vec F S1x1024 .f32) (x7 : Vec F S7x3x128x128 .bf16) (x8 : Vec F S7x128 .f32) (x9 : Vec F S7x128 .f32) (x10 : Vec F S7x128 .f32) (xs3 : Vec F S7x512x256 .bf16)

/-- The blocks after the first product. -/
def h0P : Lh F .f32 :=
  LH fun n p => mm (fun j => arg14.view.readCov (LA (aP arg1 harg1 arg2 harg2 x0 x1)) (rc j p).toLoadRect) (wP arg3 harg3 x2 n) (rowP arg4 harg4 x3 n) (rowP arg5 harg5 x4 n) (rowP arg6 harg6 x5 n) (rowP arg7 harg7 x6 n)
/-- The blocks after all the layers. -/
def h7P (bd : Fin 7 → Vec F S1x512x256 .bf16) : Lh F .f32 :=
  (st7 arg15 arg16 bd (r7P arg9 harg9 x8) (r7P arg10 harg10 x9) (r7P arg11 harg11 x10) (h0P arg1 harg1 arg2 harg2 arg3 harg3 arg4 harg4 arg5 harg5 arg6 harg6 arg7 harg7 arg14 x0 x1 x2 x3 x4 x5 x6)).1
/-- The rearranged weights, as the first point reads them. -/
def bdA (i : Fin 7) : Vec F S1x512x256 .bf16 := arg17.view.readCov (LB arg8 harg8 x7) (Rect.unit (s := S7x512x256) ![i.val, 0, 0] S1x512x256.size (inb_bdr i)).toLoadRect
/-- The rearranged weights, as a later point reads them. -/
def bdB (i : Fin 7) : Vec F S1x512x256 .bf16 := View.readAt (Elt F) arg17.view (Rect.unit (s := S7x512x256) ![i.val, 0, 0] S1x512x256.size (inb_bdr i)).toLoadRect (harg17.unread xs3)

end Cert.HeadIdeal.Val
-- ==== Proof.Hd.Lists.lean ====
/- What the head kernel's scratches hold after their stores, at an index: over the extended reals. -/
module

public import proofs.«01_k».proof.Proof.Hd.Vals
public import Idealize.ShloMosaic.Lib.WholeRead

@[expose] public section

set_option maxRecDepth 16384

noncomputable section

namespace Cert.HeadIdeal.Val

open Idealize.ShloMosaic Idealize.ShloMosaic.TcCoe Idealize.SL.Sem
open Cert.HeadIdeal Cert.HeadIdeal.Gen

/-! ## One store on top of others -/

/-- One word of one block. -/
theorem canon_rc {e : EltTy} (j : Fin 8) (p : Fin 2) (v : S1x1x192x128.Idx → Elt Ideal e) (L : List (View.Piece (Elt Ideal) S8x2x192x128 e)) (j' : Fin 8) (p' : Fin 2) (r : Fin 192) (l : Fin 128) :
    View.canon (⟨rc j p, v⟩ :: L) (ix4 j' p' r l) = if j' = j ∧ p' = p then v (ix4 0 0 r l) else View.canon L (ix4 j' p' r l) := by
  by_cases h : j' = j ∧ p' = p
  · rw [if_pos h, h.1, h.2]
    refine (congrArg (View.canon _) ?_).trans (View.canon_cons_emb (rc j p) v L (ix4 0 0 r l))
    funext a; refine Fin.ext ?_
    match a with
    | 0 => show j.val = j.val + 1 * 0; omega
    | 1 => show p.val = p.val + 1 * 0; omega
    | 2 => show r.val = 0 + 1 * r.val; omega
    | 3 => show l.val = 0 + 1 * l.val; omega
  · rw [if_neg h]
    refine View.canon_cons_of_not_mem _ L fun hm => h ?_
    have hm' := (Rect.mem_set_unit (inb := inb_jp j p)).mp hm
    have h0 : j.val ≤ j'.val ∧ j'.val < j.val + 1 := hm' 0
    have h1 : p.val ≤ p'.val ∧ p'.val < p.val + 1 := hm' 1
    exact ⟨Fin.ext (by omega), Fin.ext (by omega)⟩

/-- 192 rows of the padded scratch. -/
theorem canon_zr (p : Fin 2) (o : Fin 33) (v : S1x192x128.Idx → EReal) (L : Lz Ideal) (p' : Fin 2) (y : Fin 224) (l : Fin 128) :
    View.canon (⟨zr p o, v⟩ :: L) (ix3 p' y l) = if h : p' = p ∧ o.val ≤ y.val ∧ y.val < o.val + 192 then v (ix3 0 ⟨y.val - o.val, by omega⟩ l) else View.canon L (ix3 p' y l) := by
  by_cases h : p' = p ∧ o.val ≤ y.val ∧ y.val < o.val + 192
  · rw [dif_pos h]
    obtain ⟨rfl, h1, h2⟩ := h
    refine (congrArg (View.canon _) ?_).trans (View.canon_cons_emb (zr p' o) v L (ix3 0 ⟨y.val - o.val, by omega⟩ l))
    funext a; refine Fin.ext ?_
    match a with
    | 0 => show p'.val = p'.val + 1 * 0; omega
    | 1 => show y.val = o.val + 1 * (y.val - o.val); omega
    | 2 => show l.val = 0 + 1 * l.val; omega
  · rw [dif_neg h]
    refine View.canon_cons_of_not_mem _ L fun hm => h ?_
    have hm' := (Rect.mem_set_unit (inb := inb_z p o)).mp hm
    have h0 : p.val ≤ p'.val ∧ p'.val < p.val + 1 := hm' 0
    have h1 : o.val ≤ y.val ∧ y.val < o.val + 192 := hm' 1
    exact ⟨Fin.ext (by omega), h1⟩

/-- Two rows of the padded scratch. -/
theorem canon_zr2 (p : Fin 2) (o : Fin 223) (v : S1x2x128.Idx → EReal) (L : Lz Ideal) (p' : Fin 2) (y : Fin 224) (l : Fin 128) :
    View.canon (⟨zr2 p o, v⟩ :: L) (ix3 p' y l) = if h : p' = p ∧ o.val ≤ y.val ∧ y.val < o.val + 2 then v (ix3 0 ⟨y.val - o.val, by omega⟩ l) else View.canon L (ix3 p' y l) := by
  by_cases h : p' = p ∧ o.val ≤ y.val ∧ y.val < o.val + 2
  · rw [dif_pos h]
    obtain ⟨rfl, h1, h2⟩ := h
    refine (congrArg (View.canon _) ?_).trans (View.canon_cons_emb (zr2 p' o) v L (ix3 0 ⟨y.val - o.val, by omega⟩ l))
    funext a; refine Fin.ext ?_
    match a with
    | 0 => show p'.val = p'.val + 1 * 0; omega
    | 1 => show y.val = o.val + 1 * (y.val - o.val); omega
    | 2 => show l.val = 0 + 1 * l.val; omega
  · rw [dif_neg h]
    refine View.canon_cons_of_not_mem _ L fun hm => h ?_
    have hm' := (Rect.mem_set_unit (inb := inb_z2 p o)).mp hm
    have h0 : p.val ≤ p'.val ∧ p'.val < p.val + 1 := hm' 0
    have h1 : o.val ≤ y.val ∧ y.val < o.val + 2 := hm' 1
    exact ⟨Fin.ext (by omega), h1⟩

/-- One row of blocks of one layer's weights. -/
abbrev bq (i : Fin 7) (k : Fin 4) : Rect S7x512x256 := Rect.unit (s := S7x512x256) ![i.val, 128 * k.val, 0] S1x128x256.size (inb_bdp i k)
theorem canon_bd (i : Fin 7) (k : Fin 4) (v : S1x128x256.Idx → EReal) (L : List (View.Piece (Elt Ideal) S7x512x256 .bf16)) (i' : Fin 7) (k' : Fin 4) (c : Fin 128) (x : Fin 256) :
    View.canon ((⟨bq i k, v⟩ : View.Piece (Elt Ideal) S7x512x256 .bf16) :: L) (ix3 i' ⟨128 * k'.val + c.val, by omega⟩ x)
      = if i' = i ∧ k' = k then v (ix3 0 c x) else View.canon L (ix3 i' ⟨128 * k'.val + c.val, by omega⟩ x) := by
  by_cases h : i' = i ∧ k' = k
  · rw [if_pos h]
    obtain ⟨rfl, rfl⟩ := h
    refine (congrArg (View.canon _) ?_).trans (View.canon_cons_emb (bq i' k') v L (ix3 0 c x))
    funext a; refine Fin.ext ?_
    match a with
    | 0 => show i'.val = i'.val + 1 * 0; omega
    | 1 => show 128 * k'.val + c.val = 128 * k'.val + 1 * c.val; omega
    | 2 => show x.val = 0 + 1 * x.val; omega
  · rw [if_neg h]
    refine View.canon_cons_of_not_mem _ L fun hm => h ?_
    have hm' := (Rect.mem_set_unit (inb := inb_bdp i k)).mp hm
    have h0 : i.val ≤ i'.val ∧ i'.val < i.val + 1 := hm' 0
    have h1 : 128 * k.val ≤ 128 * k'.val + c.val ∧ 128 * k'.val + c.val < 128 * k.val + 128 := hm' 1
    exact ⟨Fin.ext (by omega), Fin.ext (by omega)⟩

/-- One block of lanes of the second result. -/
theorem canon_lane (j : Fin 8) (v : S1x384x128.Idx → EReal) (L : List (View.Piece (Elt Ideal) S1x384x1024 .f32)) (j' : Fin 8) (t : Fin 384) (l : Fin 128) :
    View.canon ((⟨lane j, v⟩ : View.Piece (Elt Ideal) S1x384x1024 .f32) :: L) (ix3 0 t ⟨128 * j'.val + l.val, by omega⟩) = if j' = j then v (ix3 0 t l) else View.canon L (ix3 0 t ⟨128 * j'.val + l.val, by omega⟩) := by
  by_cases h : j' = j
  · rw [if_pos h]
    obtain rfl := h
    refine (congrArg (View.canon _) ?_).trans (View.canon_cons_emb (lane j') v L (ix3 0 t l))
    funext a; refine Fin.ext ?_
    match a with
    | 0 => rfl
    | 1 => show t.val = 0 + 1 * t.val; omega
    | 2 => show 128 * j'.val + l.val = 128 * j'.val + 1 * l.val; omega
  · rw [if_neg h]
    refine View.canon_cons_of_not_mem _ L fun hm => h ?_
    have h2 : 128 * j.val ≤ 128 * j'.val + l.val ∧ 128 * j'.val + l.val < 128 * j.val + 128 := (Rect.mem_set_unit (inb := inb_lane j)).mp hm 2
    exact Fin.ext (by omega)

/-- One block of lanes of the first result. -/
theorem canon_lane32 (j : Fin 8) (v : S1x32x128.Idx → EReal) (L : List (View.Piece (Elt Ideal) S1x32x1024 .f32)) (j' : Fin 8) (t : Fin 32) (l : Fin 128) :
    View.canon ((⟨lane32 j, v⟩ : View.Piece (Elt Ideal) S1x32x1024 .f32) :: L) (ix3 0 t ⟨128 * j'.val + l.val, by omega⟩) = if j' = j then v (ix3 0 t l) else View.canon L (ix3 0 t ⟨128 * j'.val + l.val, by omega⟩) := by
  by_cases h : j' = j
  · rw [if_pos h]
    obtain rfl := h
    refine (congrArg (View.canon _) ?_).trans (View.canon_cons_emb (lane32 j') v L (ix3 0 t l))
    funext a; refine Fin.ext ?_
    match a with
    | 0 => rfl
    | 1 => show t.val = 0 + 1 * t.val; omega
    | 2 => show 128 * j'.val + l.val = 128 * j'.val + 1 * l.val; omega
  · rw [if_neg h]
    refine View.canon_cons_of_not_mem _ L fun hm => h ?_
    have h2 : 128 * j.val ≤ 128 * j'.val + l.val ∧ 128 * j'.val + l.val < 128 * j.val + 128 := (Rect.mem_set_unit (inb := inb_lane32 j)).mp hm 2
    exact Fin.ext (by omega)

/-- Every fourth row of the wide staging scratch. -/
theorem canon_tc (p k : Fin 2) (v : S96x128.Idx → EReal) (L : List (View.Piece (Elt Ideal) S384x128 .f32)) (t : Fin 384) (l : Fin 128) :
    View.canon ((⟨tc p k, v⟩ : View.Piece (Elt Ideal) S384x128 .f32) :: L) (ix2 t l) = if t.val % 4 = 2 * p.val + k.val then v (ix2 ⟨t.val / 4, by omega⟩ l) else View.canon L (ix2 t l) := by
  by_cases h : t.val % 4 = 2 * p.val + k.val
  · rw [if_pos h]
    refine (congrArg (View.canon _) ?_).trans (View.canon_cons_emb (tc p k) v L (ix2 ⟨t.val / 4, by omega⟩ l))
    funext a; refine Fin.ext ?_
    match a with
    | 0 => show t.val = 2 * p.val + k.val + 4 * (t.val / 4); omega
    | 1 => show l.val = 0 + 1 * l.val; omega
  · rw [if_neg h]
    refine View.canon_cons_of_not_mem _ L fun hm => h ?_
    have h0 : ∃ x < 96, t.val = 2 * p.val + k.val + 4 * x := (LoadRect.mem_set (tc p k).toLoadRect).mp hm 0
    obtain ⟨x, -, hx⟩ := h0
    omega

/-- Every fourth row of one half of the narrow staging scratch. -/
theorem canon_te (s p k : Fin 2) (v : S4x128.Idx → EReal) (L : List (View.Piece (Elt Ideal) S32x128 .f32)) (y : Fin 32) (l : Fin 128) :
    View.canon ((⟨te s p k, v⟩ : View.Piece (Elt Ideal) S32x128 .f32) :: L) (ix2 y l) = if y.val / 16 = s.val ∧ y.val % 4 = 2 * p.val + k.val then v (ix2 ⟨y.val % 16 / 4, by omega⟩ l) else View.canon L (ix2 y l) := by
  by_cases h : y.val / 16 = s.val ∧ y.val % 4 = 2 * p.val + k.val
  · rw [if_pos h]
    refine (congrArg (View.canon _) ?_).trans (View.canon_cons_emb (te s p k) v L (ix2 ⟨y.val % 16 / 4, by omega⟩ l))
    funext a; refine Fin.ext ?_
    match a with
    | 0 => show y.val = 16 * s.val + 2 * p.val + k.val + 4 * (y.val % 16 / 4); omega
    | 1 => show l.val = 0 + 1 * l.val; omega
  · rw [if_neg h]
    refine View.canon_cons_of_not_mem _ L fun hm => h ?_
    have h0 : ∃ x < 4, y.val = 16 * s.val + 2 * p.val + k.val + 4 * x := (LoadRect.mem_set (te s p k).toLoadRect).mp hm 0
    obtain ⟨x, hx', hx⟩ := h0
    have hp := p.isLt; have hk := k.isLt; have hs := s.isLt
    exact ⟨by omega, by omega⟩

/-! ## The reads -/

theorem read_rc {e : EltTy} (arg : Memref sig .tc .vmem S8x2x192x128 e) (L : List (View.Piece (Elt Ideal) S8x2x192x128 e)) (j : Fin 8) (p : Fin 2) (r : Fin 192) (l : Fin 128) :
    arg.view.readCov L (rc j p).toLoadRect (ix4 0 0 r l) = View.canon L (ix4 j p r l) := by
  rw [View.readCov_eq_canon']
  refine congrArg (View.canon L) ?_
  funext a; refine Fin.ext ?_
  match a with
  | 0 => show j.val + 1 * 0 = j.val; omega
  | 1 => show p.val + 1 * 0 = p.val; omega
  | 2 => show 0 + 1 * r.val = r.val; omega
  | 3 => show 0 + 1 * l.val = l.val; omega

theorem read_zr (arg : Memref sig .tc .vmem S2x224x128 .bf16) (L : Lz Ideal) (p : Fin 2) (o : Fin 33) (r : Fin 192) (l : Fin 128) :
    arg.view.readCov L (zr p o).toLoadRect (ix3 0 r l) = View.canon L (ix3 p ⟨o.val + r.val, by omega⟩ l) := by
  rw [View.readCov_eq_canon']
  refine congrArg (View.canon L) ?_
  funext a; refine Fin.ext ?_
  match a with
  | 0 => show p.val + 1 * 0 = p.val; omega
  | 1 => show o.val + 1 * r.val = o.val + r.val; omega
  | 2 => show 0 + 1 * l.val = l.val; omega

theorem read_sc (arg : Memref sig .tc .vmem S8x2x192x128 .f32) (L : Lh Ideal .f32) (j : Fin 8) (p k : Fin 2) (m : Fin 96) (l : Fin 128) :
    arg.view.readCov L (sc j p k) (ix4 0 0 m l) = View.canon L (ix4 j p ⟨2 * m.val + k.val, by omega⟩ l) := by
  rw [View.readCov_eq_canon']
  refine congrArg (View.canon L) ?_
  funext a; refine Fin.ext ?_
  match a with
  | 0 => show j.val + 1 * 0 = j.val; omega
  | 1 => show p.val + 1 * 0 = p.val; omega
  | 2 => show k.val + 2 * m.val = 2 * m.val + k.val; omega
  | 3 => show 0 + 1 * l.val = l.val; omega

theorem read_se (arg : Memref sig .tc .vmem S8x2x192x128 .f32) (L : Lh Ideal .f32) (j : Fin 8) (s p k : Fin 2) (m : Fin 4) (l : Fin 128) :
    arg.view.readCov L (se j s p k) (ix4 0 0 m l) = View.canon L (ix4 j p ⟨184 * s.val + 2 * m.val + k.val, by omega⟩ l) := by
  rw [View.readCov_eq_canon']
  refine congrArg (View.canon L) ?_
  funext a; refine Fin.ext ?_
  match a with
  | 0 => show j.val + 1 * 0 = j.val; omega
  | 1 => show p.val + 1 * 0 = p.val; omega
  | 2 => show 184 * s.val + k.val + 2 * m.val = 184 * s.val + 2 * m.val + k.val; omega
  | 3 => show 0 + 1 * l.val = l.val; omega

theorem pay2_apply (v : FVec Ideal S1x1x96x128 .f32) (m : Fin 96) (l : Fin 128) : k0_pay2 (F := Ideal) v (ix2 m l) = v (ix4 0 0 m l) := by
  pointwise [k0_pay2]
theorem pay222_apply (v : FVec Ideal S1x1x4x128 .f32) (m : Fin 4) (l : Fin 128) : k0_pay222 (F := Ideal) v (ix2 m l) = v (ix4 0 0 m l) := by
  pointwise [k0_pay222]
theorem pay5_apply (v : FVec Ideal S384x128 .f32) (t : Fin 384) (l : Fin 128) : k0_pay5 (F := Ideal) v (ix3 0 t l) = v (ix2 t l) := by
  pointwise [k0_pay5]
theorem pay230_apply (v : FVec Ideal S32x128 .f32) (t : Fin 32) (l : Fin 128) : k0_pay230 (F := Ideal) v (ix3 0 t l) = v (ix2 t l) := by
  pointwise [k0_pay230]

/-! ## All the stores of a scratch -/

theorem canon_LA (a : Fin 8 → Fin 2 → FVec Ideal S1x1x192x128 .bf16) (j : Fin 8) (p : Fin 2) (r : Fin 192) (l : Fin 128) :
    View.canon (LA (F := Ideal) a) (ix4 j p r l) = a j p (ix4 0 0 r l) := by
  unfold LA
  simp only [canon_rc]
  fin_cases j <;> fin_cases p <;> simp

theorem canon_LH (v : Fin 4 → Fin 2 → FVec Ideal S192x256 .f32) (n : Fin 4) (q p : Fin 2) (r : Fin 192) (l : Fin 128) :
    View.canon (LH (F := Ideal) v) (ix4 ⟨2 * n.val + q.val, by omega⟩ p r l) = mh q (v n p) (ix4 0 0 r l) := by
  unfold LH
  simp only [canon_rc]
  fin_cases n <;> fin_cases q <;> fin_cases p <;> simp

/-- Twenty-eight stores of rows of blocks, the last one first. -/
def LQ (w : Fin 7 → Fin 4 → FVec Ideal S1x128x256 .bf16) : List (View.Piece (Elt Ideal) S7x512x256 .bf16) :=
  [⟨bq 6 3, w 6 3⟩, ⟨bq 6 2, w 6 2⟩, ⟨bq 6 1, w 6 1⟩, ⟨bq 6 0, w 6 0⟩, ⟨bq 5 3, w 5 3⟩, ⟨bq 5 2, w 5 2⟩, ⟨bq 5 1, w 5 1⟩, ⟨bq 5 0, w 5 0⟩, ⟨bq 4 3, w 4 3⟩, ⟨bq 4 2, w 4 2⟩, ⟨bq 4 1, w 4 1⟩, ⟨bq 4 0, w 4 0⟩, ⟨bq 3 3, w 3 3⟩, ⟨bq 3 2, w 3 2⟩, ⟨bq 3 1, w 3 1⟩, ⟨bq 3 0, w 3 0⟩, ⟨bq 2 3, w 2 3⟩, ⟨bq 2 2, w 2 2⟩, ⟨bq 2 1, w 2 1⟩, ⟨bq 2 0, w 2 0⟩, ⟨bq 1 3, w 1 3⟩, ⟨bq 1 2, w 1 2⟩, ⟨bq 1 1, w 1 1⟩, ⟨bq 1 0, w 1 0⟩, ⟨bq 0 3, w 0 3⟩, ⟨bq 0 2, w 0 2⟩, ⟨bq 0 1, w 0 1⟩, ⟨bq 0 0, w 0 0⟩]
theorem canon_LQ (w : Fin 7 → Fin 4 → FVec Ideal S1x128x256 .bf16) (i : Fin 7) (k : Fin 4) (c : Fin 128) (x : Fin 256) :
    View.canon (LQ w) (ix3 i ⟨128 * k.val + c.val, by omega⟩ x) = w i k (ix3 0 c x) := by
  unfold LQ
  simp only [canon_bd]
  fin_cases i <;> fin_cases k <;> simp

theorem canon_LB (arg8 : Memref sig .tc .vmem S7x3x128x128 .bf16) (harg8 : arg8.IsWhole) (x7 : Vec Ideal S7x3x128x128 .bf16) (i : Fin 7) (k : Fin 4) (c : Fin 128) (x : Fin 256) :
    View.canon (LB (F := Ideal) arg8 harg8 x7) (ix3 i ⟨128 * k.val + c.val, by omega⟩ x) = wbd k (wrP arg8 harg8 x7 i 0) (wrP arg8 harg8 x7 i 1) (wrP arg8 harg8 x7 i 2) (ix3 0 c x) := by
  exact canon_LQ (fun i k => wbd k (wrP arg8 harg8 x7 i 0) (wrP arg8 harg8 x7 i 1) (wrP arg8 harg8 x7 i 2)) i k c x

/-- The wide staging scratch holds a block's rows in order. -/
theorem canon_cput (arg15 : Memref sig .tc .vmem S8x2x192x128 .f32) (L : Lh Ideal .f32) (j : Fin 8) (E : List (View.Piece (Elt Ideal) S384x128 .f32)) (t : Fin 384) (l : Fin 128) :
    View.canon (cput (F := Ideal) arg15 L j E) (ix2 t l) = View.canon L (ix4 j (tp t) (tr t) l) := by
  have key : ∀ p k : Fin 2, t.val % 4 = 2 * p.val + k.val → k0_pay2 (F := Ideal) (arg15.view.readCov L (sc j p k)) (ix2 ⟨t.val / 4, by omega⟩ l) = View.canon L (ix4 j (tp t) (tr t) l) := fun p k h =>
    (pay2_apply (arg15.view.readCov L (sc j p k)) _ l).trans ((read_sc arg15 L j p k _ l).trans (congrArg (View.canon L) (ix4c rfl (by show p.val = t.val % 4 / 2; omega) (by show 2 * (t.val / 4) + k.val = 2 * (t.val / 4) + t.val % 2; omega) rfl)))
  unfold cput
  rw [canon_tc, canon_tc, canon_tc, canon_tc]
  by_cases h3 : t.val % 4 = 2 * (1 : Fin 2).val + (1 : Fin 2).val
  · rw [if_pos h3]; exact key 1 1 h3
  rw [if_neg h3]
  by_cases h2 : t.val % 4 = 2 * (1 : Fin 2).val + (0 : Fin 2).val
  · rw [if_pos h2]; exact key 1 0 h2
  rw [if_neg h2]
  by_cases h1 : t.val % 4 = 2 * (0 : Fin 2).val + (1 : Fin 2).val
  · rw [if_pos h1]; exact key 0 1 h1
  rw [if_neg h1]
  have h0 : t.val % 4 = 2 * (0 : Fin 2).val + (0 : Fin 2).val := by
    simp only [Fin.val_zero, Fin.val_one] at h1 h2 h3 ⊢; omega
  rw [if_pos h0]; exact key 0 0 h0

/-- The time step of an edge row: the first sixteen, then the last sixteen. -/
def et (y : Fin 32) : Fin 384 := ⟨if y.val < 16 then y.val else 352 + y.val, by split_ifs <;> omega⟩

/-- The narrow staging scratch holds a block's edge rows in order. -/
theorem canon_eput (arg15 : Memref sig .tc .vmem S8x2x192x128 .f32) (L : Lh Ideal .f32) (j : Fin 8) (E : List (View.Piece (Elt Ideal) S32x128 .f32)) (y : Fin 32) (l : Fin 128) :
    View.canon (eput (F := Ideal) arg15 L j E) (ix2 y l) = View.canon L (ix4 j (tp (et y)) (tr (et y)) l) := by
  have hy := y.isLt
  have he : (et y).val = if y.val < 16 then y.val else 352 + y.val := rfl
  have key : ∀ s p k : Fin 2, y.val / 16 = s.val ∧ y.val % 4 = 2 * p.val + k.val → k0_pay222 (F := Ideal) (arg15.view.readCov L (se j s p k)) (ix2 ⟨y.val % 16 / 4, by omega⟩ l) = View.canon L (ix4 j (tp (et y)) (tr (et y)) l) := fun s p k h => by
    refine (pay222_apply (arg15.view.readCov L (se j s p k)) _ l).trans ((read_se arg15 L j s p k _ l).trans (congrArg (View.canon L) (ix4c rfl ?_ ?_ rfl)))
    · show p.val = (et y).val % 4 / 2
      rw [he]; split_ifs <;> omega
    · show 184 * s.val + 2 * (y.val % 16 / 4) + k.val = 2 * ((et y).val / 4) + (et y).val % 2
      rw [he]; split_ifs <;> omega
  unfold eput
  simp only [canon_te]
  split_ifs with h1 h2 h3 h4 h5 h6 h7 h8
  · exact key 1 1 1 h1
  · exact key 1 1 0 h2
  · exact key 1 0 1 h3
  · exact key 1 0 0 h4
  · exact key 0 1 1 h5
  · exact key 0 1 0 h6
  · exact key 0 0 1 h7
  · exact key 0 0 0 h8
  · exfalso
    simp only [Fin.val_zero, Fin.val_one] at h1 h2 h3 h4 h5 h6 h7 h8
    omega

theorem canon_LC (arg15 : Memref sig .tc .vmem S8x2x192x128 .f32) (arg19 : Memref sig .tc .vmem S384x128 .f32) (L : Lh Ideal .f32) (j : Fin 8) (t : Fin 384) (l : Fin 128) :
    View.canon (LC (F := Ideal) arg15 arg19 L) (ix3 0 t ⟨128 * j.val + l.val, by omega⟩) = View.canon L (ix4 j (tp t) (tr t) l) := by
  have key : ∀ j : Fin 8, k0_pay5 (F := Ideal) (arg19.view.readCov (cput arg15 L j (cacc arg15 L j.val)) (Rect.unit (s := S384x128) ![0, 0] S384x128.size inb_S384x128_S384x128_0_0).toLoadRect) (ix3 0 t l)
      = View.canon L (ix4 j (tp t) (tr t) l) := fun j => by
    refine (pay5_apply (arg19.view.readCov (cput arg15 L j (cacc arg15 L j.val)) (Rect.unit (s := S384x128) ![0, 0] S384x128.size inb_S384x128_S384x128_0_0).toLoadRect) t l).trans ?_
    rw [View.readCov_eq_canon']
    refine (congrArg (View.canon _) ?_).trans (canon_cput arg15 L j (cacc arg15 L j.val) t l)
    funext a; refine Fin.ext ?_
    match a with
    | 0 => show 0 + 1 * t.val = t.val; omega
    | 1 => show 0 + 1 * l.val = l.val; omega
  unfold LC
  simp only [canon_lane, key]
  fin_cases j <;> simp

theorem canon_LE (arg15 : Memref sig .tc .vmem S8x2x192x128 .f32) (arg18 : Memref sig .tc .vmem S32x128 .f32) (L : Lh Ideal .f32) (j : Fin 8) (y : Fin 32) (l : Fin 128) :
    View.canon (LE (F := Ideal) arg15 arg18 L) (ix3 0 y ⟨128 * j.val + l.val, by omega⟩) = View.canon L (ix4 j (tp (et y)) (tr (et y)) l) := by
  have key : ∀ j : Fin 8, k0_pay230 (F := Ideal) (arg18.view.readCov (eput arg15 L j (eacc arg15 L j.val)) (Rect.unit (s := S32x128) ![0, 0] S32x128.size inb_S32x128_S32x128_0_0).toLoadRect) (ix3 0 y l)
      = View.canon L (ix4 j (tp (et y)) (tr (et y)) l) := fun j => by
    refine (pay230_apply (arg18.view.readCov (eput arg15 L j (eacc arg15 L j.val)) (Rect.unit (s := S32x128) ![0, 0] S32x128.size inb_S32x128_S32x128_0_0).toLoadRect) y l).trans ?_
    rw [View.readCov_eq_canon']
    refine (congrArg (View.canon _) ?_).trans (canon_eput arg15 L j (eacc arg15 L j.val) y l)
    funext a; refine Fin.ext ?_
    match a with
    | 0 => show 0 + 1 * y.val = y.val; omega
    | 1 => show 0 + 1 * l.val = l.val; omega
  unfold LE
  simp only [canon_lane32, key]
  fin_cases j <;> simp

/-- The padded scratch, read two rows up. -/
theorem zup (ze zo : FVec Ideal S192x128 .bf16) (L : Lz Ideal) (Z : Fin 384 → Fin 128 → EReal) (he : ∀ r c, ze (ix2 r c) = Z (tm 0 r) c) (ho : ∀ r c, zo (ix2 r c) = Z (tm 1 r) c) (r : Fin 192) (l : Fin 128) :
    View.canon (zput (F := Ideal) ze zo L) (ix3 1 ⟨14 + r.val, by omega⟩ l) = sA Z r l := by
  have hr := r.isLt
  unfold zput sA
  rw [canon_zr2, dif_neg (by simp), canon_zr2]
  by_cases h : r.val < 2
  · rw [dif_pos ⟨rfl, by show 14 ≤ 14 + r.val; omega, by show 14 + r.val < 14 + 2; omega⟩]
    refine (zlo_apply ze zo _ l).trans ?_
    by_cases h0 : r.val = 0
    · rw [if_pos (by show 14 + r.val - 14 = 0; omega), if_pos h0, ho]
    · rw [if_neg (by show ¬ 14 + r.val - 14 = 0; omega), if_neg h0, if_pos (by omega), he]
  · rw [dif_neg (fun hh => h (by have h2 : 14 + r.val < 14 + 2 := hh.2.2; omega)), canon_zr, dif_pos ⟨rfl, by show 16 ≤ 14 + r.val; omega, by show 14 + r.val < 16 + 192; omega⟩,
      if_neg (by omega), if_neg (by omega)]
    refine (zst_apply zo _ l).trans ((ho _ l).trans (congrArg (fun x => Z (tm 1 x) l) (Fin.ext ?_)))
    show 14 + r.val - 16 = r.val - 2
    omega

/-- The padded scratch, read two rows down. -/
theorem zdn (ze zo : FVec Ideal S192x128 .bf16) (L : Lz Ideal) (Z : Fin 384 → Fin 128 → EReal) (he : ∀ r c, ze (ix2 r c) = Z (tm 0 r) c) (ho : ∀ r c, zo (ix2 r c) = Z (tm 1 r) c) (r : Fin 192) (l : Fin 128) :
    View.canon (zput (F := Ideal) ze zo L) (ix3 0 ⟨18 + r.val, by omega⟩ l) = sB Z r l := by
  have hr := r.isLt
  unfold zput sB
  rw [canon_zr2]
  by_cases h : 190 ≤ r.val
  · rw [dif_pos ⟨rfl, by show 208 ≤ 18 + r.val; omega, by show 18 + r.val < 208 + 2; omega⟩]
    refine (zhi_apply ze zo _ l).trans ?_
    by_cases h0 : r.val = 190
    · rw [if_pos (by show 18 + r.val - 208 = 0; omega), if_pos h0, ho]
    · rw [if_neg (by show ¬ 18 + r.val - 208 = 0; omega), if_neg h0, if_pos (by omega), he]
  · rw [dif_neg (fun hh => h (by have h2 : 208 ≤ 18 + r.val := hh.2.1; omega)), canon_zr2, dif_neg (by simp), canon_zr, dif_neg (by simp), canon_zr,
      dif_pos ⟨rfl, by show 16 ≤ 18 + r.val; omega, by show 18 + r.val < 16 + 192; omega⟩, if_neg (by omega), if_neg (by omega)]
    refine (zst_apply ze _ l).trans ((he _ l).trans (congrArg (fun x => Z (tm 0 x) l) (Fin.ext ?_)))
    show 18 + r.val - 16 = (r.val + 2) % 192
    omega

end Cert.HeadIdeal.Val
-- ==== Proof.Hd.RunC.lean ====
/- What a point leaves in the second result and in the carried weights, as the layers. -/
module

public import proofs.«01_k».proof.Proof.Hd.Vals

@[expose] public section

set_option maxRecDepth 16384

noncomputable section

namespace Cert.HeadIdeal.Val

open Idealize.ShloMosaic Idealize.ShloMosaic.TcCoe Idealize.SL.Sem
open Cert.HeadIdeal Cert.HeadIdeal.Gen

variable {F : FTy → Type} [FloatOps F]

variable (c : Dev nD) (i : grid0.Coords) (arg1 : Memref sig .tc .vmem S1x384x1024 .fp8e4m3) (harg1 : arg1.IsWhole) (arg2 : Memref sig .tc .vmem S1x384x32 .f32) (harg2 : arg2.IsWhole) (arg3 : Memref sig .tc .vmem S1024x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S7x3x128x128 .bf16) (harg8 : arg8.IsWhole) (arg9 : Memref sig .tc .vmem S7x128 .f32) (harg9 : arg9.IsWhole) (arg10 : Memref sig .tc .vmem S7x128 .f32) (harg10 : arg10.IsWhole) (arg11 : Memref sig .tc .vmem S7x128 .f32) (harg11 : arg11.IsWhole) (arg12 : Memref sig .tc .vmem S1x32x1024 .f32) (harg12 : arg12.IsWhole) (arg13 : Memref sig .tc .vmem S1x384x1024 .f32) (harg13 : arg13.IsWhole) (arg14 : Memref sig .tc .vmem S8x2x192x128 .bf16) (harg14 : arg14.IsWhole) (arg15 : Memref sig .tc .vmem S8x2x192x128 .f32) (harg15 : arg15.IsWhole) (arg16 : Memref sig .tc .vmem S2x224x128 .bf16) (harg16 : arg16.IsWhole) (arg17 : Memref sig .tc .vmem S7x512x256 .bf16) (harg17 : arg17.IsWhole) (arg18 : Memref sig .tc .vmem S32x128 .f32) (harg18 : arg18.IsWhole) (arg19 : Memref sig .tc .vmem S384x128 .f32) (harg19 : arg19.IsWhole)
    (x0 : Vec F S1x384x1024 .fp8e4m3) (x1 : Vec F S1x384x32 .f32) (x2 : Vec F S1024x1024 .fp8e4m3) (x3 : Vec F S1x1024 .f32) (x4 : Vec F S1x1024 .f32) (x5 : Vec F S1x1024 .f32) (x6 : Vec F S1x1024 .f32) (x7 : Vec F S7x3x128x128 .bf16) (x8 : Vec F S7x128 .f32) (x9 : Vec F S7x128 .f32) (x10 : Vec F S7x128 .f32) (xs3 : Vec F S7x512x256 .bf16)

/-- The first point leaves the rearranged weights. -/
theorem carryA (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.1 = LB arg8 harg8 x7 := rfl

/-- The rows of the first point. -/
theorem cA (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.1 = LC arg15 arg19 (h7P arg1 harg1 arg2 harg2 arg3 harg3 arg4 harg4 arg5 harg5 arg6 harg6 arg7 harg7 arg9 harg9 arg10 harg10 arg11 harg11 arg14 arg15 arg16 x0 x1 x2 x3 x4 x5 x6 x8 x9 x10 (bdA arg8 harg8 arg17 x7)) := rfl

/-- The rows of a later point. -/
theorem cB (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs3).2.1 = LC arg15 arg19 (h7P arg1 harg1 arg2 harg2 arg3 harg3 arg4 harg4 arg5 harg5 arg6 harg6 arg7 harg7 arg9 harg9 arg10 harg10 arg11 harg11 arg14 arg15 arg16 x0 x1 x2 x3 x4 x5 x6 x8 x9 x10 (bdB arg17 harg17 xs3)) := rfl

end Cert.HeadIdeal.Val
-- ==== Proof.Hd.RunE.lean ====
/- What a point leaves in the first result, as the layers. -/
module

public import proofs.«01_k».proof.Proof.Hd.Vals

@[expose] public section

set_option maxRecDepth 16384

noncomputable section

namespace Cert.HeadIdeal.Val

open Idealize.ShloMosaic Idealize.ShloMosaic.TcCoe Idealize.SL.Sem
open Cert.HeadIdeal Cert.HeadIdeal.Gen

variable {F : FTy → Type} [FloatOps F]

variable (c : Dev nD) (i : grid0.Coords) (arg1 : Memref sig .tc .vmem S1x384x1024 .fp8e4m3) (harg1 : arg1.IsWhole) (arg2 : Memref sig .tc .vmem S1x384x32 .f32) (harg2 : arg2.IsWhole) (arg3 : Memref sig .tc .vmem S1024x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S7x3x128x128 .bf16) (harg8 : arg8.IsWhole) (arg9 : Memref sig .tc .vmem S7x128 .f32) (harg9 : arg9.IsWhole) (arg10 : Memref sig .tc .vmem S7x128 .f32) (harg10 : arg10.IsWhole) (arg11 : Memref sig .tc .vmem S7x128 .f32) (harg11 : arg11.IsWhole) (arg12 : Memref sig .tc .vmem S1x32x1024 .f32) (harg12 : arg12.IsWhole) (arg13 : Memref sig .tc .vmem S1x384x1024 .f32) (harg13 : arg13.IsWhole) (arg14 : Memref sig .tc .vmem S8x2x192x128 .bf16) (harg14 : arg14.IsWhole) (arg15 : Memref sig .tc .vmem S8x2x192x128 .f32) (harg15 : arg15.IsWhole) (arg16 : Memref sig .tc .vmem S2x224x128 .bf16) (harg16 : arg16.IsWhole) (arg17 : Memref sig .tc .vmem S7x512x256 .bf16) (harg17 : arg17.IsWhole) (arg18 : Memref sig .tc .vmem S32x128 .f32) (harg18 : arg18.IsWhole) (arg19 : Memref sig .tc .vmem S384x128 .f32) (harg19 : arg19.IsWhole)
    (x0 : Vec F S1x384x1024 .fp8e4m3) (x1 : Vec F S1x384x32 .f32) (x2 : Vec F S1024x1024 .fp8e4m3) (x3 : Vec F S1x1024 .f32) (x4 : Vec F S1x1024 .f32) (x5 : Vec F S1x1024 .f32) (x6 : Vec F S1x1024 .f32) (x7 : Vec F S7x3x128x128 .bf16) (x8 : Vec F S7x128 .f32) (x9 : Vec F S7x128 .f32) (x10 : Vec F S7x128 .f32) (xs3 : Vec F S7x512x256 .bf16)

set_option maxHeartbeats 2000000 in
/-- The edge rows of the first point. -/
theorem edgesA (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).1 = LE arg15 arg18 (h7P arg1 harg1 arg2 harg2 arg3 harg3 arg4 harg4 arg5 harg5 arg6 harg6 arg7 harg7 arg9 harg9 arg10 harg10 arg11 harg11 arg14 arg15 arg16 x0 x1 x2 x3 x4 x5 x6 x8 x9 x10 (bdA arg8 harg8 arg17 x7)) := rfl

set_option maxHeartbeats 2000000 in
/-- The edge rows of a later point. -/
theorem edgesB (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs3).1 = LE arg15 arg18 (h7P arg1 harg1 arg2 harg2 arg3 harg3 arg4 harg4 arg5 harg5 arg6 harg6 arg7 harg7 arg9 harg9 arg10 harg10 arg11 harg11 arg14 arg15 arg16 x0 x1 x2 x3 x4 x5 x6 x8 x9 x10 (bdB arg17 harg17 xs3)) := rfl

end Cert.HeadIdeal.Val
-- ==== Proof.Hd.Point.lean ====
/- What one grid point of the head kernel leaves, over the extended reals: the problem's formulas of that sample's
   blocks. -/
module

public import proofs.«01_k».proof.Proof.Hd.Lists
public import proofs.«01_k».proof.Proof.Hd.RunC
public import proofs.«01_k».proof.Proof.Hd.RunE

@[expose] public section

set_option maxRecDepth 16384

noncomputable section

namespace Cert.HeadIdeal.Val

open Idealize.ShloMosaic Idealize.ShloMosaic.TcCoe Idealize.SL.Sem
open Cert.HeadIdeal Cert.HeadIdeal.Gen

/-! ## The loads, at an index -/

section Loads

theorem rowP_apply (arg : Memref sig .tc .vmem S1x1024 .f32) (harg : arg.IsWhole) (x : Vec Ideal S1x1024 .f32) (n : Fin 4) (q : Fin 256) :
    rowP arg harg x n (ix2 0 q) = x (ix2 0 ⟨256 * n.val + q.val, by omega⟩) := by
  rw [rowP, harg.readAt_unread]
  refine congrArg x ?_
  funext a; refine Fin.ext ?_
  match a with
  | 0 => rfl
  | 1 => show 256 * n.val + 1 * q.val = 256 * n.val + q.val; omega

theorem wP_apply (arg : Memref sig .tc .vmem S1024x1024 .fp8e4m3) (harg : arg.IsWhole) (x : Vec Ideal S1024x1024 .fp8e4m3) (n : Fin 4) (k : Fin 1024) (q : Fin 256) :
    wP arg harg x n (ix2 k q) = x (ix2 k ⟨256 * n.val + q.val, by omega⟩) := by
  rw [wP, harg.readAt_unread]
  refine congrArg x ?_
  funext a; refine Fin.ext ?_
  match a with
  | 0 => show 0 + 1 * k.val = k.val; omega
  | 1 => show 256 * n.val + 1 * q.val = 256 * n.val + q.val; omega

theorem r7P_apply (arg : Memref sig .tc .vmem S7x128 .f32) (harg : arg.IsWhole) (x : Vec Ideal S7x128 .f32) (i : Fin 7) (l : Fin 128) :
    r7P arg harg x i (ix2 0 l) = x (ix2 i l) := by
  rw [r7P, harg.readAt_unread]
  refine congrArg x ?_
  funext a; refine Fin.ext ?_
  match a with
  | 0 => show i.val + 1 * 0 = i.val; omega
  | 1 => show 0 + 1 * l.val = l.val; omega

theorem wrP_apply (arg : Memref sig .tc .vmem S7x3x128x128 .bf16) (harg : arg.IsWhole) (x : Vec Ideal S7x3x128x128 .bf16) (i : Fin 7) (k : Fin 3) (c l : Fin 128) :
    wrP arg harg x i k (ix4 0 0 c l) = x (ix4 i k c l) := by
  rw [wrP, harg.readAt_unread]
  refine congrArg x ?_
  funext a; refine Fin.ext ?_
  match a with
  | 0 => show i.val + 1 * 0 = i.val; omega
  | 1 => show k.val + 1 * 0 = k.val; omega
  | 2 => show 0 + 1 * c.val = c.val; omega
  | 3 => show 0 + 1 * l.val = l.val; omega

theorem lane_idx (j : Fin 8) (t : Fin 384) (l : Fin 128) :
    ((lane j).toLoadRect.idx (ix3 0 t l) : S1x384x1024.Idx) = ix3 0 t ⟨128 * j.val + l.val, by omega⟩ := by
  funext a; refine Fin.ext ?_
  match a with
  | 0 => rfl
  | 1 => show 0 + 1 * t.val = t.val; omega
  | 2 => show 128 * j.val + 1 * l.val = 128 * j.val + l.val; omega

theorem scale_apply (arg : Memref sig .tc .vmem S1x384x32 .f32) (harg : arg.IsWhole) (x : Vec Ideal S1x384x32 .f32) (k : Fin 32) (t : Fin 384) :
    View.readAt (Elt Ideal) arg.view (Rect.unit (s := S1x384x32) ![0, 0, k.val] S1x384x1.size (inb_scale k)).toLoadRect (harg.unread x) (ix3 0 t 0) = x (ix3 0 t k) := by
  rw [harg.readAt_unread]
  refine congrArg x ?_
  funext a; refine Fin.ext ?_
  match a with
  | 0 => rfl
  | 1 => show 0 + 1 * t.val = t.val; omega
  | 2 => show k.val + 1 * 0 = k.val; omega

theorem aP_apply (arg1 : Memref sig .tc .vmem S1x384x1024 .fp8e4m3) (harg1 : arg1.IsWhole) (arg2 : Memref sig .tc .vmem S1x384x32 .f32) (harg2 : arg2.IsWhole)
    (x0 : Vec Ideal S1x384x1024 .fp8e4m3) (x1 : Vec Ideal S1x384x32 .f32) (j : Fin 8) (p : Fin 2) (r : Fin 192) (l : Fin 128) :
    aP arg1 harg1 arg2 harg2 x0 x1 j p (ix4 0 0 r l) = Av (fun t k => x0 (ix3 0 t k)) (fun t k => x1 (ix3 0 t k)) (tm p r) ⟨128 * j.val + l.val, by omega⟩ :=
  ap_apply _ _ _ _ _ (fun t k => x0 (ix3 0 t k)) (fun t k => x1 (ix3 0 t k)) j
    (fun t => scale_apply arg2 harg2 x1 ⟨4 * j.val, by omega⟩ t) (fun t => scale_apply arg2 harg2 x1 ⟨4 * j.val + 1, by omega⟩ t)
    (fun t => scale_apply arg2 harg2 x1 ⟨4 * j.val + 2, by omega⟩ t) (fun t => scale_apply arg2 harg2 x1 ⟨4 * j.val + 3, by omega⟩ t)
    (fun t l => (harg1.readAt_unread x0 (lane j).toLoadRect (ix3 0 t l)).trans (congrArg x0 (lane_idx j t l))) p r l

theorem whole_apply {S : Shape} {e : EltTy} (arg : Memref sig .tc .vmem S e) (harg : arg.IsWhole) (x : Vec Ideal S e) (B : LoadRect S) (y : B.shape.Idx) :
    View.readAt (Elt Ideal) arg.view B (harg.unread x) y = x (B.idx y) := harg.readAt_unread x B y

end Loads

/-! ## One layer -/

/-- The weights' scratch holds, for layer `i`, the rearranged taps. -/
def IsBd (W : Fin 7 → Fin 3 → Fin 128 → Fin 128 → EReal) (bd : Fin 7 → FVec Ideal S1x512x256 .bf16) : Prop :=
  ∀ (i : Fin 7) (k : Fin 4) (c : Fin 128) (p : Fin 2) (l : Fin 128), bd i (ix3 0 ⟨128 * k.val + c.val, by omega⟩ ⟨128 * p.val + l.val, by omega⟩) = wv (W i) k c p l

theorem ix3c {k m n : ℕ} {x x' : Fin k} {a a' : Fin m} {b b' : Fin n} (hx : x.val = x'.val) (h : a.val = a'.val) (h' : b.val = b'.val) : ix3 x a b = ix3 x' a' b' := by
  rw [Fin.ext hx, Fin.ext h, Fin.ext h']

/-- A layer's products are the three taps of its input. -/
theorem accP_apply (arg16 : Memref sig .tc .vmem S2x224x128 .bf16) (ze zo : FVec Ideal S192x128 .bf16) (L : Lz Ideal) (W : Fin 7 → Fin 3 → Fin 128 → Fin 128 → EReal) (bd : Fin 7 → FVec Ideal S1x512x256 .bf16)
    (hbd : IsBd W bd) (Z : Fin 384 → Fin 128 → EReal) (he : ∀ r c, ze (ix2 r c) = Z (tm 0 r) c) (ho : ∀ r c, zo (ix2 r c) = Z (tm 1 r) c) (i : Fin 7) (p : Fin 2) (r : Fin 192) (l : Fin 128) :
    accP (F := Ideal) arg16 ze zo L (bd i) (ix2 r ⟨128 * p.val + l.val, by omega⟩)
      = (∑ c : Fin 128, Z (rx (tm p r).val (by omega)) c * W i 0 c l) + (∑ c : Fin 128, Z (rx ((tm p r).val + 2) (by omega)) c * W i 1 c l)
        + (∑ c : Fin 128, Z (rx ((tm p r).val + 4) (by omega)) c * W i 2 c l) := by
  refine (acc_apply ze zo (arg16.view.readCov (zput ze zo L) (zr 1 14).toLoadRect) (arg16.view.readCov (zput ze zo L) (zr 0 18).toLoadRect) (bd i) r _).trans ?_
  refine Eq.trans ?_ (taps Z (W i) p r l)
  refine congrArg₂ (· + ·) (congrArg₂ (· + ·) (congrArg₂ (· + ·) ?_ ?_) ?_) ?_ <;> refine Finset.sum_congr rfl fun c _ => congrArg₂ (· * ·) ?_ ?_
  · exact he r c
  · exact (congrArg (bd i) (ix3c rfl (by show c.val = 128 * 0 + c.val; omega) rfl)).trans (hbd i 0 c p l)
  · exact ho r c
  · exact (congrArg (bd i) (ix3c rfl (by show 128 + c.val = 128 * 1 + c.val; omega) rfl)).trans (hbd i 1 c p l)
  · exact (read_zr arg16 (zput ze zo L) 1 14 r c).trans (zup ze zo L Z he ho r c)
  · exact (congrArg (bd i) (ix3c rfl (by show 256 + c.val = 128 * 2 + c.val; omega) rfl)).trans (hbd i 2 c p l)
  · exact (read_zr arg16 (zput ze zo L) 0 18 r c).trans (zdn ze zo L Z he ho r c)
  · exact (congrArg (bd i) (ix3c rfl (by show 384 + c.val = 128 * 3 + c.val; omega) rfl)).trans (hbd i 3 c p l)

/-- Block `j` of a scratch holds `Y`, its rows spread over the two words. -/
def Is (L : Lh Ideal .f32) (j : Fin 8) (Y : Fin 384 → Fin 128 → EReal) : Prop := ∀ (p : Fin 2) (r : Fin 192) (l : Fin 128), View.canon L (ix4 j p r l) = Y (tm p r) l

section Layer
variable (arg15 : Memref sig .tc .vmem S8x2x192x128 .f32) (arg16 : Memref sig .tc .vmem S2x224x128 .bf16)
  (W : Fin 7 → Fin 3 → Fin 128 → Fin 128 → EReal) (bd : Fin 7 → FVec Ideal S1x512x256 .bf16) (hbd : IsBd W bd)
  (b g e : Fin 7 → FVec Ideal S1x128 .f32) (B G E : Fin 7 → Fin 128 → EReal) (hb : ∀ i l, b i (ix2 0 l) = B i l) (hg : ∀ i l, g i (ix2 0 l) = G i l) (he : ∀ i l, e i (ix2 0 l) = E i l)

include hbd hb hg he in
/-- A layer writes its result in its block. -/
theorem step_self (j : Fin 8) (i : Fin 7) (ze zo : FVec Ideal S192x128 .bf16) (Z : Fin 384 → Fin 128 → EReal) (hze : ∀ r c, ze (ix2 r c) = Z (tm 0 r) c) (hzo : ∀ r c, zo (ix2 r c) = Z (tm 1 r) c) (s : Lh Ideal .f32 × Lz Ideal) :
    Is (step (F := Ideal) arg16 j ze zo (bd i) (b i) (g i) (e i) s).1 j (Cv Z (W i) (B i) (G i) (E i)) := by
  have key : ∀ (p : Fin 2) (r : Fin 192) (l : Fin 128), lay p (accP arg16 ze zo s.2 (bd i)) (b i) (g i) (e i) (ix4 0 0 r l) = Cv Z (W i) (B i) (G i) (E i) (tm p r) l := fun p r l => by
    refine (lay_apply p (accP arg16 ze zo s.2 (bd i)) (b i) (g i) (e i) r l).trans ?_
    rw [accP_apply arg16 ze zo s.2 W bd hbd Z hze hzo i p r l, hb, hg, he]
    rfl
  intro p r l
  unfold step
  refine (canon_rc j 1 _ _ j p r l).trans ?_
  by_cases h1 : p = 1
  · subst h1; exact (if_pos ⟨rfl, rfl⟩).trans (key 1 r l)
  · obtain rfl : p = 0 := by omega
    refine (if_neg (fun h => h1 h.2)).trans ((canon_rc j 0 _ _ j 0 r l).trans ?_)
    exact (if_pos ⟨rfl, rfl⟩).trans (key 0 r l)

/-- A layer leaves the other blocks as they were. -/
theorem step_other (j : Fin 8) (ze zo : FVec Ideal S192x128 .bf16) (bd' : FVec Ideal S1x512x256 .bf16) (b' g' e' : FVec Ideal S1x128 .f32) (s : Lh Ideal .f32 × Lz Ideal) (j' : Fin 8) (hj : j' ≠ j) (Y : Fin 384 → Fin 128 → EReal) (h : Is s.1 j' Y) :
    Is (step (F := Ideal) arg16 j ze zo bd' b' g' e' s).1 j' Y := fun p r l => by
  unfold step
  exact (canon_rc j 1 _ _ j' p r l).trans ((if_neg fun h => hj h.1).trans ((canon_rc j 0 _ _ j' p r l).trans ((if_neg fun h => hj h.1).trans (h p r l))))

variable (H : Fin 384 → Fin 1024 → EReal)

/-- After layer `k` the blocks up to `k` are done, the others still hold the product. -/
def Inv (k : ℕ) (L : Lh Ideal .f32) : Prop := ∀ j : Fin 8, Is L j (if j.val ≤ k then Yb H W B G E j else Hb H j)

include hbd hb hg he in
theorem st1_inv (L : Lh Ideal .f32) (h : Inv W B G E H 0 L) : Inv W B G E H 1 (st1 (F := Ideal) arg15 arg16 bd b g e L).1 := by
  intro j
  by_cases hj : j = 1
  · subst hj
    refine step_self arg16 W bd hbd b g e B G E hb hg he 1 0 _ _ (Hb H 1) (fun r c => ?_) (fun r c => ?_) (L, [])
    · exact (z1_apply (arg15.view.readCov L (rc 1 0).toLoadRect) r c).trans ((read_rc arg15 L 1 0 r c).trans (h 1 0 r c))
    · exact (z1_apply (arg15.view.readCov L (rc 1 1).toLoadRect) r c).trans ((read_rc arg15 L 1 1 r c).trans (h 1 1 r c))
  · refine step_other arg16 1 _ _ _ _ _ _ (L, []) j hj _ ?_
    have e : (j.val ≤ 1) = (j.val ≤ 0) := propext ⟨fun h' => by have : j.val ≠ 1 := fun h1 => hj (Fin.ext h1); omega, fun h' => by omega⟩
    simp only [e]
    exact h j

include hbd hb hg he in
theorem stn_inv (i : Fin 7) (j j' : Fin 8) (hj : j.val = i.val + 1) (hj' : j'.val = i.val) (hY : Yb H W B G E j = Yn H W B G E i (Yb H W B G E j')) (s : Lh Ideal .f32 × Lz Ideal) (h : Inv W B G E H i.val s.1) :
    Inv W B G E H (i.val + 1) (stn (F := Ideal) arg15 arg16 bd b g e i j j' s).1 := by
  have hjj : Is s.1 j (Hb H j) := by have := h j; rwa [if_neg (by omega)] at this
  have hjj' : Is s.1 j' (Yb H W B G E j') := by have := h j'; rwa [if_pos (by omega)] at this
  have ej : (⟨i.val + 1, by omega⟩ : Fin 8) = j := Fin.ext hj.symm
  have hz : ∀ (p : Fin 2) (r : Fin 192) (c : Fin 128), zl (F := Ideal) arg15 s.1 j j' p (ix2 r c) = Hb H j (tm p r) c + Yb H W B G E j' (tm p r) c := fun p r c => by
    refine (zn_apply (arg15.view.readCov s.1 (rc j p).toLoadRect) (arg15.view.readCov s.1 (rc j' p).toLoadRect) r c).trans ?_
    exact congrArg₂ (· + ·) ((read_rc arg15 s.1 j p r c).trans (hjj p r c)) ((read_rc arg15 s.1 j' p r c).trans (hjj' p r c))
  intro k
  by_cases hk : k = j
  · subst hk
    rw [if_pos (by omega), hY]
    unfold Yn
    rw [ej]
    exact step_self arg16 W bd hbd b g e B G E hb hg he k i _ _ (fun t l => Hb H k t l + Yb H W B G E j' t l) (hz 0) (hz 1) s
  · refine step_other arg16 j _ _ _ _ _ _ s k hk _ ?_
    have e : (k.val ≤ i.val + 1) = (k.val ≤ i.val) := propext ⟨fun h' => by have : k.val ≠ j.val := fun h1 => hk (Fin.ext h1); omega, fun h' => by omega⟩
    simp only [e]
    exact h k

include hbd hb hg he in
/-- After all the layers every block is done. -/
theorem st7_is (L : Lh Ideal .f32) (h : ∀ j, Is L j (Hb H j)) (j : Fin 8) : Is (st7 (F := Ideal) arg15 arg16 bd b g e L).1 j (Yb H W B G E j) := by
  have h0 : Inv W B G E H 0 L := fun j => by
    by_cases hj : j.val ≤ 0
    · obtain rfl : j = 0 := Fin.ext (by show j.val = 0; omega)
      exact h 0
    · rw [if_neg hj]; exact h j
  have h1 := st1_inv arg15 arg16 W bd hbd b g e B G E hb hg he H L h0
  have h2 := stn_inv arg15 arg16 W bd hbd b g e B G E hb hg he H 1 2 1 rfl rfl rfl _ h1
  have h3 := stn_inv arg15 arg16 W bd hbd b g e B G E hb hg he H 2 3 2 rfl rfl rfl _ h2
  have h4 := stn_inv arg15 arg16 W bd hbd b g e B G E hb hg he H 3 4 3 rfl rfl rfl _ h3
  have h5 := stn_inv arg15 arg16 W bd hbd b g e B G E hb hg he H 4 5 4 rfl rfl rfl _ h4
  have h6 := stn_inv arg15 arg16 W bd hbd b g e B G E hb hg he H 5 6 5 rfl rfl rfl _ h5
  have h7 := stn_inv arg15 arg16 W bd hbd b g e B G E hb hg he H 6 7 6 rfl rfl rfl _ h6
  have h8 := h7 j
  rw [if_pos (show j.val ≤ (6 : Fin 7).val + 1 by have := j.isLt; show j.val ≤ 6 + 1; omega)] at h8
  exact h8

end Layer

/-! ## The product, the weights and the results of a point -/

section Results
variable (arg1 : Memref sig .tc .vmem S1x384x1024 .fp8e4m3) (harg1 : arg1.IsWhole) (arg2 : Memref sig .tc .vmem S1x384x32 .f32) (harg2 : arg2.IsWhole) (arg3 : Memref sig .tc .vmem S1024x1024 .fp8e4m3) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole)
  (arg8 : Memref sig .tc .vmem S7x3x128x128 .bf16) (harg8 : arg8.IsWhole) (arg9 : Memref sig .tc .vmem S7x128 .f32) (harg9 : arg9.IsWhole) (arg10 : Memref sig .tc .vmem S7x128 .f32) (harg10 : arg10.IsWhole) (arg11 : Memref sig .tc .vmem S7x128 .f32) (harg11 : arg11.IsWhole)
  (arg14 : Memref sig .tc .vmem S8x2x192x128 .bf16) (arg15 : Memref sig .tc .vmem S8x2x192x128 .f32) (arg16 : Memref sig .tc .vmem S2x224x128 .bf16) (arg17 : Memref sig .tc .vmem S7x512x256 .bf16) (harg17 : arg17.IsWhole)
  (x0 : Vec Ideal S1x384x1024 .fp8e4m3) (x1 : Vec Ideal S1x384x32 .f32) (x2 : Vec Ideal S1024x1024 .fp8e4m3) (x3 x4 x5 x6 : Vec Ideal S1x1024 .f32) (x7 : Vec Ideal S7x3x128x128 .bf16) (x8 x9 x10 : Vec Ideal S7x128 .f32) (xs3 : Vec Ideal S7x512x256 .bf16)

/-- The first product of a point's blocks. -/
abbrev pH : Fin 384 → Fin 1024 → EReal :=
  Zv (Av (fun t k => x0 (ix3 0 t k)) (fun t k => x1 (ix3 0 t k))) (fun k d => x2 (ix2 k d)) (fun d => x3 (ix2 0 d)) (fun d => x4 (ix2 0 d)) (fun d => x5 (ix2 0 d)) (fun d => x6 (ix2 0 d))

theorem h0P_is (j : Fin 8) : Is (h0P (F := Ideal) arg1 harg1 arg2 harg2 arg3 harg3 arg4 harg4 arg5 harg5 arg6 harg6 arg7 harg7 arg14 x0 x1 x2 x3 x4 x5 x6) j (Hb (pH x0 x1 x2 x3 x4 x5 x6) j) := fun p r l => by
  have hj : j = ⟨2 * (⟨j.val / 2, by omega⟩ : Fin 4).val + (⟨j.val % 2, by omega⟩ : Fin 2).val, by dsimp only; omega⟩ := Fin.ext (by dsimp only; omega)
  unfold h0P
  rw [hj]
  refine (canon_LH _ ⟨j.val / 2, by omega⟩ ⟨j.val % 2, by omega⟩ p r l).trans ((mh_apply _ _ r l).trans ?_)
  refine (mm_apply _ _ _ _ _ _ (fun r k => Av (fun t k => x0 (ix3 0 t k)) (fun t k => x1 (ix3 0 t k)) (tm p r) k) (fun j r l => ?_) r _).trans ?_
  · refine (read_rc arg14 (LA (aP arg1 harg1 arg2 harg2 x0 x1)) j p r l).trans ((canon_LA _ j p r l).trans ((aP_apply arg1 harg1 arg2 harg2 x0 x1 j p r l).trans ?_))
    exact congrArg (Av _ _ _) (Fin.ext (by show 128 * j.val + l.val = j.val * 128 + l.val; omega))
  · rw [rowP_apply, rowP_apply, rowP_apply, rowP_apply]
    simp only [wP_apply]
    have e : (⟨256 * (j.val / 2) + (128 * (j.val % 2) + l.val), by omega⟩ : Fin 1024) = ⟨128 * (2 * (j.val / 2) + j.val % 2) + l.val, by omega⟩ := Fin.ext (by dsimp only; omega)
    unfold Hb
    dsimp only
    rw [e]
    rfl

theorem bdA_is : IsBd (fun i k c l => x7 (ix4 i k c l)) (bdA (F := Ideal) arg8 harg8 arg17 x7) := fun i k c p l => by
  unfold bdA
  rw [View.readCov_eq_canon']
  refine (congrArg (View.canon _) ?_).trans ((canon_LB arg8 harg8 x7 i k c ⟨128 * p.val + l.val, by omega⟩).trans ((wbd_apply k (wrP arg8 harg8 x7 i) c p l).trans ?_))
  · funext a; refine Fin.ext ?_
    match a with
    | 0 => show i.val + 1 * 0 = i.val; omega
    | 1 => show 0 + 1 * (128 * k.val + c.val) = 128 * k.val + c.val; omega
    | 2 => show 0 + 1 * (128 * p.val + l.val) = 128 * p.val + l.val; omega
  · exact congrArg (fun w => wv w k c p l) (funext fun q => funext fun c => funext fun l => wrP_apply arg8 harg8 x7 i q c l)

theorem bdB_is (W : Fin 7 → Fin 3 → Fin 128 → Fin 128 → EReal)
    (h : ∀ (i : Fin 7) (k : Fin 4) (c : Fin 128) (p : Fin 2) (l : Fin 128), xs3 (ix3 i ⟨128 * k.val + c.val, by omega⟩ ⟨128 * p.val + l.val, by omega⟩) = wv (W i) k c p l) :
    IsBd W (bdB (F := Ideal) arg17 harg17 xs3) := fun i k c p l => by
  unfold bdB
  rw [whole_apply arg17 harg17]
  refine (congrArg xs3 ?_).trans (h i k c p l)
  funext a; refine Fin.ext ?_
  match a with
  | 0 => show i.val + 1 * 0 = i.val; omega
  | 1 => show 0 + 1 * (128 * k.val + c.val) = 128 * k.val + c.val; omega
  | 2 => show 0 + 1 * (128 * p.val + l.val) = 128 * p.val + l.val; omega

/-- The result of a point, of its blocks. -/
abbrev pC (W : Fin 7 → Fin 3 → Fin 128 → Fin 128 → EReal) : Fin 8 → Fin 384 → Fin 128 → EReal :=
  Yb (pH x0 x1 x2 x3 x4 x5 x6) W (fun i l => x8 (ix2 i l)) (fun i l => x9 (ix2 i l)) (fun i l => x10 (ix2 i l))

theorem h7P_is (W : Fin 7 → Fin 3 → Fin 128 → Fin 128 → EReal) (bd : Fin 7 → FVec Ideal S1x512x256 .bf16) (hbd : IsBd W bd) (j : Fin 8) :
    Is (h7P (F := Ideal) arg1 harg1 arg2 harg2 arg3 harg3 arg4 harg4 arg5 harg5 arg6 harg6 arg7 harg7 arg9 harg9 arg10 harg10 arg11 harg11 arg14 arg15 arg16 x0 x1 x2 x3 x4 x5 x6 x8 x9 x10 bd) j (pC x0 x1 x2 x3 x4 x5 x6 x8 x9 x10 W j) :=
  st7_is arg15 arg16 W bd hbd (r7P arg9 harg9 x8) (r7P arg10 harg10 x9) (r7P arg11 harg11 x10) _ _ _ (r7P_apply arg9 harg9 x8) (r7P_apply arg10 harg10 x9) (r7P_apply arg11 harg11 x10) _ _
    (h0P_is arg1 harg1 arg2 harg2 arg3 harg3 arg4 harg4 arg5 harg5 arg6 harg6 arg7 harg7 arg14 x0 x1 x2 x3 x4 x5 x6) j

/-- A block read back at a time step. -/
theorem is_at (L : Lh Ideal .f32) (j : Fin 8) (Y : Fin 384 → Fin 128 → EReal) (h : Is L j Y) (t : Fin 384) (l : Fin 128) : View.canon L (ix4 j (tp t) (tr t) l) = Y t l :=
  (h (tp t) (tr t) l).trans (by rw [tm_tp_tr])

end Results

end Cert.HeadIdeal.Val
-- ==== Proof.Hd.Cases.lean ====
/- What each case of the head kernel's body leaves, as the problem's formulas of the blocks it reads. -/
module

public import proofs.«01_k».proof.Proof.Hd.Point
public import proofs.«01_k».proof.Proof.Gen.HeadIdeal.Frame
public import Idealize.ShloMosaic.Lib.Pipeline.ValueKit

@[expose] public section

set_option maxRecDepth 16384

noncomputable section

namespace Cert.HeadIdeal.Val

open Idealize.ShloMosaic Idealize.ShloMosaic.TcCoe Idealize.SL.Sem
open Cert.HeadIdeal Cert.HeadIdeal.Gen

/-! ## The results, as formulas of the arguments -/

section Formulas

variable (cc : S28x384x1024.Idx → EReal) (cs : S28x384x32.Idx → EReal)
  (w : S1024x1024.Idx → EReal) (ws b g e : S1024.Idx → EReal) (wr : S7x3x128x128.Idx → EReal)
  (br gr er : S7x128.Idx → EReal)

/-- Block `j` of the result of sample `n`. -/
def specC (n : Fin 28) : Fin 8 → Fin 384 → Fin 128 → EReal :=
  Yb (Zv (Av (fun t k => cc (ix3 n t k)) (fun t k => cs (ix3 n t k))) (fun k d => w (ix2 k d)) (fun d => ws (ix1 d)) (fun d => b (ix1 d)) (fun d => g (ix1 d)) (fun d => e (ix1 d)))
    (fun i k c l => wr (ix4 i k c l)) (fun i l => br (ix2 i l)) (fun i l => gr (ix2 i l)) (fun i l => er (ix2 i l))

variable (x0 : Vec Ideal S1x384x1024 .fp8e4m3) (x1 : Vec Ideal S1x384x32 .f32) (x2 : Vec Ideal S1024x1024 .fp8e4m3) (x3 x4 x5 x6 : Vec Ideal S1x1024 .f32) (x8 x9 x10 : Vec Ideal S7x128 .f32)
  (W : Fin 7 → Fin 3 → Fin 128 → Fin 128 → EReal) (n : Fin 28)

theorem funext₄ {α β γ δ ε : Type} {f g : α → β → γ → δ → ε} (h : ∀ a b c d, f a b c d = g a b c d) : f = g :=
  funext fun a => funext fun b => funext fun c => funext fun d => h a b c d

/-- A point's result is its sample's, its blocks being the sample's. -/
theorem pC_eq (h0 : ∀ t k, x0 (ix3 0 t k) = cc (ix3 n t k)) (h1 : ∀ t k, x1 (ix3 0 t k) = cs (ix3 n t k)) (h2 : ∀ k d, x2 (ix2 k d) = w (ix2 k d))
    (h3 : ∀ d, x3 (ix2 0 d) = ws (ix1 d)) (h4 : ∀ d, x4 (ix2 0 d) = b (ix1 d)) (h5 : ∀ d, x5 (ix2 0 d) = g (ix1 d)) (h6 : ∀ d, x6 (ix2 0 d) = e (ix1 d))
    (h7 : ∀ i k c l, W i k c l = wr (ix4 i k c l)) (h8 : ∀ i l, x8 (ix2 i l) = br (ix2 i l)) (h9 : ∀ i l, x9 (ix2 i l) = gr (ix2 i l)) (h10 : ∀ i l, x10 (ix2 i l) = er (ix2 i l)) :
    pC x0 x1 x2 x3 x4 x5 x6 x8 x9 x10 W = specC cc cs w ws b g e wr br gr er n := by
  unfold pC pH specC
  rw [funext₂ h0, funext₂ h1, funext₂ h2, funext h3, funext h4, funext h5, funext h6, funext₄ h7, funext₂ h8, funext₂ h9, funext₂ h10]

end Formulas

/-! ## What each case of the body leaves -/

section Cases

variable (c : Dev nD) (i : grid0.Coords) (arg1 : Memref sig .tc .vmem S1x384x1024 .fp8e4m3) (harg1 : arg1.IsWhole) (arg2 : Memref sig .tc .vmem S1x384x32 .f32) (harg2 : arg2.IsWhole) (arg3 : Memref sig .tc .vmem S1024x1024 .fp8e4m3) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S7x3x128x128 .bf16) (harg8 : arg8.IsWhole) (arg9 : Memref sig .tc .vmem S7x128 .f32) (harg9 : arg9.IsWhole) (arg10 : Memref sig .tc .vmem S7x128 .f32) (harg10 : arg10.IsWhole) (arg11 : Memref sig .tc .vmem S7x128 .f32) (harg11 : arg11.IsWhole) (arg12 : Memref sig .tc .vmem S1x32x1024 .f32) (harg12 : arg12.IsWhole) (arg13 : Memref sig .tc .vmem S1x384x1024 .f32) (harg13 : arg13.IsWhole) (arg14 : Memref sig .tc .vmem S8x2x192x128 .bf16) (harg14 : arg14.IsWhole) (arg15 : Memref sig .tc .vmem S8x2x192x128 .f32) (harg15 : arg15.IsWhole) (arg16 : Memref sig .tc .vmem S2x224x128 .bf16) (harg16 : arg16.IsWhole) (arg17 : Memref sig .tc .vmem S7x512x256 .bf16) (harg17 : arg17.IsWhole) (arg18 : Memref sig .tc .vmem S32x128 .f32) (harg18 : arg18.IsWhole) (arg19 : Memref sig .tc .vmem S384x128 .f32) (harg19 : arg19.IsWhole)
    (x0 : Vec Ideal S1x384x1024 .fp8e4m3) (x1 : Vec Ideal S1x384x32 .f32) (x2 : Vec Ideal S1024x1024 .fp8e4m3) (x3 : Vec Ideal S1x1024 .f32) (x4 : Vec Ideal S1x1024 .f32) (x5 : Vec Ideal S1x1024 .f32) (x6 : Vec Ideal S1x1024 .f32) (x7 : Vec Ideal S7x3x128x128 .bf16) (x8 : Vec Ideal S7x128 .f32) (x9 : Vec Ideal S7x128 .f32) (x10 : Vec Ideal S7x128 .f32) (xs3 : Vec Ideal S7x512x256 .bf16)

theorem carry_A (hc0 : cond0_0 i) (a : Fin 7) (k : Fin 4) (d : Fin 128) (p : Fin 2) (l : Fin 128) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix3 a ⟨128 * k.val + d.val, by omega⟩ ⟨128 * p.val + l.val, by omega⟩) = wv (fun k c l => x7 (ix4 a k c l)) k d p l := by
  unfold sout0_A_3
  refine (congrFun ((View.read_writes_junk_eq_canon VS0_3 _).trans (congrArg View.canon (carryA ..))) _).trans ?_
  refine (canon_LB arg8 harg8 x7 a k d ⟨128 * p.val + l.val, by omega⟩).trans ((wbd_apply k (wrP arg8 harg8 x7 a) d p l).trans ?_)
  exact congrArg (fun w => wv w k d p l) (funext fun q => funext fun c => funext fun l => wrP_apply arg8 harg8 x7 a q c l)

theorem c_A (hc0 : cond0_0 i) (j : Fin 8) (t : Fin 384) (l : Fin 128) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix3 0 t ⟨128 * j.val + l.val, by omega⟩) = pC x0 x1 x2 x3 x4 x5 x6 x8 x9 x10 (fun i k c l => x7 (ix4 i k c l)) j t l := by
  unfold out0_A_12
  refine (congrFun ((View.read_writes_junk_eq_canon VO0_12 _).trans (congrArg View.canon (cA ..))) _).trans ?_
  refine (canon_LC arg15 arg19 _ j t l).trans (is_at _ j _ ?_ t l)
  exact h7P_is arg1 harg1 arg2 harg2 arg3 harg3 arg4 harg4 arg5 harg5 arg6 harg6 arg7 harg7 arg9 harg9 arg10 harg10 arg11 harg11 arg14 arg15 arg16 x0 x1 x2 x3 x4 x5 x6 x8 x9 x10 (fun i k c l => x7 (ix4 i k c l)) (bdA arg8 harg8 arg17 x7) (bdA_is arg8 harg8 arg17 x7) j

theorem e_A (hc0 : cond0_0 i) (j : Fin 8) (y : Fin 32) (l : Fin 128) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix3 0 y ⟨128 * j.val + l.val, by omega⟩) = pC x0 x1 x2 x3 x4 x5 x6 x8 x9 x10 (fun i k c l => x7 (ix4 i k c l)) j (et y) l := by
  unfold out0_A_11
  refine (congrFun ((View.read_writes_junk_eq_canon VO0_11 _).trans (congrArg View.canon (edgesA ..))) _).trans ?_
  refine (canon_LE arg15 arg18 _ j y l).trans (is_at _ j _ ?_ (et y) l)
  exact h7P_is arg1 harg1 arg2 harg2 arg3 harg3 arg4 harg4 arg5 harg5 arg6 harg6 arg7 harg7 arg9 harg9 arg10 harg10 arg11 harg11 arg14 arg15 arg16 x0 x1 x2 x3 x4 x5 x6 x8 x9 x10 (fun i k c l => x7 (ix4 i k c l)) (bdA arg8 harg8 arg17 x7) (bdA_is arg8 harg8 arg17 x7) j

variable (W : Fin 7 → Fin 3 → Fin 128 → Fin 128 → EReal)
  (hW : ∀ (i : Fin 7) (k : Fin 4) (c : Fin 128) (p : Fin 2) (l : Fin 128), xs3 (ix3 i ⟨128 * k.val + c.val, by omega⟩ ⟨128 * p.val + l.val, by omega⟩) = wv (W i) k c p l)

include hW in
theorem c_B (hc0 : ¬cond0_0 i) (j : Fin 8) (t : Fin 384) (l : Fin 128) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs3 (ix3 0 t ⟨128 * j.val + l.val, by omega⟩) = pC x0 x1 x2 x3 x4 x5 x6 x8 x9 x10 W j t l := by
  unfold out0_B_12
  refine (congrFun ((View.read_writes_junk_eq_canon VO0_12 _).trans (congrArg View.canon (cB ..))) _).trans ?_
  refine (canon_LC arg15 arg19 _ j t l).trans (is_at _ j _ ?_ t l)
  exact h7P_is arg1 harg1 arg2 harg2 arg3 harg3 arg4 harg4 arg5 harg5 arg6 harg6 arg7 harg7 arg9 harg9 arg10 harg10 arg11 harg11 arg14 arg15 arg16 x0 x1 x2 x3 x4 x5 x6 x8 x9 x10 W (bdB arg17 harg17 xs3) (bdB_is arg17 harg17 xs3 W hW) j

include hW in
theorem e_B (hc0 : ¬cond0_0 i) (j : Fin 8) (y : Fin 32) (l : Fin 128) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs3 (ix3 0 y ⟨128 * j.val + l.val, by omega⟩) = pC x0 x1 x2 x3 x4 x5 x6 x8 x9 x10 W j (et y) l := by
  unfold out0_B_11
  refine (congrFun ((View.read_writes_junk_eq_canon VO0_11 _).trans (congrArg View.canon (edgesB ..))) _).trans ?_
  refine (canon_LE arg15 arg18 _ j y l).trans (is_at _ j _ ?_ (et y) l)
  exact h7P_is arg1 harg1 arg2 harg2 arg3 harg3 arg4 harg4 arg5 harg5 arg6 harg6 arg7 harg7 arg9 harg9 arg10 harg10 arg11 harg11 arg14 arg15 arg16 x0 x1 x2 x3 x4 x5 x6 x8 x9 x10 W (bdB arg17 harg17 xs3) (bdB_is arg17 harg17 xs3 W hW) j

end Cases

/-! ## The blocks a point reads -/

section Blocks

variable (m : (ℓ : Loc nD τ sig) → Buf (Elt Ideal) ℓ) (c : Dev nD)

/-- A point's number, as a sample's. -/
abbrev smp (t : Fin cfg0.N) : Fin 28 := ⟨t.val, lt_of_lt_of_eq t.isLt (show cfg0.N = 28 from N_0)⟩

theorem blk0 (t : Fin cfg0.N) (a : Fin 384) (b : Fin 1024) : iblk m c 0 t (ix3 0 a b) = m ((c : Thread nD τ).loc main_arg0) (ix3 (smp t) a b) := by
  have idx : (cfg0.win 0).index t = ![t.val, 0, 0] := (by decide +kernel : ∀ t : Fin cfg0.N, (cfg0.win 0).index t = ![t.val, 0, 0]) t
  rw [← V_main_arg0 m c]
  blk_ext [iblk, idx]
theorem blk1 (t : Fin cfg0.N) (a : Fin 384) (b : Fin 32) : iblk m c 1 t (ix3 0 a b) = m ((c : Thread nD τ).loc main_arg1) (ix3 (smp t) a b) := by
  have idx : (cfg0.win 1).index t = ![t.val, 0, 0] := (by decide +kernel : ∀ t : Fin cfg0.N, (cfg0.win 1).index t = ![t.val, 0, 0]) t
  rw [← V_main_arg1 m c]
  blk_ext [iblk, idx]
theorem blk2 (t : Fin cfg0.N) (a : Fin 1024) (b : Fin 1024) : iblk m c 2 t (ix2 a b) = m ((c : Thread nD τ).loc main_arg2) (ix2 a b) := by
  have idx : (cfg0.win 2).index t = ![0, 0] := (by decide +kernel : ∀ t : Fin cfg0.N, (cfg0.win 2).index t = ![0, 0]) t
  rw [← V_main_arg2 m c]
  blk_ext [iblk, idx]
theorem blk7 (t : Fin cfg0.N) (p : Fin 7) (q : Fin 3) (r : Fin 128) (s : Fin 128) : iblk m c 7 t (ix4 p q r s) = m ((c : Thread nD τ).loc main_arg7) (ix4 p q r s) := by
  have idx : (cfg0.win 7).index t = ![0, 0, 0, 0] := (by decide +kernel : ∀ t : Fin cfg0.N, (cfg0.win 7).index t = ![0, 0, 0, 0]) t
  rw [← V_main_arg7 m c]
  blk_ext [iblk, idx]
theorem blk8 (t : Fin cfg0.N) (a : Fin 7) (b : Fin 128) : iblk m c 8 t (ix2 a b) = m ((c : Thread nD τ).loc main_arg8) (ix2 a b) := by
  have idx : (cfg0.win 8).index t = ![0, 0] := (by decide +kernel : ∀ t : Fin cfg0.N, (cfg0.win 8).index t = ![0, 0]) t
  rw [← V_main_arg8 m c]
  blk_ext [iblk, idx]
theorem blk9 (t : Fin cfg0.N) (a : Fin 7) (b : Fin 128) : iblk m c 9 t (ix2 a b) = m ((c : Thread nD τ).loc main_arg9) (ix2 a b) := by
  have idx : (cfg0.win 9).index t = ![0, 0] := (by decide +kernel : ∀ t : Fin cfg0.N, (cfg0.win 9).index t = ![0, 0]) t
  rw [← V_main_arg9 m c]
  blk_ext [iblk, idx]
theorem blk10 (t : Fin cfg0.N) (a : Fin 7) (b : Fin 128) : iblk m c 10 t (ix2 a b) = m ((c : Thread nD τ).loc main_arg10) (ix2 a b) := by
  have idx : (cfg0.win 10).index t = ![0, 0] := (by decide +kernel : ∀ t : Fin cfg0.N, (cfg0.win 10).index t = ![0, 0]) t
  rw [← V_main_arg10 m c]
  blk_ext [iblk, idx]
theorem V_main_v0 (b : Fin 1024) : V m c main_v0 (ix2 0 b) = m ((c : Thread nD τ).loc main_arg3) (ix1 b) := by
  unfold V
  after_results
  pointwise
theorem blk3 (t : Fin cfg0.N) (b : Fin 1024) : iblk m c 3 t (ix2 0 b) = m ((c : Thread nD τ).loc main_arg3) (ix1 b) := by
  have idx : (cfg0.win 3).index t = ![0, 0] := (by decide +kernel : ∀ t : Fin cfg0.N, (cfg0.win 3).index t = ![0, 0]) t
  refine Eq.trans ?_ (V_main_v0 m c b)
  blk_ext [iblk, idx]
theorem V_main_v1 (b : Fin 1024) : V m c main_v1 (ix2 0 b) = m ((c : Thread nD τ).loc main_arg4) (ix1 b) := by
  unfold V
  after_results
  pointwise
theorem blk4 (t : Fin cfg0.N) (b : Fin 1024) : iblk m c 4 t (ix2 0 b) = m ((c : Thread nD τ).loc main_arg4) (ix1 b) := by
  have idx : (cfg0.win 4).index t = ![0, 0] := (by decide +kernel : ∀ t : Fin cfg0.N, (cfg0.win 4).index t = ![0, 0]) t
  refine Eq.trans ?_ (V_main_v1 m c b)
  blk_ext [iblk, idx]
theorem V_main_v2 (b : Fin 1024) : V m c main_v2 (ix2 0 b) = m ((c : Thread nD τ).loc main_arg5) (ix1 b) := by
  unfold V
  after_results
  pointwise
theorem blk5 (t : Fin cfg0.N) (b : Fin 1024) : iblk m c 5 t (ix2 0 b) = m ((c : Thread nD τ).loc main_arg5) (ix1 b) := by
  have idx : (cfg0.win 5).index t = ![0, 0] := (by decide +kernel : ∀ t : Fin cfg0.N, (cfg0.win 5).index t = ![0, 0]) t
  refine Eq.trans ?_ (V_main_v2 m c b)
  blk_ext [iblk, idx]
theorem V_main_v3 (b : Fin 1024) : V m c main_v3 (ix2 0 b) = m ((c : Thread nD τ).loc main_arg6) (ix1 b) := by
  unfold V
  after_results
  pointwise
theorem blk6 (t : Fin cfg0.N) (b : Fin 1024) : iblk m c 6 t (ix2 0 b) = m ((c : Thread nD τ).loc main_arg6) (ix1 b) := by
  have idx : (cfg0.win 6).index t = ![0, 0] := (by decide +kernel : ∀ t : Fin cfg0.N, (cfg0.win 6).index t = ![0, 0]) t
  refine Eq.trans ?_ (V_main_v3 m c b)
  blk_ext [iblk, idx]

end Blocks

end Cert.HeadIdeal.Val
-- ==== Proof.Hd.Value.lean ====
/- The head kernel's two results as functions of its arguments: what every grid point leaves is the problem's formulas
   of its sample, and the write-backs put the samples side by side. -/
module

public import proofs.«01_k».proof.Proof.Hd.Cases
public import proofs.«01_k».proof.Proof.Gen.HeadIdeal.Frame
public import Idealize.ShloMosaic.Lib.Pipeline.ValueKit

@[expose] public section

set_option maxRecDepth 16384

noncomputable section

namespace Cert.HeadIdeal.Val

open Idealize.ShloMosaic Idealize.ShloMosaic.TcCoe Idealize.SL.Sem
open Cert.HeadIdeal Cert.HeadIdeal.Gen

/-! ## What every point leaves -/

section Points

variable (m : (ℓ : Loc nD τ sig) → Buf (Elt Ideal) ℓ) (c : Dev nD)

/-- The result, of the arguments. -/
abbrev argC : Fin 28 → Fin 8 → Fin 384 → Fin 128 → EReal := specC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The carried scratch holds the rearranged taps after every point. -/
theorem carried (n : ℕ) : ∀ (hn : n < cfg0.N) (a : Fin 7) (k : Fin 4) (d : Fin 128) (p : Fin 2) (l : Fin 128),
    (outsAt0 m c n hn).2.2 (ix3 a ⟨128 * k.val + d.val, by omega⟩ ⟨128 * p.val + l.val, by omega⟩) = wv (fun k d l => m ((c : Thread nD τ).loc main_arg7) (ix4 a k d l)) k d p l := by
  have key : ∀ (t : Fin cfg0.N) (h0 : t.val % 28 = 0) (a : Fin 7) (k : Fin 4) (d : Fin 128) (p : Fin 2) (l : Fin 128),
      (outsAt0 m c t.val t.isLt).2.2 (ix3 a ⟨128 * k.val + d.val, by omega⟩ ⟨128 * p.val + l.val, by omega⟩) = wv (fun k d l => m ((c : Thread nD τ).loc main_arg7) (ix4 a k d l)) k d p l := by
    intro t h0 a k d p l
    have h1 := congrArg (fun p => p.2.2) (outsAt0_A m c t h0)
    dsimp only at h1
    rw [h1]
    have h2 := carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) a k d p l
    rw [h2]
    exact congrArg (fun w => wv w k d p l) (funext fun q => funext fun d => funext fun l => blk7 m c t a q d l)
  induction n with
  | zero => exact fun hn => key ⟨0, hn⟩ rfl
  | succ n ih =>
    intro hn
    by_cases h0 : (n + 1) % 28 = 0
    · exact key ⟨n + 1, hn⟩ h0
    · have h := congrArg (fun p => p.2.2) (outsAt0_B m c ⟨n + 1, hn⟩ h0)
      dsimp only at h
      intro a k d p l
      rw [h]
      exact ih (Nat.lt_of_succ_lt hn) a k d p l

theorem c_at (t : Fin cfg0.N) (j : Fin 8) (a : Fin 384) (l : Fin 128) :
    (outsAt0 m c t.val t.isLt).2.1 (ix3 0 a ⟨128 * j.val + l.val, by omega⟩) = argC m c (smp t) j a l := by
  by_cases h0 : t.val % 28 = 0
  · have h1 := congrArg (fun p => p.2.1) (outsAt0_A m c t h0)
    dsimp only at h1
    rw [h1]
    have h2 := c_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) j a l
    rw [h2]
    exact congrFun (congrFun (congrFun (pC_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (iblk m c 0 t) (iblk m c 1 t) (iblk m c 2 t) (iblk m c 3 t) (iblk m c 4 t) (iblk m c 5 t) (iblk m c 6 t) (iblk m c 8 t) (iblk m c 9 t) (iblk m c 10 t) (fun i k d l => iblk m c 7 t (ix4 i k d l)) (smp t) (blk0 m c t) (blk1 m c t) (blk2 m c t) (blk3 m c t) (blk4 m c t) (blk5 m c t) (blk6 m c t) (blk7 m c t) (blk8 m c t) (blk9 m c t) (blk10 m c t)) j) a) l
  · have h1 := congrArg (fun p => p.2.1) (outsAt0_B m c t h0)
    dsimp only at h1
    rw [h1]
    have h2 := c_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun i k d l => m ((c : Thread nD τ).loc main_arg7) (ix4 i k d l)) (carried m c (t.val - 1) (Nat.lt_of_le_of_lt (Nat.sub_le _ _) t.isLt)) (fun h => h0 ((hcond0_0 t).mp h)) j a l
    rw [h2]
    exact congrFun (congrFun (congrFun (pC_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (iblk m c 0 t) (iblk m c 1 t) (iblk m c 2 t) (iblk m c 3 t) (iblk m c 4 t) (iblk m c 5 t) (iblk m c 6 t) (iblk m c 8 t) (iblk m c 9 t) (iblk m c 10 t) (fun i k d l => m ((c : Thread nD τ).loc main_arg7) (ix4 i k d l)) (smp t) (blk0 m c t) (blk1 m c t) (blk2 m c t) (blk3 m c t) (blk4 m c t) (blk5 m c t) (blk6 m c t) (fun _ _ _ _ => rfl) (blk8 m c t) (blk9 m c t) (blk10 m c t)) j) a) l

theorem e_at (t : Fin cfg0.N) (j : Fin 8) (y : Fin 32) (l : Fin 128) :
    (outsAt0 m c t.val t.isLt).1 (ix3 0 y ⟨128 * j.val + l.val, by omega⟩) = argC m c (smp t) j (et y) l := by
  by_cases h0 : t.val % 28 = 0
  · have h1 := congrArg (fun p => p.1) (outsAt0_A m c t h0)
    dsimp only at h1
    rw [h1]
    have h2 := e_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) j y l
    rw [h2]
    exact congrFun (congrFun (congrFun (pC_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (iblk m c 0 t) (iblk m c 1 t) (iblk m c 2 t) (iblk m c 3 t) (iblk m c 4 t) (iblk m c 5 t) (iblk m c 6 t) (iblk m c 8 t) (iblk m c 9 t) (iblk m c 10 t) (fun i k d l => iblk m c 7 t (ix4 i k d l)) (smp t) (blk0 m c t) (blk1 m c t) (blk2 m c t) (blk3 m c t) (blk4 m c t) (blk5 m c t) (blk6 m c t) (blk7 m c t) (blk8 m c t) (blk9 m c t) (blk10 m c t)) j) (et y)) l
  · have h1 := congrArg (fun p => p.1) (outsAt0_B m c t h0)
    dsimp only at h1
    rw [h1]
    have h2 := e_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun i k d l => m ((c : Thread nD τ).loc main_arg7) (ix4 i k d l)) (carried m c (t.val - 1) (Nat.lt_of_le_of_lt (Nat.sub_le _ _) t.isLt)) (fun h => h0 ((hcond0_0 t).mp h)) j y l
    rw [h2]
    exact congrFun (congrFun (congrFun (pC_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (iblk m c 0 t) (iblk m c 1 t) (iblk m c 2 t) (iblk m c 3 t) (iblk m c 4 t) (iblk m c 5 t) (iblk m c 6 t) (iblk m c 8 t) (iblk m c 9 t) (iblk m c 10 t) (fun i k d l => m ((c : Thread nD τ).loc main_arg7) (ix4 i k d l)) (smp t) (blk0 m c t) (blk1 m c t) (blk2 m c t) (blk3 m c t) (blk4 m c t) (blk5 m c t) (blk6 m c t) (fun _ _ _ _ => rfl) (blk8 m c t) (blk9 m c t) (blk10 m c t)) j) (et y)) l

/-- The block a column lies in, and its place there. -/
abbrev lb (d : Fin 1024) : Fin 8 := ⟨d.val / 128, by omega⟩
abbrev ll (d : Fin 1024) : Fin 128 := ⟨d.val % 128, by omega⟩

theorem col_eq (d : Fin 1024) : d = ⟨128 * (lb d).val + (ll d).val, by dsimp only; omega⟩ := Fin.ext (by dsimp only; omega)

/-- The result, at a column. -/
abbrev colC (n : Fin 28) (t : Fin 384) (d : Fin 1024) : EReal := argC m c n (lb d) t (ll d)
/-- The edge rows, at a column. -/
abbrev colE (n : Fin 28) (y : Fin 32) (d : Fin 1024) : EReal := argC m c n (lb d) (et y) (ll d)

/-- The result, as an array. -/
def resC : S28x384x1024.Idx → EReal := fun y => colC m c (y 0) (y 1) (y 2)
/-- The edge rows, as an array. -/
def resE : S28x32x1024.Idx → EReal := fun y => colE m c (y 0) (y 1) (y 2)

/-- The result's array at the end. -/
theorem arr12 : (dats m 0 c).arrAt 12 cfg0.N = resC m c := by
  refine Pipeline.Dat.arrAt_eq_of_covers _ 12 _ (by decide +kernel) fun t hf y => ?_
  have idx : (cfg0.win 12).index t = ![t.val, 0, 0] := (by decide +kernel : ∀ t : Fin cfg0.N, (cfg0.win 12).index t = ![t.val, 0, 0]) t
  rw [after0_12]
  obtain ⟨a, d, rfl⟩ : ∃ (a : Fin 384) (d : Fin 1024), y = (ix3 0 a d : S1x384x1024.Idx) := ⟨y 1, y 2, by funext i; match i with | 0 => exact Fin.ext (Nat.lt_one_iff.mp (y 0).isLt) | 1 => rfl | 2 => rfl⟩
  have h : (outsAt0 m c t.val t.isLt).2.1 (ix3 0 a d) = colC m c (smp t) a d :=
    (congrArg (fun d => (outsAt0 m c t.val t.isLt).2.1 (ix3 0 a d)) (col_eq d)).trans (c_at m c t (lb d) a (ll d))
  refine Eq.trans h ?_
  show colC m c _ _ _ = colC m c _ _ _
  refine congr (congr (congrArg (colC m c) ?_) ?_) ?_ <;> refine Fin.ext ?_ <;> blk_simp [idx] <;> simp

/-- The edge rows' array at the end. -/
theorem arr11 : (dats m 0 c).arrAt 11 cfg0.N = resE m c := by
  refine Pipeline.Dat.arrAt_eq_of_covers _ 11 _ (by decide +kernel) fun t hf y => ?_
  have idx : (cfg0.win 11).index t = ![t.val, 0, 0] := (by decide +kernel : ∀ t : Fin cfg0.N, (cfg0.win 11).index t = ![t.val, 0, 0]) t
  rw [after0_11]
  obtain ⟨a, d, rfl⟩ : ∃ (a : Fin 32) (d : Fin 1024), y = (ix3 0 a d : S1x32x1024.Idx) := ⟨y 1, y 2, by funext i; match i with | 0 => exact Fin.ext (Nat.lt_one_iff.mp (y 0).isLt) | 1 => rfl | 2 => rfl⟩
  have h : (outsAt0 m c t.val t.isLt).1 (ix3 0 a d) = colE m c (smp t) a d :=
    (congrArg (fun d => (outsAt0 m c t.val t.isLt).1 (ix3 0 a d)) (col_eq d)).trans (e_at m c t (lb d) a (ll d))
  refine Eq.trans h ?_
  show colE m c _ _ _ = colE m c _ _ _
  refine congr (congr (congrArg (colE m c) ?_) ?_) ?_ <;> refine Fin.ext ?_ <;> blk_simp [idx] <;> simp

end Points

/-- The results at the end of the run. -/
theorem results (m : (ℓ : Loc nD τ sig) → Buf (Elt Ideal) ℓ) (ρ : Dev nD → PrngReg) : θ_run defs (onTc (τ := τ) (main (F := Ideal))) ⟨m, fun _ => 0, ρ⟩ (fun r => ∀ c : Dev nD,
    r.2.mem ((c.tc : Thread nD τ).loc main_v4_0) = resE m c ∧ r.2.mem ((c.tc : Thread nD τ).loc main_v4_1) = resC m c) :=
  (θ_run defs _ _).mono (fun r h c => ⟨((h c).1 11).trans (arr11 m c), ((h c).1 12).trans (arr12 m c)⟩) (run_main m ρ)

end Cert.HeadIdeal.Val
-- ==== Proof.Hd.RefPure.lean ====
/- The head reference's values, at an index: the same layers of the same product. -/
module

public import proofs.«01_k».proof.Proof.Hd.Pure
public import proofs.«01_k».proof.Proof.Gen.HeadRefIdeal.Frame
public import Idealize.ShloMosaic.Lib.Pipeline.ValueKit

@[expose] public section

set_option maxRecDepth 16384

noncomputable section

namespace Cert.HeadRefIdeal.Val

open Idealize.ShloMosaic Idealize.ShloMosaic.TcCoe Idealize.SL.Sem
open Cert.HeadRefIdeal Cert.HeadRefIdeal.Gen
open Cert.HeadIdeal.Val (Av Zv Cv Hb Y1 Yn Yb rx)

/-! ## The reference's values, by layers -/

section Defs
variable {F : FTy → Type} [FloatOps F]

/-- The rows padded by two reflected steps on each side. -/
def zp (z : FVec F S28x384x128 .bf16) : FVec F S28x388x128 .bf16 :=
  concatenate S28x388x128 1 [⟨S28x1x128, extractStridedSlice S28x1x128 ![0, 2, 0] z slices_S28x384x128_o0_2_0_S28x1x128⟩, ⟨S28x1x128, extractStridedSlice S28x1x128 ![0, 1, 0] z slices_S28x384x128_o0_1_0_S28x1x128⟩, ⟨S28x384x128, z⟩,
    ⟨S28x1x128, extractStridedSlice S28x1x128 ![0, 382, 0] z slices_S28x384x128_o0_382_0_S28x1x128⟩, ⟨S28x1x128, extractStridedSlice S28x1x128 ![0, 381, 0] z slices_S28x384x128_o0_381_0_S28x1x128⟩] concatenates_S28x1x128_S28x1x128_S28x384x128_S28x1x128_S28x1x128_S28x388x128_d1

theorem inb_tap : ∀ (i : Fin 7) (k : Fin 3) (a : Fin 4), (![i.val, k.val, 0, 0] : Fin 4 → ℕ) a + S1x1x128x128.size a ≤ S7x3x128x128.size a := by decide
theorem inb_row : ∀ (i : Fin 7) (a : Fin 2), (![i.val, 0] : Fin 2 → ℕ) a + S1x128.size a ≤ S7x128.size a := by decide
/-- Tap `k` of layer `i`. -/
def tapR (x7 : Vec F S7x3x128x128 .bf16) (i : Fin 7) (k : Fin 3) : Vec F S1x1x128x128 .bf16 := View.ld x7 (Rect.unit (s := S7x3x128x128) ![i.val, k.val, 0, 0] S1x1x128x128.size (inb_tap i k))
/-- Row `i` of a table of layers. -/
def rowR (x : Vec F S7x128 .f32) (i : Fin 7) : Vec F S1x128 .f32 := View.ld x (Rect.unit (s := S7x128) ![i.val, 0] S1x128.size (inb_row i))

theorem slices_lane : ∀ j : Fin 8, S28x384x1024.Slices ![0, 0, 128 * j.val] S28x384x128 := by decide
/-- A block of lanes. -/
def laneR (j : Fin 8) (h : FVec F S28x384x1024 .f32) : FVec F S28x384x128 .f32 := extractStridedSlice S28x384x128 ![0, 0, 128 * j.val] h (slices_lane j)

variable (x0 : Vec F S28x384x1024 .fp8e4m3) (x1 : Vec F S28x384x32 .f32) (x2 : Vec F S1024x1024 .fp8e4m3) (x3 x4 x5 x6 : Vec F S1x1024 .f32) (x7 : Vec F S7x3x128x128 .bf16) (x8 x9 x10 : Vec F S7x128 .f32)

/-- The first product. -/
def hR : FVec F S28x384x1024 .f32 := k0_pay3 (View.ld x0 r0_0) (View.ld x1 r0_1) (View.ld x2 r0_2) (View.ld x3 r0_3) (View.ld x4 r0_3) (View.ld x5 r0_3) (View.ld x6 r0_3)
/-- A layer, of its input. -/
def layR (i : Fin 7) (z : FVec F S28x384x128 .f32) : FVec F S28x384x128 .f32 :=
  k0_pay9 (zp (truncf .bf16 z bitsLt_bf16_f32)) (tapR x7 i 0) (tapR x7 i 1) (tapR x7 i 2) (rowR x8 i) (rowR x9 i) (rowR x10 i)
def yR1 (h : FVec F S28x384x1024 .f32) : FVec F S28x384x128 .f32 := layR x7 x8 x9 x10 0 (laneR 1 h)
/-- A later layer, of the one before. -/
def ynR (i : Fin 7) (j : Fin 8) (h : FVec F S28x384x1024 .f32) (y : FVec F S28x384x128 .f32) : FVec F S28x384x128 .f32 := layR x7 x8 x9 x10 i (addf (laneR j h) y)
def yR2 (h : FVec F S28x384x1024 .f32) : FVec F S28x384x128 .f32 := ynR x7 x8 x9 x10 1 2 h (yR1 x7 x8 x9 x10 h)
def yR3 (h : FVec F S28x384x1024 .f32) : FVec F S28x384x128 .f32 := ynR x7 x8 x9 x10 2 3 h (yR2 x7 x8 x9 x10 h)
def yR4 (h : FVec F S28x384x1024 .f32) : FVec F S28x384x128 .f32 := ynR x7 x8 x9 x10 3 4 h (yR3 x7 x8 x9 x10 h)
def yR5 (h : FVec F S28x384x1024 .f32) : FVec F S28x384x128 .f32 := ynR x7 x8 x9 x10 4 5 h (yR4 x7 x8 x9 x10 h)
def yR6 (h : FVec F S28x384x1024 .f32) : FVec F S28x384x128 .f32 := ynR x7 x8 x9 x10 5 6 h (yR5 x7 x8 x9 x10 h)
def yR7 (h : FVec F S28x384x1024 .f32) : FVec F S28x384x128 .f32 := ynR x7 x8 x9 x10 6 7 h (yR6 x7 x8 x9 x10 h)
/-- The blocks of the result. -/
def blkR (h : FVec F S28x384x1024 .f32) (j : Fin 8) : FVec F S28x384x128 .f32 :=
  match j with
  | 0 => laneR 0 h
  | 1 => yR1 x7 x8 x9 x10 h
  | 2 => yR2 x7 x8 x9 x10 h
  | 3 => yR3 x7 x8 x9 x10 h
  | 4 => yR4 x7 x8 x9 x10 h
  | 5 => yR5 x7 x8 x9 x10 h
  | 6 => yR6 x7 x8 x9 x10 h
  | 7 => yR7 x7 x8 x9 x10 h
/-- Eight blocks of lanes side by side. -/
def cat (v : Fin 8 → FVec F S28x384x128 .f32) : FVec F S28x384x1024 .f32 := concatenate S28x384x1024 2 [⟨S28x384x128, v 0⟩, ⟨S28x384x128, v 1⟩, ⟨S28x384x128, v 2⟩, ⟨S28x384x128, v 3⟩, ⟨S28x384x128, v 4⟩, ⟨S28x384x128, v 5⟩, ⟨S28x384x128, v 6⟩, ⟨S28x384x128, v 7⟩] concatenates_S28x384x128_S28x384x128_S28x384x128_S28x384x128_S28x384x128_S28x384x128_S28x384x128_S28x384x128_S28x384x1024_d2
/-- The first and the last rows. -/
def edg (c : FVec F S28x384x1024 .f32) : FVec F S28x32x1024 .f32 :=
  concatenate S28x32x1024 1 [⟨S28x16x1024, extractStridedSlice S28x16x1024 ![0, 0, 0] c slices_S28x384x1024_o0_0_0_S28x16x1024⟩, ⟨S28x16x1024, extractStridedSlice S28x16x1024 ![0, 368, 0] c slices_S28x384x1024_o0_368_0_S28x16x1024⟩] concatenates_S28x16x1024_S28x16x1024_S28x32x1024_d1
/-- The whole result. -/
def cR : FVec F S28x384x1024 .f32 := cat (blkR x7 x8 x9 x10 (hR x0 x1 x2 x3 x4 x5 x6))

theorem y1_eq : k0_pay28 x0 x1 x2 x3 x4 x5 x6 x7 x8 x9 x10 = yR1 x7 x8 x9 x10 (hR x0 x1 x2 x3 x4 x5 x6) := rfl
theorem y2_eq : k0_pay30 x0 x1 x2 x3 x4 x5 x6 x7 x8 x9 x10 = yR2 x7 x8 x9 x10 (hR x0 x1 x2 x3 x4 x5 x6) := rfl
theorem y3_eq : k0_pay35 x0 x1 x2 x3 x4 x5 x6 x7 x8 x9 x10 = yR3 x7 x8 x9 x10 (hR x0 x1 x2 x3 x4 x5 x6) := rfl
theorem y4_eq : k0_pay38 x0 x1 x2 x3 x4 x5 x6 x7 x8 x9 x10 = yR4 x7 x8 x9 x10 (hR x0 x1 x2 x3 x4 x5 x6) := rfl
theorem y5_eq : k0_pay39 x0 x1 x2 x3 x4 x5 x6 x7 x8 x9 x10 = yR5 x7 x8 x9 x10 (hR x0 x1 x2 x3 x4 x5 x6) := rfl
theorem y6_eq : k0_pay42 x0 x1 x2 x3 x4 x5 x6 x7 x8 x9 x10 = yR6 x7 x8 x9 x10 (hR x0 x1 x2 x3 x4 x5 x6) := rfl
theorem c_eq : k0_pay1 (k0_pay25 x0 x1 x2 x3 x4 x5 x6 x7 x8 x9 x10) (k0_pay28 x0 x1 x2 x3 x4 x5 x6 x7 x8 x9 x10) (k0_pay30 x0 x1 x2 x3 x4 x5 x6 x7 x8 x9 x10) (k0_pay35 x0 x1 x2 x3 x4 x5 x6 x7 x8 x9 x10) (k0_pay38 x0 x1 x2 x3 x4 x5 x6 x7 x8 x9 x10) (k0_pay39 x0 x1 x2 x3 x4 x5 x6 x7 x8 x9 x10) (k0_pay42 x0 x1 x2 x3 x4 x5 x6 x7 x8 x9 x10) (k0_pay43 x0 x1 x2 x3 x4 x5 x6 x7 x8 x9 x10) (View.ld x10 r0_31) = cR x0 x1 x2 x3 x4 x5 x6 x7 x8 x9 x10 := rfl
theorem e_eq : k0_pay2 (k0_pay25 x0 x1 x2 x3 x4 x5 x6 x7 x8 x9 x10) (k0_pay28 x0 x1 x2 x3 x4 x5 x6 x7 x8 x9 x10) (k0_pay30 x0 x1 x2 x3 x4 x5 x6 x7 x8 x9 x10) (k0_pay35 x0 x1 x2 x3 x4 x5 x6 x7 x8 x9 x10) (k0_pay38 x0 x1 x2 x3 x4 x5 x6 x7 x8 x9 x10) (k0_pay39 x0 x1 x2 x3 x4 x5 x6 x7 x8 x9 x10) (k0_pay42 x0 x1 x2 x3 x4 x5 x6 x7 x8 x9 x10) (k0_pay43 x0 x1 x2 x3 x4 x5 x6 x7 x8 x9 x10) (View.ld x10 r0_31) = edg (cR x0 x1 x2 x3 x4 x5 x6 x7 x8 x9 x10) := rfl

end Defs

/-! ## At an index -/

theorem zp_apply (z : FVec Ideal S28x384x128 .bf16) (n : Fin 28) (s : ℕ) (h : s < 388) (l : Fin 128) : zp (F := Ideal) z (ix3 n ⟨s, h⟩ l) = z (ix3 n (rx s h) l) := by
  unfold rx
  pointwise [zp]
  split_ifs <;> exact congrArg (fun q => z (ix3 n q l)) (Fin.ext (by dsimp only; (try split_ifs) <;> omega))

theorem conv_apply (p : FVec Ideal S28x388x128 .bf16) (w0 w1 w2 : Vec Ideal S1x1x128x128 .bf16) (b g e : Vec Ideal S1x128 .f32) (n : Fin 28) (t : Fin 384) (l : Fin 128) :
    k0_pay9 (F := Ideal) p w0 w1 w2 b g e (ix3 n t l)
      = max ((∑ c : Fin 128, p (ix3 n ⟨t.val, by omega⟩ c) * w0 (ix4 0 0 c l)) + (∑ c : Fin 128, p (ix3 n ⟨t.val + 2, by omega⟩ c) * w1 (ix4 0 0 c l))
        + (∑ c : Fin 128, p (ix3 n ⟨t.val + 4, by omega⟩ c) * w2 (ix4 0 0 c l)) + b (ix2 0 l)) 0 * g (ix2 0 l) + e (ix2 0 l) := by
  have e2 : 2 + t.val = t.val + 2 := Nat.add_comm _ _
  have e4 : 4 + t.val = t.val + 4 := Nat.add_comm _ _
  pointwise [k0_pay9]
  simp only [e2, e4]

theorem lane_apply (j : Fin 8) (h : FVec Ideal S28x384x1024 .f32) (n : Fin 28) (t : Fin 384) (l : Fin 128) : laneR (F := Ideal) j h (ix3 n t l) = h (ix3 n t ⟨128 * j.val + l.val, by omega⟩) := by
  pointwise [laneR]

theorem h_apply (cc : Vec Ideal S28x384x1024 .fp8e4m3) (cs : Vec Ideal S28x384x32 .f32) (w : Vec Ideal S1024x1024 .fp8e4m3) (ws b g e : Vec Ideal S1x1024 .f32)
    (n : Fin 28) (t : Fin 384) (d : Fin 1024) :
    k0_pay3 (F := Ideal) cc cs w ws b g e (ix3 n t d)
      = Zv (Av (fun t k => cc (ix3 n t k)) (fun t k => cs (ix3 n t k))) (fun k d => w (ix2 k d)) (fun d => ws (ix2 0 d)) (fun d => b (ix2 0 d)) (fun d => g (ix2 0 d)) (fun d => e (ix2 0 d)) t d := by
  pointwise [k0_pay3, Zv, Av]

set_option maxHeartbeats 2000000 in
theorem cat_apply (v : Fin 8 → FVec Ideal S28x384x128 .f32) (j : Fin 8) (n : Fin 28) (t : Fin 384) (l : Fin 128) : cat (F := Ideal) v (ix3 n t ⟨128 * j.val + l.val, by omega⟩) = v j (ix3 n t l) := by
  have hl := l.isLt
  match j with
  | 0 => pointwise [cat]
  | 1 => pointwise [cat]
  | 2 =>
    pointwise [cat]
    split_ifs <;> first | omega | exact congrArg (fun q => v 2 (ix3 n t q)) (Fin.ext (by dsimp only; omega))
  | 3 =>
    pointwise [cat]
    split_ifs <;> first | omega | exact congrArg (fun q => v 3 (ix3 n t q)) (Fin.ext (by dsimp only; omega))
  | 4 =>
    pointwise [cat]
    split_ifs <;> first | omega | exact congrArg (fun q => v 4 (ix3 n t q)) (Fin.ext (by dsimp only; omega))
  | 5 =>
    pointwise [cat]
    split_ifs <;> first | omega | exact congrArg (fun q => v 5 (ix3 n t q)) (Fin.ext (by dsimp only; omega))
  | 6 =>
    pointwise [cat]
    split_ifs <;> first | omega | exact congrArg (fun q => v 6 (ix3 n t q)) (Fin.ext (by dsimp only; omega))
  | 7 =>
    pointwise [cat]
    split_ifs <;> first | omega | exact congrArg (fun q => v 7 (ix3 n t q)) (Fin.ext (by dsimp only; omega))

theorem edg_apply (c : FVec Ideal S28x384x1024 .f32) (n : Fin 28) (y : Fin 32) (d : Fin 1024) :
    edg (F := Ideal) c (ix3 n y d) = c (ix3 n ⟨if y.val < 16 then y.val else 352 + y.val, by split_ifs <;> omega⟩ d) := by
  pointwise [edg]
  by_cases h : y.val < 16
  · rw [dif_pos h]; exact congrArg (fun q => c (ix3 n q d)) (Fin.ext (if_pos h).symm)
  · rw [dif_neg h]; exact congrArg (fun q => c (ix3 n q d)) (Fin.ext (Eq.trans (by dsimp only; omega) (if_neg h).symm))

end Cert.HeadRefIdeal.Val
-- ==== Proof.Hd.Ref.lean ====
/- The head reference's two results as functions of its arguments: the problem's formulas, the ones of the kernel. -/
module

public import proofs.«01_k».proof.Proof.Hd.RefPure
public import proofs.«01_k».proof.Proof.Hd.Value
public import Idealize.ShloMosaic.Lib.Pipeline.ValueKit

@[expose] public section

set_option maxRecDepth 16384

noncomputable section

namespace Cert.HeadRefIdeal.Val

open Idealize.ShloMosaic Idealize.ShloMosaic.TcCoe Idealize.SL.Sem
open Cert.HeadRefIdeal Cert.HeadRefIdeal.Gen
open Cert.HeadIdeal.Val (Av Zv Cv Hb Y1 Yn Yb rx et specC lb ll col_eq funext₄)

/-! ## The layers, at an index -/

section Layers

variable (x7 : Vec Ideal S7x3x128x128 .bf16) (x8 x9 x10 : Vec Ideal S7x128 .f32)

theorem tapR_apply (i : Fin 7) (k : Fin 3) (c l : Fin 128) : tapR (F := Ideal) x7 i k (ix4 0 0 c l) = x7 (ix4 i k c l) :=
  View.ld_unit_apply_of x7 _ _ _ _ (ix4 i k c l) fun a => match a with
    | 0 => rfl
    | 1 => rfl
    | 2 => (Nat.zero_add _).symm
    | 3 => (Nat.zero_add _).symm
theorem rowR_apply (x : Vec Ideal S7x128 .f32) (i : Fin 7) (l : Fin 128) : rowR (F := Ideal) x i (ix2 0 l) = x (ix2 i l) :=
  View.ld_unit_apply_of x _ _ _ _ (ix2 i l) fun a => match a with
    | 0 => rfl
    | 1 => (Nat.zero_add _).symm

/-- A layer is the convolution of its input, of the layer's taps and rows. -/
theorem lay_apply (i : Fin 7) (z : FVec Ideal S28x384x128 .f32) (n : Fin 28) (Z : Fin 384 → Fin 128 → EReal) (hz : ∀ t l, z (ix3 n t l) = Z t l) (t : Fin 384) (l : Fin 128) :
    layR (F := Ideal) x7 x8 x9 x10 i z (ix3 n t l)
      = Cv Z (fun k c l => x7 (ix4 i k c l)) (fun l => x8 (ix2 i l)) (fun l => x9 (ix2 i l)) (fun l => x10 (ix2 i l)) t l := by
  have tap : ∀ (k : Fin 3) (s : ℕ) (h : s < 388), (∑ c : Fin 128, zp (F := Ideal) (truncf .bf16 z bitsLt_bf16_f32) (ix3 n ⟨s, h⟩ c) * tapR (F := Ideal) x7 i k (ix4 0 0 c l)) = ∑ c : Fin 128, Z (rx s h) c * x7 (ix4 i k c l) :=
    fun k s h => Finset.sum_congr rfl fun c _ => congr (congrArg HMul.hMul ((zp_apply _ n s h c).trans (hz _ c))) (tapR_apply x7 i k c l)
  unfold layR Cv
  refine (conv_apply _ _ _ _ _ _ _ n t l).trans ?_
  rw [tap, tap, tap, rowR_apply, rowR_apply, rowR_apply]

variable (h : FVec Ideal S28x384x1024 .f32) (n : Fin 28)

/-- The product, of one sample. -/
abbrev Hn : Fin 384 → Fin 1024 → EReal := fun t d => h (ix3 n t d)
/-- The taps and the tables. -/
abbrev Wx : Fin 7 → Fin 3 → Fin 128 → Fin 128 → EReal := fun i k c l => x7 (ix4 i k c l)
abbrev Rx (x : Vec Ideal S7x128 .f32) : Fin 7 → Fin 128 → EReal := fun i l => x (ix2 i l)

theorem y1_apply (t : Fin 384) (l : Fin 128) : yR1 (F := Ideal) x7 x8 x9 x10 h (ix3 n t l) = Y1 (Hn h n) (Wx x7) (Rx x8) (Rx x9) (Rx x10) t l :=
  lay_apply x7 x8 x9 x10 0 _ n (Hb (Hn h n) 1) (fun t l => lane_apply 1 h n t l) t l
theorem yn_apply (i : Fin 7) (y : FVec Ideal S28x384x128 .f32) (Y : Fin 384 → Fin 128 → EReal) (hy : ∀ t l, y (ix3 n t l) = Y t l) (t : Fin 384) (l : Fin 128) :
    ynR (F := Ideal) x7 x8 x9 x10 i ⟨i.val + 1, by omega⟩ h y (ix3 n t l) = Yn (Hn h n) (Wx x7) (Rx x8) (Rx x9) (Rx x10) i Y t l :=
  lay_apply x7 x8 x9 x10 i _ n (fun t l => Hb (Hn h n) ⟨i.val + 1, by omega⟩ t l + Y t l)
    (fun t l => congr (congrArg HAdd.hAdd (lane_apply ⟨i.val + 1, by omega⟩ h n t l)) (hy t l)) t l
theorem y2_apply (t : Fin 384) (l : Fin 128) : yR2 (F := Ideal) x7 x8 x9 x10 h (ix3 n t l) = Yb (Hn h n) (Wx x7) (Rx x8) (Rx x9) (Rx x10) 2 t l :=
  yn_apply x7 x8 x9 x10 h n 1 _ (Yb (Hn h n) (Wx x7) (Rx x8) (Rx x9) (Rx x10) 1) (y1_apply x7 x8 x9 x10 h n) t l
theorem y3_apply (t : Fin 384) (l : Fin 128) : yR3 (F := Ideal) x7 x8 x9 x10 h (ix3 n t l) = Yb (Hn h n) (Wx x7) (Rx x8) (Rx x9) (Rx x10) 3 t l :=
  yn_apply x7 x8 x9 x10 h n 2 _ (Yb (Hn h n) (Wx x7) (Rx x8) (Rx x9) (Rx x10) 2) (y2_apply x7 x8 x9 x10 h n) t l
theorem y4_apply (t : Fin 384) (l : Fin 128) : yR4 (F := Ideal) x7 x8 x9 x10 h (ix3 n t l) = Yb (Hn h n) (Wx x7) (Rx x8) (Rx x9) (Rx x10) 4 t l :=
  yn_apply x7 x8 x9 x10 h n 3 _ (Yb (Hn h n) (Wx x7) (Rx x8) (Rx x9) (Rx x10) 3) (y3_apply x7 x8 x9 x10 h n) t l
theorem y5_apply (t : Fin 384) (l : Fin 128) : yR5 (F := Ideal) x7 x8 x9 x10 h (ix3 n t l) = Yb (Hn h n) (Wx x7) (Rx x8) (Rx x9) (Rx x10) 5 t l :=
  yn_apply x7 x8 x9 x10 h n 4 _ (Yb (Hn h n) (Wx x7) (Rx x8) (Rx x9) (Rx x10) 4) (y4_apply x7 x8 x9 x10 h n) t l
theorem y6_apply (t : Fin 384) (l : Fin 128) : yR6 (F := Ideal) x7 x8 x9 x10 h (ix3 n t l) = Yb (Hn h n) (Wx x7) (Rx x8) (Rx x9) (Rx x10) 6 t l :=
  yn_apply x7 x8 x9 x10 h n 5 _ (Yb (Hn h n) (Wx x7) (Rx x8) (Rx x9) (Rx x10) 5) (y5_apply x7 x8 x9 x10 h n) t l
theorem y7_apply (t : Fin 384) (l : Fin 128) : yR7 (F := Ideal) x7 x8 x9 x10 h (ix3 n t l) = Yb (Hn h n) (Wx x7) (Rx x8) (Rx x9) (Rx x10) 7 t l :=
  yn_apply x7 x8 x9 x10 h n 6 _ (Yb (Hn h n) (Wx x7) (Rx x8) (Rx x9) (Rx x10) 6) (y6_apply x7 x8 x9 x10 h n) t l

/-- A block of the reference's result is the problem's. -/
theorem blk_apply (j : Fin 8) (t : Fin 384) (l : Fin 128) : blkR (F := Ideal) x7 x8 x9 x10 h j (ix3 n t l) = Yb (Hn h n) (Wx x7) (Rx x8) (Rx x9) (Rx x10) j t l :=
  match j with
  | 0 => lane_apply 0 h n t l
  | 1 => y1_apply x7 x8 x9 x10 h n t l
  | 2 => y2_apply x7 x8 x9 x10 h n t l
  | 3 => y3_apply x7 x8 x9 x10 h n t l
  | 4 => y4_apply x7 x8 x9 x10 h n t l
  | 5 => y5_apply x7 x8 x9 x10 h n t l
  | 6 => y6_apply x7 x8 x9 x10 h n t l
  | 7 => y7_apply x7 x8 x9 x10 h n t l

variable (x0 : Vec Ideal S28x384x1024 .fp8e4m3) (x1 : Vec Ideal S28x384x32 .f32) (x2 : Vec Ideal S1024x1024 .fp8e4m3) (x3 x4 x5 x6 : Vec Ideal S1x1024 .f32)

theorem z3 : (![0, 0, 0] : Fin 3 → ℕ) = fun _ => 0 := by decide
theorem z2 : (![0, 0] : Fin 2 → ℕ) = fun _ => 0 := by decide

/-- The first product, at an index. -/
theorem hR_apply (t : Fin 384) (d : Fin 1024) : hR (F := Ideal) x0 x1 x2 x3 x4 x5 x6 (ix3 n t d)
    = Zv (Av (fun t k => x0 (ix3 n t k)) (fun t k => x1 (ix3 n t k))) (fun k d => x2 (ix2 k d)) (fun d => x3 (ix2 0 d)) (fun d => x4 (ix2 0 d)) (fun d => x5 (ix2 0 d)) (fun d => x6 (ix2 0 d)) t d := by
  unfold hR
  rw [View.ld_unit_zero z3 _ x0, View.ld_unit_zero z3 _ x1, View.ld_unit_zero z2 _ x2, View.ld_unit_zero z2 _ x3, View.ld_unit_zero z2 _ x4, View.ld_unit_zero z2 _ x5, View.ld_unit_zero z2 _ x6]
  exact h_apply x0 x1 x2 x3 x4 x5 x6 n t d

/-- The result, at an index. -/
theorem cR_apply (j : Fin 8) (t : Fin 384) (l : Fin 128) : cR (F := Ideal) x0 x1 x2 x3 x4 x5 x6 x7 x8 x9 x10 (ix3 n t ⟨128 * j.val + l.val, by omega⟩)
    = Yb (Zv (Av (fun t k => x0 (ix3 n t k)) (fun t k => x1 (ix3 n t k))) (fun k d => x2 (ix2 k d)) (fun d => x3 (ix2 0 d)) (fun d => x4 (ix2 0 d)) (fun d => x5 (ix2 0 d)) (fun d => x6 (ix2 0 d)))
        (Wx x7) (Rx x8) (Rx x9) (Rx x10) j t l := by
  unfold cR
  refine (cat_apply _ j n t l).trans ((blk_apply x7 x8 x9 x10 _ n j t l).trans ?_)
  exact congrArg (fun H => Yb H (Wx x7) (Rx x8) (Rx x9) (Rx x10) j t l) (funext₂ (hR_apply n x0 x1 x2 x3 x4 x5 x6))

theorem out12_eq : out0_12 (F := Ideal) x0 x1 x2 x3 x4 x5 x6 x7 x8 x9 x10 = cR x0 x1 x2 x3 x4 x5 x6 x7 x8 x9 x10 := by
  unfold out0_12
  exact (View.canon_unit_zero z3 _ _).trans (c_eq x0 x1 x2 x3 x4 x5 x6 x7 x8 x9 x10)
theorem out11_eq : out0_11 (F := Ideal) x0 x1 x2 x3 x4 x5 x6 x7 x8 x9 x10 = edg (cR x0 x1 x2 x3 x4 x5 x6 x7 x8 x9 x10) := by
  unfold out0_11
  exact (View.canon_unit_zero z3 _ _).trans (e_eq x0 x1 x2 x3 x4 x5 x6 x7 x8 x9 x10)

end Layers

/-! ## The blocks the reference reads -/

section Blocks

variable (m : (ℓ : Loc nD τ sig) → Buf (Elt Ideal) ℓ) (c : Dev nD) (t : Fin cfg0.N)

theorem blk0 (n : Fin 28) (a : Fin 384) (b : Fin 1024) : iblk m c 0 t (ix3 n a b) = m ((c : Thread nD τ).loc main_arg0) (ix3 n a b) := by
  have idx : (cfg0.win 0).index t = ![0, 0, 0] := (by decide +kernel : ∀ t : Fin cfg0.N, (cfg0.win 0).index t = ![0, 0, 0]) t
  rw [← V_main_arg0 m c]
  blk_ext [iblk, idx]
theorem blk1 (n : Fin 28) (a : Fin 384) (b : Fin 32) : iblk m c 1 t (ix3 n a b) = m ((c : Thread nD τ).loc main_arg1) (ix3 n a b) := by
  have idx : (cfg0.win 1).index t = ![0, 0, 0] := (by decide +kernel : ∀ t : Fin cfg0.N, (cfg0.win 1).index t = ![0, 0, 0]) t
  rw [← V_main_arg1 m c]
  blk_ext [iblk, idx]
theorem blk2 (a : Fin 1024) (b : Fin 1024) : iblk m c 2 t (ix2 a b) = m ((c : Thread nD τ).loc main_arg2) (ix2 a b) := by
  have idx : (cfg0.win 2).index t = ![0, 0] := (by decide +kernel : ∀ t : Fin cfg0.N, (cfg0.win 2).index t = ![0, 0]) t
  rw [← V_main_arg2 m c]
  blk_ext [iblk, idx]
theorem blk7 (p : Fin 7) (q : Fin 3) (r : Fin 128) (s : Fin 128) : iblk m c 7 t (ix4 p q r s) = m ((c : Thread nD τ).loc main_arg7) (ix4 p q r s) := by
  have idx : (cfg0.win 7).index t = ![0, 0, 0, 0] := (by decide +kernel : ∀ t : Fin cfg0.N, (cfg0.win 7).index t = ![0, 0, 0, 0]) t
  rw [← V_main_arg7 m c]
  blk_ext [iblk, idx]
theorem blk8 (a : Fin 7) (b : Fin 128) : iblk m c 8 t (ix2 a b) = m ((c : Thread nD τ).loc main_arg8) (ix2 a b) := by
  have idx : (cfg0.win 8).index t = ![0, 0] := (by decide +kernel : ∀ t : Fin cfg0.N, (cfg0.win 8).index t = ![0, 0]) t
  rw [← V_main_arg8 m c]
  blk_ext [iblk, idx]
theorem blk9 (a : Fin 7) (b : Fin 128) : iblk m c 9 t (ix2 a b) = m ((c : Thread nD τ).loc main_arg9) (ix2 a b) := by
  have idx : (cfg0.win 9).index t = ![0, 0] := (by decide +kernel : ∀ t : Fin cfg0.N, (cfg0.win 9).index t = ![0, 0]) t
  rw [← V_main_arg9 m c]
  blk_ext [iblk, idx]
theorem blk10 (a : Fin 7) (b : Fin 128) : iblk m c 10 t (ix2 a b) = m ((c : Thread nD τ).loc main_arg10) (ix2 a b) := by
  have idx : (cfg0.win 10).index t = ![0, 0] := (by decide +kernel : ∀ t : Fin cfg0.N, (cfg0.win 10).index t = ![0, 0]) t
  rw [← V_main_arg10 m c]
  blk_ext [iblk, idx]
theorem V_main_v0 (b : Fin 1024) : V m c main_v0 (ix2 0 b) = m ((c : Thread nD τ).loc main_arg3) (ix1 b) := by
  unfold V
  after_results
  pointwise
theorem blk3 (b : Fin 1024) : iblk m c 3 t (ix2 0 b) = m ((c : Thread nD τ).loc main_arg3) (ix1 b) := by
  have idx : (cfg0.win 3).index t = ![0, 0] := (by decide +kernel : ∀ t : Fin cfg0.N, (cfg0.win 3).index t = ![0, 0]) t
  refine Eq.trans ?_ (V_main_v0 m c b)
  blk_ext [iblk, idx]
theorem V_main_v1 (b : Fin 1024) : V m c main_v1 (ix2 0 b) = m ((c : Thread nD τ).loc main_arg4) (ix1 b) := by
  unfold V
  after_results
  pointwise
theorem blk4 (b : Fin 1024) : iblk m c 4 t (ix2 0 b) = m ((c : Thread nD τ).loc main_arg4) (ix1 b) := by
  have idx : (cfg0.win 4).index t = ![0, 0] := (by decide +kernel : ∀ t : Fin cfg0.N, (cfg0.win 4).index t = ![0, 0]) t
  refine Eq.trans ?_ (V_main_v1 m c b)
  blk_ext [iblk, idx]
theorem V_main_v2 (b : Fin 1024) : V m c main_v2 (ix2 0 b) = m ((c : Thread nD τ).loc main_arg5) (ix1 b) := by
  unfold V
  after_results
  pointwise
theorem blk5 (b : Fin 1024) : iblk m c 5 t (ix2 0 b) = m ((c : Thread nD τ).loc main_arg5) (ix1 b) := by
  have idx : (cfg0.win 5).index t = ![0, 0] := (by decide +kernel : ∀ t : Fin cfg0.N, (cfg0.win 5).index t = ![0, 0]) t
  refine Eq.trans ?_ (V_main_v2 m c b)
  blk_ext [iblk, idx]
theorem V_main_v3 (b : Fin 1024) : V m c main_v3 (ix2 0 b) = m ((c : Thread nD τ).loc main_arg6) (ix1 b) := by
  unfold V
  after_results
  pointwise
theorem blk6 (b : Fin 1024) : iblk m c 6 t (ix2 0 b) = m ((c : Thread nD τ).loc main_arg6) (ix1 b) := by
  have idx : (cfg0.win 6).index t = ![0, 0] := (by decide +kernel : ∀ t : Fin cfg0.N, (cfg0.win 6).index t = ![0, 0]) t
  refine Eq.trans ?_ (V_main_v3 m c b)
  blk_ext [iblk, idx]

/-- The result, of the arguments. -/
abbrev argC : Fin 28 → Fin 8 → Fin 384 → Fin 128 → EReal := specC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The result, at a column. -/
abbrev colC (n : Fin 28) (t : Fin 384) (d : Fin 1024) : EReal := argC m c n (lb d) t (ll d)
/-- The edge rows, at a column. -/
abbrev colE (n : Fin 28) (y : Fin 32) (d : Fin 1024) : EReal := argC m c n (lb d) (et y) (ll d)

theorem c_col (n : Fin 28) (a : Fin 384) (d : Fin 1024) : cR (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 n a d) = colC m c n a d := by
  refine (congrArg (fun d => cR (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 n a d)) (col_eq d)).trans ((cR_apply _ _ _ _ n _ _ _ _ _ _ _ (lb d) a (ll d)).trans ?_)
  unfold colC argC specC
  refine congrFun (congrFun (congrFun ?_ (lb d)) a) (ll d)
  rw [funext₂ (blk0 m c t n), funext₂ (blk1 m c t n), funext₂ (blk2 m c t), funext (blk3 m c t), funext (blk4 m c t), funext (blk5 m c t), funext (blk6 m c t),
    show Wx (iblk m c 7 t) = _ from funext₄ (blk7 m c t), show Rx (iblk m c 8 t) = _ from funext₂ (blk8 m c t), show Rx (iblk m c 9 t) = _ from funext₂ (blk9 m c t), show Rx (iblk m c 10 t) = _ from funext₂ (blk10 m c t)]

theorem out12 : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) = fun y => colC m c (y 0) (y 1) (y 2) := by
  funext y
  obtain ⟨n, a, d, rfl⟩ : ∃ (n : Fin 28) (a : Fin 384) (d : Fin 1024), y = (ix3 n a d : S28x384x1024.Idx) := ⟨y 0, y 1, y 2, by funext i; match i with | 0 => rfl | 1 => rfl | 2 => rfl⟩
  exact (congrFun (out12_eq _ _ _ _ _ _ _ _ _ _ _) (ix3 n a d)).trans (c_col m c t n a d)
theorem out11 : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = fun y => colE m c (y 0) (y 1) (y 2) := by
  funext y
  obtain ⟨n, a, d, rfl⟩ : ∃ (n : Fin 28) (a : Fin 32) (d : Fin 1024), y = (ix3 n a d : S28x32x1024.Idx) := ⟨y 0, y 1, y 2, by funext i; match i with | 0 => rfl | 1 => rfl | 2 => rfl⟩
  exact (congrFun (out11_eq _ _ _ _ _ _ _ _ _ _ _) (ix3 n a d)).trans ((edg_apply _ n a d).trans (c_col m c t n (et a) d))

/-- The result, as an array. -/
def resC : S28x384x1024.Idx → EReal := fun y => colC m c (y 0) (y 1) (y 2)
/-- The edge rows, as an array. -/
def resE : S28x32x1024.Idx → EReal := fun y => colE m c (y 0) (y 1) (y 2)

/-- The arrays at the end. -/
theorem arr12 : (dats m 0 c).arrAt 12 cfg0.N = resC m c := by
  refine Pipeline.Dat.arrAt_eq_of_covers _ 12 _ (by decide +kernel) fun t hf y => ?_
  have idx : (cfg0.win 12).index t = ![0, 0, 0] := (by decide +kernel : ∀ t : Fin cfg0.N, (cfg0.win 12).index t = ![0, 0, 0]) t
  rw [after0_12, out12]
  show colC m c _ _ _ = colC m c _ _ _
  refine congr (congr (congrArg (colC m c) ?_) ?_) ?_ <;> refine Fin.ext ?_ <;> blk_simp [idx] <;> simp
theorem arr11 : (dats m 0 c).arrAt 11 cfg0.N = resE m c := by
  refine Pipeline.Dat.arrAt_eq_of_covers _ 11 _ (by decide +kernel) fun t hf y => ?_
  have idx : (cfg0.win 11).index t = ![0, 0, 0] := (by decide +kernel : ∀ t : Fin cfg0.N, (cfg0.win 11).index t = ![0, 0, 0]) t
  rw [after0_11, out11]
  show colE m c _ _ _ = colE m c _ _ _
  refine congr (congr (congrArg (colE m c) ?_) ?_) ?_ <;> refine Fin.ext ?_ <;> blk_simp [idx] <;> simp

end Blocks

/-- The results at the end of the run. -/
theorem results (m : (ℓ : Loc nD τ sig) → Buf (Elt Ideal) ℓ) (ρ : Dev nD → PrngReg) : θ_run defs (onTc (τ := τ) (main (F := Ideal))) ⟨m, fun _ => 0, ρ⟩ (fun r => ∀ c : Dev nD,
    r.2.mem ((c.tc : Thread nD τ).loc main_v4_0) = resE m c ∧ r.2.mem ((c.tc : Thread nD τ).loc main_v4_1) = resC m c) :=
  (θ_run defs _ _).mono (fun r h c => ⟨((h c).1 11).trans (arr11 m c), ((h c).1 12).trans (arr12 m c)⟩) (run_main m ρ)

end Cert.HeadRefIdeal.Val
-- ==== Proof.lean ====
module

public import proofs.«01_k».proof.Defs
public import proofs.«01_k».proof.Proof.Gen.Tail
public import proofs.«01_k».proof.Proof.Gen.TailIdeal
public import proofs.«01_k».proof.Proof.Gen.TailRefIdeal
public import proofs.«01_k».proof.Proof.Gen.TailRefIdeal.Frame
public import proofs.«01_k».proof.Proof.TB.Frame
public import proofs.«01_k».proof.Proof.T.Final
public import proofs.«01_k».proof.Proof.T.Ref
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.Gen.HeadRefIdeal.Frame
public import proofs.«01_k».proof.Proof.Hd.Value
public import proofs.«01_k».proof.Proof.Hd.Ref
public import Idealize.ShloMosaic.Adequacy
public import Idealize.ShloMosaic.Init

@[expose] public section

noncomputable section

namespace Cert.Proof

open Idealize.ShloMosaic Idealize.SL.Sem Cert.Tail

/-- The kernel's second stage and its reference end with the same results over the extended reals. -/
theorem algebraic : Cert.algebraic_TailIdeal_TailRefIdeal (hTailIdeal := Cert.TailIdeal.Gen.facts) (hTailRefIdeal := Cert.TailRefIdeal.Gen.facts) := by
  intro m g m' g' _ hag
  refine ⟨fun c => Cert.TailIdeal.Val.resO m c, fun c => Cert.TailIdeal.Val.resS m c, ?_, ?_⟩
  · exact (θ_run _ _ _).mono (fun r h c => ⟨(h.1 c).1, (h.1 c).2, h.2.1 c⟩)
      (Idealize.ShloMosaic.θ_run_and (Cert.TailIdeal.Val.results m trivial g) (Cert.TailIdeal.Gen.frame m g trivial))
  · refine (θ_run _ _ _).mono (fun r h c => ⟨(h.1 c).1.trans ?_, (h.1 c).2.trans ?_, h.2.1 c⟩)
      (Idealize.ShloMosaic.θ_run_and (Cert.TailRefIdeal.Val.results m' g') (Cert.TailRefIdeal.Gen.frame m' g'))
    all_goals
      obtain ⟨e0, e1, e2, e3, e4, e5, e6, e7, e8, e9, e10, e11, e12⟩ := hag c
    · unfold Cert.TailRefIdeal.Val.resO Cert.TailRefIdeal.Val.argO
      rw [e0, e1, e2, e3, e4, e5, e6, e7, e8, e9, e10, e11, e12]
      rfl
    · unfold Cert.TailRefIdeal.Val.resS Cert.TailRefIdeal.Val.argS
      rw [e1, e2, e3, e4, e5, e6, e7, e8, e9, e10, e11, e12]
      rfl

/-- The kernel's first stage and its reference end with the same results over the extended reals. -/
theorem algebraic_head : Cert.algebraic_HeadIdeal_HeadRefIdeal (hHeadIdeal := Cert.HeadIdeal.Gen.facts) (hHeadRefIdeal := Cert.HeadRefIdeal.Gen.facts) := by
  intro m g m' g' _ hag
  refine ⟨fun c => Cert.HeadIdeal.Val.resE m c, fun c => Cert.HeadIdeal.Val.resC m c, ?_, ?_⟩
  · exact (θ_run _ _ _).mono (fun r h c => ⟨(h.1 c).1, (h.1 c).2, h.2.1 c⟩)
      (Idealize.ShloMosaic.θ_run_and (Cert.HeadIdeal.Val.results m g) (Cert.HeadIdeal.Gen.frame m g))
  · refine (θ_run _ _ _).mono (fun r h c => ⟨(h.1 c).1.trans ?_, (h.1 c).2.trans ?_, h.2.1 c⟩)
      (Idealize.ShloMosaic.θ_run_and (Cert.HeadRefIdeal.Val.results m' g') (Cert.HeadRefIdeal.Gen.frame m' g'))
    all_goals
      obtain ⟨e0, e1, e2, e3, e4, e5, e6, e7, e8, e9, e10⟩ := hag c
    · unfold Cert.HeadRefIdeal.Val.resE Cert.HeadRefIdeal.Val.colE Cert.HeadRefIdeal.Val.argC
      rw [e0, e1, e2, e3, e4, e5, e6, e7, e8, e9, e10]
      rfl
    · unfold Cert.HeadRefIdeal.Val.resC Cert.HeadRefIdeal.Val.colC Cert.HeadRefIdeal.Val.argC
      rw [e0, e1, e2, e3, e4, e5, e6, e7, e8, e9, e10]
      rfl

theorem claim : Cert.Claim := ⟨Cert.Tail.Gen.facts, Cert.TailIdeal.Gen.facts, Cert.TailRefIdeal.Gen.facts,
  Cert.Head.Gen.facts, Cert.HeadIdeal.Gen.facts, Cert.HeadRefIdeal.Gen.facts,
  fun m ρ _ => Cert.Tail.Gen.frame m ρ trivial, fun m ρ _ => Cert.TailIdeal.Gen.frame m ρ trivial,
  fun m ρ _ => Cert.TailRefIdeal.Gen.frame m ρ,
  fun m ρ _ => Cert.Head.Gen.frame m ρ, fun m ρ _ => Cert.HeadIdeal.Gen.frame m ρ, fun m ρ _ => Cert.HeadRefIdeal.Gen.frame m ρ,
  trivial, algebraic, trivial, algebraic_head⟩

end Cert.Proof

end
